-- ==== Defs.lean ====
def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5)
      ∧ r.2.mem ((c.tc : Thread Cert.MemAttn.nD Cert.MemAttn.τ).loc Cert.MemAttn.main_arg6) = m ((c.tc : Thread Cert.MemAttn.nD Cert.MemAttn.τ).loc Cert.MemAttn.main_arg6)
      ∧ r.2.mem ((c.tc : Thread Cert.MemAttn.nD Cert.MemAttn.τ).loc Cert.MemAttn.main_arg7) = m ((c.tc : Thread Cert.MemAttn.nD Cert.MemAttn.τ).loc Cert.MemAttn.main_arg7)
      ∧ r.2.mem ((c.tc : Thread Cert.MemAttn.nD Cert.MemAttn.τ).loc Cert.MemAttn.main_arg8) = m ((c.tc : Thread Cert.MemAttn.nD Cert.MemAttn.τ).loc Cert.MemAttn.main_arg8))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
      ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7)
      ∧ r.2.mem ((c.tc : Thread Cert.MemAttnIdeal.nD Cert.MemAttnIdeal.τ).loc Cert.MemAttnIdeal.main_arg8) = m ((c.tc : Thread Cert.MemAttnIdeal.nD Cert.MemAttnIdeal.τ).loc Cert.MemAttnIdeal.main_arg8))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6)
      ∧ r.2.mem ((c.tc : Thread Cert.MemAttnRefIdeal.nD Cert.MemAttnRefIdeal.τ).loc Cert.MemAttnRefIdeal.main_arg7) = m ((c.tc : Thread Cert.MemAttnRefIdeal.nD Cert.MemAttnRefIdeal.τ).loc Cert.MemAttnRefIdeal.main_arg7)
      ∧ r.2.mem ((c.tc : Thread Cert.MemAttnRefIdeal.nD Cert.MemAttnRefIdeal.τ).loc Cert.MemAttnRefIdeal.main_arg8) = m ((c.tc : Thread Cert.MemAttnRefIdeal.nD Cert.MemAttnRefIdeal.τ).loc Cert.MemAttnRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9)
      ∧ r.2.mem ((c.tc : Thread Cert.Odd.nD Cert.Odd.τ).loc Cert.Odd.main_arg10) = m ((c.tc : Thread Cert.Odd.nD Cert.Odd.τ).loc Cert.Odd.main_arg10)
      ∧ r.2.mem ((c.tc : Thread Cert.Odd.nD Cert.Odd.τ).loc Cert.Odd.main_arg11) = m ((c.tc : Thread Cert.Odd.nD Cert.Odd.τ).loc Cert.Odd.main_arg11)
      ∧ r.2.mem ((c.tc : Thread Cert.Odd.nD Cert.Odd.τ).loc Cert.Odd.main_arg12) = m ((c.tc : Thread Cert.Odd.nD Cert.Odd.τ).loc Cert.Odd.main_arg12))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
      ∧ r.2.mem ((c.tc : Thread Cert.OddIdeal.nD Cert.OddIdeal.τ).loc Cert.OddIdeal.main_arg10) = m ((c.tc : Thread Cert.OddIdeal.nD Cert.OddIdeal.τ).loc Cert.OddIdeal.main_arg10)
      ∧ r.2.mem ((c.tc : Thread Cert.OddIdeal.nD Cert.OddIdeal.τ).loc Cert.OddIdeal.main_arg11) = m ((c.tc : Thread Cert.OddIdeal.nD Cert.OddIdeal.τ).loc Cert.OddIdeal.main_arg11)
      ∧ r.2.mem ((c.tc : Thread Cert.OddIdeal.nD Cert.OddIdeal.τ).loc Cert.OddIdeal.main_arg12) = m ((c.tc : Thread Cert.OddIdeal.nD Cert.OddIdeal.τ).loc Cert.OddIdeal.main_arg12))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9)
      ∧ r.2.mem ((c.tc : Thread Cert.OddRefIdeal.nD Cert.OddRefIdeal.τ).loc Cert.OddRefIdeal.main_arg10) = m ((c.tc : Thread Cert.OddRefIdeal.nD Cert.OddRefIdeal.τ).loc Cert.OddRefIdeal.main_arg10)
      ∧ r.2.mem ((c.tc : Thread Cert.OddRefIdeal.nD Cert.OddRefIdeal.τ).loc Cert.OddRefIdeal.main_arg11) = m ((c.tc : Thread Cert.OddRefIdeal.nD Cert.OddRefIdeal.τ).loc Cert.OddRefIdeal.main_arg11)
      ∧ r.2.mem ((c.tc : Thread Cert.OddRefIdeal.nD Cert.OddRefIdeal.τ).loc Cert.OddRefIdeal.main_arg12) = m ((c.tc : Thread Cert.OddRefIdeal.nD Cert.OddRefIdeal.τ).loc Cert.OddRefIdeal.main_arg12))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)
      ∧ m' ((c.tc : Thread Cert.MemAttnRefIdeal.nD Cert.MemAttnRefIdeal.τ).loc Cert.MemAttnRefIdeal.main_arg6) = m ((c.tc : Thread Cert.MemAttnIdeal.nD Cert.MemAttnIdeal.τ).loc Cert.MemAttnIdeal.main_arg6)
      ∧ m' ((c.tc : Thread Cert.MemAttnRefIdeal.nD Cert.MemAttnRefIdeal.τ).loc Cert.MemAttnRefIdeal.main_arg7) = m ((c.tc : Thread Cert.MemAttnIdeal.nD Cert.MemAttnIdeal.τ).loc Cert.MemAttnIdeal.main_arg7)
      ∧ m' ((c.tc : Thread Cert.MemAttnRefIdeal.nD Cert.MemAttnRefIdeal.τ).loc Cert.MemAttnRefIdeal.main_arg8) = m ((c.tc : Thread Cert.MemAttnIdeal.nD Cert.MemAttnIdeal.τ).loc Cert.MemAttnIdeal.main_arg8)) →
    ∃ (v0 : (c : Dev Cert.MemAttnIdeal.nD) → Buf (Elt Ideal) ((c.tc : Thread Cert.MemAttnIdeal.nD Cert.MemAttnIdeal.τ).loc Cert.MemAttnIdeal.main_v10)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v10) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
          ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
          ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7)
          ∧ r.2.mem ((c.tc : Thread Cert.MemAttnIdeal.nD Cert.MemAttnIdeal.τ).loc Cert.MemAttnIdeal.main_arg8) = m ((c.tc : Thread Cert.MemAttnIdeal.nD Cert.MemAttnIdeal.τ).loc Cert.MemAttnIdeal.main_arg8))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v38) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5)
          ∧ r.2.mem ((c.tc : Thread Cert.MemAttnRefIdeal.nD Cert.MemAttnRefIdeal.τ).loc Cert.MemAttnRefIdeal.main_arg6) = m' ((c.tc : Thread Cert.MemAttnRefIdeal.nD Cert.MemAttnRefIdeal.τ).loc Cert.MemAttnRefIdeal.main_arg6)
          ∧ r.2.mem ((c.tc : Thread Cert.MemAttnRefIdeal.nD Cert.MemAttnRefIdeal.τ).loc Cert.MemAttnRefIdeal.main_arg7) = m' ((c.tc : Thread Cert.MemAttnRefIdeal.nD Cert.MemAttnRefIdeal.τ).loc Cert.MemAttnRefIdeal.main_arg7)
          ∧ r.2.mem ((c.tc : Thread Cert.MemAttnRefIdeal.nD Cert.MemAttnRefIdeal.τ).loc Cert.MemAttnRefIdeal.main_arg8) = m' ((c.tc : Thread Cert.MemAttnRefIdeal.nD Cert.MemAttnRefIdeal.τ).loc Cert.MemAttnRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v6)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v6) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v34) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_v16) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Odd_OddIdeal : Prop :=
  IdealRules.named_const.Statement Cert.OddIdeal.κ "log_decay0" .f32 0xBD020AEC#32 ((Real.log (31 / 32) : ℝ) : EReal)
  ∧ IdealRules.named_const.Statement Cert.OddIdeal.κ "log_decay1" .f32 0xBC8102B3#32 ((Real.log (63 / 64) : ℝ) : EReal)
  ∧ IdealRules.named_const.Statement Cert.OddIdeal.κ "log_decay2" .f32 0xBC0080AC#32 ((Real.log (127 / 128) : ℝ) : EReal)
  ∧ IdealRules.named_const.Statement Cert.OddIdeal.κ "log_decay3" .f32 0xBB80402B#32 ((Real.log (255 / 256) : ℝ) : EReal)
  ∧ IdealRules.named_const.Statement Cert.OddIdeal.κ "block_decay0" .f32 0x3F1A09B0#32 ((727423121747185263828481 / 1208925819614629174706176 : ℝ) : EReal)
  ∧ IdealRules.named_const.Statement Cert.OddIdeal.κ "block_decay1" .f32 0x3F46FADA#32 ((61581291280182164914327485441 / 79228162514264337593543950336 : ℝ) : EReal)
  ∧ IdealRules.named_const.Statement Cert.OddIdeal.κ "block_decay2" .f32 0x3F61CEF0#32 ((4579937329576774398276408998492161 / 5192296858534827628530496329220096 : ℝ) : EReal)
  ∧ IdealRules.named_const.Statement Cert.OddIdeal.κ "block_decay3" .f32 0x3F7075D7#32 ((319626579315078487616775634918212890625 / 340282366920938463463374607431768211456 : ℝ) : EReal)

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)
      ∧ m' ((c.tc : Thread Cert.OddRefIdeal.nD Cert.OddRefIdeal.τ).loc Cert.OddRefIdeal.main_arg8) = m ((c.tc : Thread Cert.OddIdeal.nD Cert.OddIdeal.τ).loc Cert.OddIdeal.main_arg8)
      ∧ m' ((c.tc : Thread Cert.OddRefIdeal.nD Cert.OddRefIdeal.τ).loc Cert.OddRefIdeal.main_arg9) = m ((c.tc : Thread Cert.OddIdeal.nD Cert.OddIdeal.τ).loc Cert.OddIdeal.main_arg9)
      ∧ m' ((c.tc : Thread Cert.OddRefIdeal.nD Cert.OddRefIdeal.τ).loc Cert.OddRefIdeal.main_arg10) = m ((c.tc : Thread Cert.OddIdeal.nD Cert.OddIdeal.τ).loc Cert.OddIdeal.main_arg10)
      ∧ m' ((c.tc : Thread Cert.OddRefIdeal.nD Cert.OddRefIdeal.τ).loc Cert.OddRefIdeal.main_arg11) = m ((c.tc : Thread Cert.OddIdeal.nD Cert.OddIdeal.τ).loc Cert.OddIdeal.main_arg11)
      ∧ m' ((c.tc : Thread Cert.OddRefIdeal.nD Cert.OddRefIdeal.τ).loc Cert.OddRefIdeal.main_arg12) = m ((c.tc : Thread Cert.OddIdeal.nD Cert.OddIdeal.τ).loc Cert.OddIdeal.main_arg12)) →
    ∃ (v0 : (c : Dev Cert.OddIdeal.nD) → Buf (Elt Ideal) ((c.tc : Thread Cert.OddIdeal.nD Cert.OddIdeal.τ).loc Cert.OddIdeal.main_v37_0)) (v1 : (c : Dev Cert.OddIdeal.nD) → Buf (Elt Ideal) ((c.tc : Thread Cert.OddIdeal.nD Cert.OddIdeal.τ).loc Cert.OddIdeal.main_v44)) (v2 : (c : Dev Cert.OddIdeal.nD) → Buf (Elt Ideal) ((c.tc : Thread Cert.OddIdeal.nD Cert.OddIdeal.τ).loc Cert.OddIdeal.main_v37_2)) (v3 : (c : Dev Cert.OddIdeal.nD) → Buf (Elt Ideal) ((c.tc : Thread Cert.OddIdeal.nD Cert.OddIdeal.τ).loc Cert.OddIdeal.main_v37_3)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v37_0) = v0 c
          ∧ r.2.mem ((c.tc : Thread Cert.OddIdeal.nD Cert.OddIdeal.τ).loc Cert.OddIdeal.main_v44) = v1 c
          ∧ r.2.mem ((c.tc : Thread Cert.OddIdeal.nD Cert.OddIdeal.τ).loc Cert.OddIdeal.main_v37_2) = v2 c
          ∧ r.2.mem ((c.tc : Thread Cert.OddIdeal.nD Cert.OddIdeal.τ).loc Cert.OddIdeal.main_v37_3) = v3 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
          ∧ r.2.mem ((c.tc : Thread Cert.OddIdeal.nD Cert.OddIdeal.τ).loc Cert.OddIdeal.main_arg10) = m ((c.tc : Thread Cert.OddIdeal.nD Cert.OddIdeal.τ).loc Cert.OddIdeal.main_arg10)
          ∧ r.2.mem ((c.tc : Thread Cert.OddIdeal.nD Cert.OddIdeal.τ).loc Cert.OddIdeal.main_arg11) = m ((c.tc : Thread Cert.OddIdeal.nD Cert.OddIdeal.τ).loc Cert.OddIdeal.main_arg11)
          ∧ r.2.mem ((c.tc : Thread Cert.OddIdeal.nD Cert.OddIdeal.τ).loc Cert.OddIdeal.main_arg12) = m ((c.tc : Thread Cert.OddIdeal.nD Cert.OddIdeal.τ).loc Cert.OddIdeal.main_arg12))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v204) = v0 c
          ∧ r.2.mem ((c.tc : Thread Cert.OddRefIdeal.nD Cert.OddRefIdeal.τ).loc Cert.OddRefIdeal.main_v44) = v1 c
          ∧ r.2.mem ((c.tc : Thread Cert.OddRefIdeal.nD Cert.OddRefIdeal.τ).loc Cert.OddRefIdeal.main_v205) = v2 c
          ∧ r.2.mem ((c.tc : Thread Cert.OddRefIdeal.nD Cert.OddRefIdeal.τ).loc Cert.OddRefIdeal.main_v183) = v3 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8)
          ∧ r.2.mem ((c.tc : Thread Cert.OddRefIdeal.nD Cert.OddRefIdeal.τ).loc Cert.OddRefIdeal.main_arg9) = m' ((c.tc : Thread Cert.OddRefIdeal.nD Cert.OddRefIdeal.τ).loc Cert.OddRefIdeal.main_arg9)
          ∧ r.2.mem ((c.tc : Thread Cert.OddRefIdeal.nD Cert.OddRefIdeal.τ).loc Cert.OddRefIdeal.main_arg10) = m' ((c.tc : Thread Cert.OddRefIdeal.nD Cert.OddRefIdeal.τ).loc Cert.OddRefIdeal.main_arg10)
          ∧ r.2.mem ((c.tc : Thread Cert.OddRefIdeal.nD Cert.OddRefIdeal.τ).loc Cert.OddRefIdeal.main_arg11) = m' ((c.tc : Thread Cert.OddRefIdeal.nD Cert.OddRefIdeal.τ).loc Cert.OddRefIdeal.main_arg11)
          ∧ r.2.mem ((c.tc : Thread Cert.OddRefIdeal.nD Cert.OddRefIdeal.τ).loc Cert.OddRefIdeal.main_arg12) = m' ((c.tc : Thread Cert.OddRefIdeal.nD Cert.OddRefIdeal.τ).loc Cert.OddRefIdeal.main_arg12))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v19_0)) (v1 : (c : Dev Cert.OddInIdeal.nD) → Buf (Elt Ideal) ((c.tc : Thread Cert.OddInIdeal.nD Cert.OddInIdeal.τ).loc Cert.OddInIdeal.main_v19_1)) (v2 : (c : Dev Cert.OddInIdeal.nD) → Buf (Elt Ideal) ((c.tc : Thread Cert.OddInIdeal.nD Cert.OddInIdeal.τ).loc Cert.OddInIdeal.main_v19_2)) (v3 : (c : Dev Cert.OddInIdeal.nD) → Buf (Elt Ideal) ((c.tc : Thread Cert.OddInIdeal.nD Cert.OddInIdeal.τ).loc Cert.OddInIdeal.main_v19_3)) (v4 : (c : Dev Cert.OddInIdeal.nD) → Buf (Elt Ideal) ((c.tc : Thread Cert.OddInIdeal.nD Cert.OddInIdeal.τ).loc Cert.OddInIdeal.main_v19_4)) (v5 : (c : Dev Cert.OddInIdeal.nD) → Buf (Elt Ideal) ((c.tc : Thread Cert.OddInIdeal.nD Cert.OddInIdeal.τ).loc Cert.OddInIdeal.main_v19_5)) (v6 : (c : Dev Cert.OddInIdeal.nD) → Buf (Elt Ideal) ((c.tc : Thread Cert.OddInIdeal.nD Cert.OddInIdeal.τ).loc Cert.OddInIdeal.main_v19_6)) (v7 : (c : Dev Cert.OddInIdeal.nD) → Buf (Elt Ideal) ((c.tc : Thread Cert.OddInIdeal.nD Cert.OddInIdeal.τ).loc Cert.OddInIdeal.main_v19_7)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v19_0) = v0 c
          ∧ r.2.mem ((c.tc : Thread Cert.OddInIdeal.nD Cert.OddInIdeal.τ).loc Cert.OddInIdeal.main_v19_1) = v1 c
          ∧ r.2.mem ((c.tc : Thread Cert.OddInIdeal.nD Cert.OddInIdeal.τ).loc Cert.OddInIdeal.main_v19_2) = v2 c
          ∧ r.2.mem ((c.tc : Thread Cert.OddInIdeal.nD Cert.OddInIdeal.τ).loc Cert.OddInIdeal.main_v19_3) = v3 c
          ∧ r.2.mem ((c.tc : Thread Cert.OddInIdeal.nD Cert.OddInIdeal.τ).loc Cert.OddInIdeal.main_v19_4) = v4 c
          ∧ r.2.mem ((c.tc : Thread Cert.OddInIdeal.nD Cert.OddInIdeal.τ).loc Cert.OddInIdeal.main_v19_5) = v5 c
          ∧ r.2.mem ((c.tc : Thread Cert.OddInIdeal.nD Cert.OddInIdeal.τ).loc Cert.OddInIdeal.main_v19_6) = v6 c
          ∧ r.2.mem ((c.tc : Thread Cert.OddInIdeal.nD Cert.OddInIdeal.τ).loc Cert.OddInIdeal.main_v19_7) = v7 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v25) = v0 c
          ∧ r.2.mem ((c.tc : Thread Cert.OddInRefIdeal.nD Cert.OddInRefIdeal.τ).loc Cert.OddInRefIdeal.main_v27) = v1 c
          ∧ r.2.mem ((c.tc : Thread Cert.OddInRefIdeal.nD Cert.OddInRefIdeal.τ).loc Cert.OddInRefIdeal.main_v28) = v2 c
          ∧ r.2.mem ((c.tc : Thread Cert.OddInRefIdeal.nD Cert.OddInRefIdeal.τ).loc Cert.OddInRefIdeal.main_v29) = v3 c
          ∧ r.2.mem ((c.tc : Thread Cert.OddInRefIdeal.nD Cert.OddInRefIdeal.τ).loc Cert.OddInRefIdeal.main_v30) = v4 c
          ∧ r.2.mem ((c.tc : Thread Cert.OddInRefIdeal.nD Cert.OddInRefIdeal.τ).loc Cert.OddInRefIdeal.main_v31) = v5 c
          ∧ r.2.mem ((c.tc : Thread Cert.OddInRefIdeal.nD Cert.OddInRefIdeal.τ).loc Cert.OddInRefIdeal.main_v33) = v6 c
          ∧ r.2.mem ((c.tc : Thread Cert.OddInRefIdeal.nD Cert.OddInRefIdeal.τ).loc Cert.OddInRefIdeal.main_v34) = v7 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v11_0)) (v1 : (c : Dev Cert.EvenInIdeal.nD) → Buf (Elt Ideal) ((c.tc : Thread Cert.EvenInIdeal.nD Cert.EvenInIdeal.τ).loc Cert.EvenInIdeal.main_v11_1)) (v2 : (c : Dev Cert.EvenInIdeal.nD) → Buf (Elt Ideal) ((c.tc : Thread Cert.EvenInIdeal.nD Cert.EvenInIdeal.τ).loc Cert.EvenInIdeal.main_v11_2)) (v3 : (c : Dev Cert.EvenInIdeal.nD) → Buf (Elt Ideal) ((c.tc : Thread Cert.EvenInIdeal.nD Cert.EvenInIdeal.τ).loc Cert.EvenInIdeal.main_v11_3)) (v4 : (c : Dev Cert.EvenInIdeal.nD) → Buf (Elt Ideal) ((c.tc : Thread Cert.EvenInIdeal.nD Cert.EvenInIdeal.τ).loc Cert.EvenInIdeal.main_v11_4)) (v5 : (c : Dev Cert.EvenInIdeal.nD) → Buf (Elt Ideal) ((c.tc : Thread Cert.EvenInIdeal.nD Cert.EvenInIdeal.τ).loc Cert.EvenInIdeal.main_v11_5)) (v6 : (c : Dev Cert.EvenInIdeal.nD) → Buf (Elt Ideal) ((c.tc : Thread Cert.EvenInIdeal.nD Cert.EvenInIdeal.τ).loc Cert.EvenInIdeal.main_v12)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v11_0) = v0 c
          ∧ r.2.mem ((c.tc : Thread Cert.EvenInIdeal.nD Cert.EvenInIdeal.τ).loc Cert.EvenInIdeal.main_v11_1) = v1 c
          ∧ r.2.mem ((c.tc : Thread Cert.EvenInIdeal.nD Cert.EvenInIdeal.τ).loc Cert.EvenInIdeal.main_v11_2) = v2 c
          ∧ r.2.mem ((c.tc : Thread Cert.EvenInIdeal.nD Cert.EvenInIdeal.τ).loc Cert.EvenInIdeal.main_v11_3) = v3 c
          ∧ r.2.mem ((c.tc : Thread Cert.EvenInIdeal.nD Cert.EvenInIdeal.τ).loc Cert.EvenInIdeal.main_v11_4) = v4 c
          ∧ r.2.mem ((c.tc : Thread Cert.EvenInIdeal.nD Cert.EvenInIdeal.τ).loc Cert.EvenInIdeal.main_v11_5) = v5 c
          ∧ r.2.mem ((c.tc : Thread Cert.EvenInIdeal.nD Cert.EvenInIdeal.τ).loc Cert.EvenInIdeal.main_v12) = v6 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v14) = v0 c
          ∧ r.2.mem ((c.tc : Thread Cert.EvenInRefIdeal.nD Cert.EvenInRefIdeal.τ).loc Cert.EvenInRefIdeal.main_v74) = v1 c
          ∧ r.2.mem ((c.tc : Thread Cert.EvenInRefIdeal.nD Cert.EvenInRefIdeal.τ).loc Cert.EvenInRefIdeal.main_v76) = v2 c
          ∧ r.2.mem ((c.tc : Thread Cert.EvenInRefIdeal.nD Cert.EvenInRefIdeal.τ).loc Cert.EvenInRefIdeal.main_v77) = v3 c
          ∧ r.2.mem ((c.tc : Thread Cert.EvenInRefIdeal.nD Cert.EvenInRefIdeal.τ).loc Cert.EvenInRefIdeal.main_v72) = v4 c
          ∧ r.2.mem ((c.tc : Thread Cert.EvenInRefIdeal.nD Cert.EvenInRefIdeal.τ).loc Cert.EvenInRefIdeal.main_v18) = v5 c
          ∧ r.2.mem ((c.tc : Thread Cert.EvenInRefIdeal.nD Cert.EvenInRefIdeal.τ).loc Cert.EvenInRefIdeal.main_v47) = v6 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def Claim : Prop :=
  ∃ (hMemAttn : Cert.MemAttn.Facts) (hMemAttnIdeal : Cert.MemAttnIdeal.Facts) (hMemAttnRefIdeal : Cert.MemAttnRefIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hMemKv : Cert.MemKv.Facts) (hMemKvIdeal : Cert.MemKvIdeal.Facts) (hMemKvRefIdeal : Cert.MemKvRefIdeal.Facts) (hOdd : Cert.Odd.Facts) (hOddIdeal : Cert.OddIdeal.Facts) (hOddRefIdeal : Cert.OddRefIdeal.Facts) (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts),
    quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Odd (hOdd := hOdd)
    ∧ quiescent_OddIdeal (hOddIdeal := hOddIdeal)
    ∧ quiescent_OddRefIdeal (hOddRefIdeal := hOddRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_MemKv_MemKvIdeal
    ∧ algebraic_MemKvIdeal_MemKvRefIdeal (hMemKvIdeal := hMemKvIdeal) (hMemKvRefIdeal := hMemKvRefIdeal)
    ∧ preserves_Odd_OddIdeal
    ∧ algebraic_OddIdeal_OddRefIdeal (hOddIdeal := hOddIdeal) (hOddRefIdeal := hOddRefIdeal)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal (hEvenInIdeal := hEvenInIdeal) (hEvenInRefIdeal := hEvenInRefIdeal)
-- ==== MemAttn.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S8x256x4x256 : Shape := ⟨4, ![8, 256, 4, 256]⟩
abbrev S8x256x1024 : Shape := ⟨3, ![8, 256, 1024]⟩
abbrev S512x1024 : Shape := ⟨2, ![512, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S1024x512 : Shape := ⟨2, ![1024, 512]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 20
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8x256x4x256, .f32⟩
  | .hbm, ⟨7, _⟩ => ⟨S8x256x4x256, .f32⟩
  | .hbm, ⟨8, _⟩ => ⟨S1024x1024, .f32⟩
  | .hbm, ⟨9, _⟩ => ⟨S1024x1024, .bf16⟩
  | .hbm, ⟨10, _⟩ => ⟨S8x256x1024, .f32⟩
  | .hbm, ⟨11, _⟩ => ⟨S8x256x1024, .bf16⟩
  | .hbm, ⟨12, _⟩ => ⟨S8x256x1024, .f32⟩
  | .hbm, ⟨13, _⟩ => ⟨S8x256x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MemAttnRefIdeal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S8x256x4x256 : Shape := ⟨4, ![8, 256, 4, 256]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x256 : Shape := ⟨4, ![8, 8192, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8x256x4x256, .f32⟩
  | .hbm, ⟨7, _⟩ => ⟨S8x256x4x256, .f32⟩
  | .hbm, ⟨8, _⟩ => ⟨S1024x1024, .f32⟩
  | .hbm, ⟨9, _⟩ => ⟨S8x8192x512, .f32⟩
  | .hbm, ⟨10, _⟩ => ⟨S8x8192x512, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S8x8192x1, .f32⟩
  | .hbm, ⟨25, _⟩ => ⟨S8x8192x1024, .f32⟩
  | .hbm, ⟨26, _⟩ => ⟨S8x8192x1024, .f32⟩
  | .hbm, ⟨27, _⟩ => ⟨S1x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x4x256, .f32⟩
  | .hbm, ⟨32, _⟩ => ⟨S8x4x8192x256, .f32⟩
  | .hbm, ⟨33, _⟩ => ⟨S_, .f32⟩
  | .hbm, ⟨34, _⟩ => ⟨S8x4x8192x256, .f32⟩
  | .hbm, ⟨35, _⟩ => ⟨S8x4x8192x256, .f32⟩
  | .hbm, ⟨36, _⟩ => ⟨S_, .f32⟩
  | .hbm, ⟨37, _⟩ => ⟨S8x4x8192, .f32⟩
  | .hbm, ⟨38, _⟩ => ⟨S_, .f32⟩
  | .hbm, ⟨39, _⟩ => ⟨S8x4x8192, .f32⟩
  | .hbm, ⟨40, _⟩ => ⟨S8x4x8192, .f32⟩
  | .hbm, ⟨41, _⟩ => ⟨S8x4x8192x1, .f32⟩
  | .hbm, ⟨42, _⟩ => ⟨S8x4x8192x256, .f32⟩
  | .hbm, ⟨43, _⟩ => ⟨S8x4x8192x256, .f32⟩
  | .hbm, ⟨44, _⟩ => ⟨S8x4x8192x256, .f32⟩
  | .hbm, ⟨45, _⟩ => ⟨S_, .f32⟩
  | .hbm, ⟨46, _⟩ => ⟨S8x4x8192, .f32⟩
  | .hbm, ⟨47, _⟩ => ⟨S8x4x8192x1, .f32⟩
  | .hbm, ⟨48, _⟩ => ⟨S8x4x8192x256, .f32⟩
  | .hbm, ⟨49, _⟩ => ⟨S8x4x8192x256, .f32⟩
  | .hbm, ⟨50, _⟩ => ⟨S8x4x256x8192, .f32⟩
  | .hbm, ⟨51, _⟩ => ⟨S8x8192x4x256, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Ffn.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S_, .f32⟩
  | .hbm, ⟨25, _⟩ => ⟨S8x8192x2816, .f32⟩
  | .hbm, ⟨26, _⟩ => ⟨S8x8192x2816, .f32⟩
  | .hbm, ⟨27, _⟩ => ⟨S_, .f32⟩
  | .hbm, ⟨28, _⟩ => ⟨S8x8192x2816, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== FfnFinal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFinalRefIdeal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S_, .f32⟩
  | .hbm, ⟨26, _⟩ => ⟨S8x8192x2816, .f32⟩
  | .hbm, ⟨27, _⟩ => ⟨S8x8192x2816, .f32⟩
  | .hbm, ⟨28, _⟩ => ⟨S_, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x2816, .f32⟩
  | .hbm, ⟨34, _⟩ => ⟨S8x8192x1024, .f32⟩
  | .hbm, ⟨35, _⟩ => ⟨S_, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x1, .f32⟩
  | .hbm, ⟨50, _⟩ => ⟨S8x8192x1024, .f32⟩
  | .hbm, ⟨51, _⟩ => ⟨S8x8192x1024, .f32⟩
  | .hbm, ⟨52, _⟩ => ⟨S1x1x1024, .f32⟩
  | .hbm, ⟨53, _⟩ => ⟨S8x8192x1024, .f32⟩
  | .hbm, ⟨54, _⟩ => ⟨S8x8192x1024, .f32⟩
  | .hbm, ⟨55, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S2048x1024, .f32⟩
  | .hbm, ⟨9, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S2048x1024, .f32⟩
  | .hbm, ⟨22, _⟩ => ⟨S8x256x1024, .f32⟩
  | .hbm, ⟨23, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Odd.lean ====
abbrev S16x16x512 : Shape := ⟨3, ![16, 16, 512]⟩
abbrev S16x16x128 : Shape := ⟨3, ![16, 16, 128]⟩
abbrev S16x4x64x128 : Shape := ⟨4, ![16, 4, 64, 128]⟩
abbrev S16x256 : Shape := ⟨2, ![16, 256]⟩
abbrev S256 : Shape := ⟨1, ![256]⟩
abbrev S128 : Shape := ⟨1, ![128]⟩
abbrev S16x4x128x128 : Shape := ⟨4, ![16, 4, 128, 128]⟩
abbrev S_ : Shape := ⟨0, ![]⟩
abbrev S128x256 : Shape := ⟨2, ![128, 256]⟩
abbrev S1x256 : Shape := ⟨2, ![1, 256]⟩
abbrev S1x128 : Shape := ⟨2, ![1, 128]⟩
abbrev S16x4x128x64 : Shape := ⟨4, ![16, 4, 128, 64]⟩
abbrev S16x2x2x128x64 : Shape := ⟨5, ![16, 2, 2, 128, 64]⟩
abbrev S16x2x1x128x64 : Shape := ⟨5, ![16, 2, 1, 128, 64]⟩
abbrev S16x2x128x64 : Shape := ⟨4, ![16, 2, 128, 64]⟩
abbrev S16x2x128x128 : Shape := ⟨4, ![16, 2, 128, 128]⟩
abbrev S64 : Shape := ⟨1, ![64]⟩
abbrev S16 : Shape := ⟨1, ![16]⟩
abbrev S16x1 : Shape := ⟨2, ![16, 1]⟩
abbrev S1x64 : Shape := ⟨2, ![1, 64]⟩
abbrev S16x64 : Shape := ⟨2, ![16, 64]⟩
abbrev S16x128 : Shape := ⟨2, ![16, 128]⟩
abbrev S1x16x512 : Shape := ⟨3, ![1, 16, 512]⟩
abbrev S1x16x128 : Shape := ⟨3, ![1, 16, 128]⟩
abbrev S1x2x128x128 : Shape := ⟨4, ![1, 2, 128, 128]⟩
abbrev S1x4x128x128 : Shape := ⟨4, ![1, 4, 128, 128]⟩
abbrev S2x128x128 : Shape := ⟨3, ![2, 128, 128]⟩
abbrev S4x128x128 : Shape := ⟨3, ![4, 128, 128]⟩
abbrev S16x512 : Shape := ⟨2, ![16, 512]⟩
abbrev S16x16 : Shape := ⟨2, ![16, 16]⟩
abbrev S128x128 : Shape := ⟨2, ![128, 128]⟩
abbrev S1x1x128x128 : Shape := ⟨4, ![1, 1, 128, 128]⟩

abbrev nBuf : Space → Nat
  | .hbm => 68
  | .vmem => 33
  | .smem => 0
  | _ => 0

abbrev bufTy : (tb : Table) → Fin (tcTables nBuf tb) → BufTy
  | .hbm, ⟨0, _⟩ => ⟨S16x16x512, .f32⟩
  | .hbm, ⟨1, _⟩ => ⟨S16x16x512, .bf16⟩
  | .hbm, ⟨2, _⟩ => ⟨S16x16x128, .f32⟩
  | .hbm, ⟨3, _⟩ => ⟨S16x16x512, .f32⟩
  | .hbm, ⟨4, _⟩ => ⟨S16x4x64x128, .f32⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S16x16x512, .f32⟩
  | .hbm, ⟨9, _⟩ => ⟨S16x16x512, .f32⟩
  | .hbm, ⟨10, _⟩ => ⟨S16x16x512, .bf16⟩
  | .hbm, ⟨11, _⟩ => ⟨S16x16x512, .f32⟩
  | .hbm, ⟨12, _⟩ => ⟨S16x4x128x128, .f32⟩
  | .hbm, ⟨13, _⟩ => ⟨S_, .i32⟩
  | .hbm, ⟨14, _⟩ => ⟨S_, .f32⟩
  | .hbm, ⟨15, _⟩ => ⟨S128x256, .f32⟩
  | .hbm, ⟨16, _⟩ => ⟨S128x256, .bf16⟩
  | .hbm, ⟨17, _⟩ => ⟨S1x256, .f32⟩
  | .hbm, ⟨18, _⟩ => ⟨S1x128, .f32⟩
  | .hbm, ⟨19, _⟩ => ⟨S16x4x128x64, .f32⟩
  | .hbm, ⟨20, _⟩ => ⟨S16x2x2x128x64, .f32⟩
  | .hbm, ⟨21, _⟩ => ⟨S16x2x1x128x64, .f32⟩
  | .hbm, ⟨22, _⟩ => ⟨S16x2x128x64, .f32⟩
  | .hbm, ⟨23, _⟩ => ⟨S16x2x1x128x64, .f32⟩
  | .hbm, ⟨24, _⟩ => ⟨S16x2x128x64, .f32⟩
  | .hbm, ⟨25, _⟩ => ⟨S16x2x128x128, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S16, .i32⟩
  | .hbm, ⟨41, _⟩ => ⟨S_, .i32⟩
  | .hbm, ⟨42, _⟩ => ⟨S16, .i32⟩
  | .hbm, ⟨43, _⟩ => ⟨S16, .i32⟩
  | .hbm, ⟨44, _⟩ => ⟨S16, .f32⟩
  | .hbm, ⟨45, _⟩ => ⟨S16x1, .f32⟩
  | .hbm, ⟨46, _⟩ => ⟨S1x64, .f32⟩
  | .hbm, ⟨47, _⟩ => ⟨S16x64, .f32⟩
  | .hbm, ⟨48, _⟩ => ⟨S16x64, .f32⟩
  | .hbm, ⟨49, _⟩ => ⟨S16x64, .f32⟩
  | .hbm, ⟨50, _⟩ => ⟨S16x64, .f32⟩
  | .hbm, ⟨51, _⟩ => ⟨S16x64, .f32⟩
  | .hbm, ⟨52, _⟩ => ⟨S16x128, .f32⟩
  | .hbm, ⟨53, _⟩ => ⟨S16x64, .f32⟩
  | .hbm, ⟨54, _⟩ => ⟨S16x64, .f32⟩
  | .hbm, ⟨55, _⟩ => ⟨S16x64, .f32⟩
  | .hbm, ⟨56, _⟩ => ⟨S16x128, .f32⟩
  | .hbm, ⟨57, _⟩ => ⟨S16x16x512, .bf16⟩
  | .hbm, ⟨58, _⟩ => ⟨S16x2x128x128, .f32⟩
  | .hbm, ⟨59, _⟩ => ⟨S16x16x512, .bf16⟩
  | .hbm, ⟨60, _⟩ => ⟨S16x4x128x128, .f32⟩
  | .hbm, ⟨61, _⟩ => ⟨S16x2x128x64, .f32⟩
  | .hbm, ⟨62, _⟩ => ⟨S16x2x128x64, .f32⟩
  | .hbm, ⟨63, _⟩ => ⟨S16x2x1x128x64, .f32⟩
  | .hbm, ⟨64, _⟩ => ⟨S16x2x1x128x64, .f32⟩
  | .hbm, ⟨65, _⟩ => ⟨S16x2x2x128x64, .f32⟩
  | .hbm, ⟨66, _⟩ => ⟨S16x4x128x64, .f32⟩
  | .hbm, ⟨67, _⟩ => ⟨S16x4x64x128, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .bf16⟩
  | .local _ .vmem, ⟨3, _⟩ => ⟨S1x16x512, .bf16⟩
  | .local _ .vmem, ⟨4, _⟩ => ⟨S1x16x128, .f32⟩
  | .local _ .vmem, ⟨5, _⟩ => ⟨S1x16x128, .f32⟩
  | .local _ .vmem, ⟨6, _⟩ => ⟨S1x16x512, .f32⟩
  | .local _ .vmem, ⟨7, _⟩ => ⟨S1x16x512, .f32⟩
  | .local _ .vmem, ⟨8, _⟩ => ⟨S1x2x128x128, .f32⟩
  | .local _ .vmem, ⟨9, _⟩ => ⟨S1x2x128x128, .f32⟩
  | .local _ .vmem, ⟨10, _⟩ => ⟨S128x256, .bf16⟩
  | .local _ .vmem, ⟨11, _⟩ => ⟨S1x256, .f32⟩
  | .local _ .vmem, ⟨12, _⟩ => ⟨S1x128, .f32⟩
  | .local _ .vmem, ⟨13, _⟩ => ⟨S1x16x512, .f32⟩
  | .local _ .vmem, ⟨14, _⟩ => ⟨S1x16x512, .f32⟩
  | .local _ .vmem, ⟨15, _⟩ => ⟨S1x16x512, .f32⟩
  | .local _ .vmem, ⟨16, _⟩ => ⟨S1x16x512, .f32⟩
  | .local _ .vmem, ⟨17, _⟩ => ⟨S1x16x512, .bf16⟩
  | .local _ .vmem, ⟨18, _⟩ => ⟨S1x16x512, .bf16⟩
  | .local _ .vmem, ⟨19, _⟩ => ⟨S1x16x512, .f32⟩
  | .local _ .vmem, ⟨20, _⟩ => ⟨S1x16x512, .f32⟩
  | .local _ .vmem, ⟨21, _⟩ => ⟨S16x128, .f32⟩
  | .local _ .vmem, ⟨22, _⟩ => ⟨S16x128, .f32⟩
  | .local _ .vmem, ⟨23, _⟩ => ⟨S1x4x128x128, .f32⟩
  | .local _ .vmem, ⟨24, _⟩ => ⟨S1x4x128x128, .f32⟩
  | .local _ .vmem, ⟨25, _⟩ => ⟨S1x16x512, .bf16⟩
  | .local _ .vmem, ⟨26, _⟩ => ⟨S1x16x512, .bf16⟩
  | .local _ .vmem, ⟨27, _⟩ => ⟨S1x2x128x128, .f32⟩
  | .local _ .vmem, ⟨28, _⟩ => ⟨S1x2x128x128, .f32⟩
  | .local _ .vmem, ⟨29, _⟩ => ⟨S1x16x512, .bf16⟩
  | .local _ .vmem, ⟨30, _⟩ => ⟨S1x16x512, .bf16⟩
  | .local _ .vmem, ⟨31, _⟩ => ⟨S1x4x128x128, .f32⟩
  | .local _ .vmem, ⟨32, _⟩ => ⟨S1x4x128x128, .f32⟩
  | _, _ => ⟨S16x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_v37_3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x16x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x16x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== OddIdeal.lean ====
variable {F : FTy → Type} [FloatOps F] [Named F]
def κ : String → Option EReal := fun
  | "block_decay0" => some ((727423121747185263828481 / 1208925819614629174706176 : ℝ) : EReal)
  | "block_decay1" => some ((61581291280182164914327485441 / 79228162514264337593543950336 : ℝ) : EReal)
  | "block_decay2" => some ((4579937329576774398276408998492161 / 5192296858534827628530496329220096 : ℝ) : EReal)
  | "block_decay3" => some ((319626579315078487616775634918212890625 / 340282366920938463463374607431768211456 : ℝ) : EReal)
  | "log_decay0" => some ((Real.log (31 / 32) : ℝ) : EReal)
  | "log_decay1" => some ((Real.log (63 / 64) : ℝ) : EReal)
  | "log_decay2" => some ((Real.log (127 / 128) : ℝ) : EReal)
  | "log_decay3" => some ((Real.log (255 / 256) : ℝ) : EReal)
  | _ => none
-- ==== OddRefIdeal.lean ====
abbrev S16x16x512 : Shape := ⟨3, ![16, 16, 512]⟩
abbrev S16x16x128 : Shape := ⟨3, ![16, 16, 128]⟩
abbrev S16x4x64x128 : Shape := ⟨4, ![16, 4, 64, 128]⟩
abbrev S16x256 : Shape := ⟨2, ![16, 256]⟩
abbrev S256 : Shape := ⟨1, ![256]⟩
abbrev S128 : Shape := ⟨1, ![128]⟩
abbrev S16x4x128x128 : Shape := ⟨4, ![16, 4, 128, 128]⟩
abbrev S16x16x256 : Shape := ⟨3, ![16, 16, 256]⟩
abbrev S16x16x16 : Shape := ⟨3, ![16, 16, 16]⟩
abbrev S1x1x256 : Shape := ⟨3, ![1, 1, 256]⟩
abbrev S_ : Shape := ⟨0, ![]⟩
abbrev S16x16x4x64 : Shape := ⟨4, ![16, 16, 4, 64]⟩
abbrev S16x4x16x64 : Shape := ⟨4, ![16, 4, 16, 64]⟩
abbrev S16x16x4x128 : Shape := ⟨4, ![16, 16, 4, 128]⟩
abbrev S16x4x16x128 : Shape := ⟨4, ![16, 4, 16, 128]⟩
abbrev S16x4x1x64 : Shape := ⟨4, ![16, 4, 1, 64]⟩
abbrev S16x16 : Shape := ⟨2, ![16, 16]⟩
abbrev S16x4x16x16 : Shape := ⟨4, ![16, 4, 16, 16]⟩
abbrev S16x4x64x1 : Shape := ⟨4, ![16, 4, 64, 1]⟩
abbrev S16x4x16 : Shape := ⟨3, ![16, 4, 16]⟩
abbrev S16x4x16x1 : Shape := ⟨4, ![16, 4, 16, 1]⟩
abbrev S1x1x1x128 : Shape := ⟨4, ![1, 1, 1, 128]⟩
abbrev S16 : Shape := ⟨1, ![16]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S16x1x64 : Shape := ⟨3, ![16, 1, 64]⟩
abbrev S1x16x1x64 : Shape := ⟨4, ![1, 16, 1, 64]⟩
abbrev S4 : Shape := ⟨1, ![4]⟩
abbrev S1x4x1x1 : Shape := ⟨4, ![1, 4, 1, 1]⟩
abbrev S16x4x1x1 : Shape := ⟨4, ![16, 4, 1, 1]⟩

abbrev nBuf : Space → Nat
  | .hbm => 303
  | .vmem => 0
  | .smem => 0
  | _ => 0

abbrev hbmTy0_0 (i : Nat) : BufTy := match i % 128 with
  | 0 => ⟨S16x16x512, .f32⟩
  | 1 => ⟨S16x16x512, .bf16⟩
  | 2 => ⟨S16x16x128, .f32⟩
  | 3 => ⟨S16x16x512, .f32⟩
  | 4 => ⟨S16x4x64x128, .f32⟩
  | 5 => ⟨S16x256, .f32⟩
  | 6 => ⟨S256, .f32⟩
  | 7 => ⟨S128, .f32⟩
  | 8 => ⟨S16x16x512, .f32⟩
  | 9 => ⟨S16x16x512, .f32⟩
  | 10 => ⟨S16x16x512, .bf16⟩
  | 11 => ⟨S16x16x512, .f32⟩
  | 12 => ⟨S16x4x128x128, .f32⟩
  | 13 => ⟨S16x16x256, .f32⟩
  | 14 => ⟨S16x16x256, .f32⟩
  | 15 => ⟨S16x16x16, .f32⟩
  | 16 => ⟨S16x16x256, .f32⟩
  | 17 => ⟨S1x1x256, .f32⟩
  | 18 => ⟨S16x16x256, .f32⟩
  | 19 => ⟨S16x16x256, .f32⟩
  | 20 => ⟨S16x16x256, .f32⟩
  | 21 => ⟨S_, .f32⟩
  | 22 => ⟨S16x16x256, .f32⟩
  | 23 => ⟨S16x16x256, .f32⟩
  | 24 => ⟨S16x16x256, .f32⟩
  | 25 => ⟨S16x16x256, .f32⟩
  | 26 => ⟨S16x16x256, .i1⟩
  | 27 => ⟨S16x16x256, .f32⟩
  | 28 => ⟨S16x16x256, .f32⟩
  | 29 => ⟨S16x16x256, .f32⟩
  | 30 => ⟨S16x16x256, .f32⟩
  | 31 => ⟨S16x16x256, .f32⟩
  | 32 => ⟨S16x16x256, .f32⟩
  | 33 => ⟨S16x16x256, .f32⟩
  | 34 => ⟨S16x16x256, .f32⟩
  | 35 => ⟨S16x16x256, .f32⟩
  | 36 => ⟨S_, .f32⟩
  | 37 => ⟨S16x16x256, .f32⟩
  | 38 => ⟨S16x16x256, .f32⟩
  | 39 => ⟨S_, .f32⟩
  | 40 => ⟨S16x16x256, .f32⟩
  | 41 => ⟨S16x16x256, .f32⟩
  | 42 => ⟨S16x16x4x64, .f32⟩
  | 43 => ⟨S16x4x16x64, .f32⟩
  | 44 => ⟨S16x16x4x64, .f32⟩
  | 45 => ⟨S16x4x16x64, .f32⟩
  | 46 => ⟨S16x16x512, .f32⟩
  | 47 => ⟨S16x16x4x128, .f32⟩
  | 48 => ⟨S16x4x16x128, .f32⟩
  | 49 => ⟨S16x16x4x64, .f32⟩
  | 50 => ⟨S16x4x16x64, .f32⟩
  | 51 => ⟨S_, .f32⟩
  | 52 => ⟨S_, .f32⟩
  | 53 => ⟨S16x4x16x64, .f32⟩
  | 54 => ⟨S16x4x1x64, .f32⟩
  | 55 => ⟨S16x4x16x64, .f32⟩
  | 56 => ⟨S16x4x16x64, .f32⟩
  | 57 => ⟨S16x4x16x64, .f32⟩
  | 58 => ⟨S16x4x16x64, .f32⟩
  | 59 => ⟨S16x4x16x64, .f32⟩
  | 60 => ⟨S16x4x16x64, .f32⟩
  | 61 => ⟨S16x4x16x64, .f32⟩
  | 62 => ⟨S16x4x16x64, .f32⟩
  | 63 => ⟨S16x4x16x64, .f32⟩
  | 64 => ⟨S_, .i1⟩
  | 65 => ⟨S16x16, .i1⟩
  | 66 => ⟨S16x16, .i32⟩
  | 67 => ⟨S_, .i32⟩
  | 68 => ⟨S16x16, .i32⟩
  | 69 => ⟨S16x16, .i32⟩
  | 70 => ⟨S16x16, .i32⟩
  | 71 => ⟨S16x16, .i1⟩
  | 72 => ⟨S_, .i1⟩
  | 73 => ⟨S16x16, .i1⟩
  | 74 => ⟨S16x16, .i1⟩
  | 75 => ⟨S16x4x16x16, .f32⟩
  | 76 => ⟨S_, .f32⟩
  | 77 => ⟨S_, .f32⟩
  | 78 => ⟨S16x4x16x16, .i1⟩
  | 79 => ⟨S16x4x16x16, .f32⟩
  | 80 => ⟨S16x4x16x16, .f32⟩
  | 81 => ⟨S16x4x16x128, .f32⟩
  | 82 => ⟨S16x4x16x128, .f32⟩
  | 83 => ⟨S16x4x16x128, .f32⟩
  | 84 => ⟨S16x4x64x1, .f32⟩
  | 85 => ⟨S16x4x64x1, .f32⟩
  | 86 => ⟨S16x4x64x128, .f32⟩
  | 87 => ⟨S16x4x64x128, .f32⟩
  | 88 => ⟨S16x4x64x128, .f32⟩
  | 89 => ⟨S16x4x64x128, .f32⟩
  | 90 => ⟨S16x4x16x128, .f32⟩
  | 91 => ⟨S_, .f32⟩
  | 92 => ⟨S16x4x16, .f32⟩
  | 93 => ⟨S16x4x16x1, .f32⟩
  | 94 => ⟨S_, .f32⟩
  | 95 => ⟨S16x4x16x1, .f32⟩
  | 96 => ⟨S16x4x16x1, .f32⟩
  | 97 => ⟨S_, .f32⟩
  | 98 => ⟨S16x4x16x1, .f32⟩
  | 99 => ⟨S16x4x16x1, .f32⟩
  | 100 => ⟨S16x4x16x1, .f32⟩
  | 101 => ⟨S16x4x16x128, .f32⟩
  | 102 => ⟨S16x4x16x128, .f32⟩
  | 103 => ⟨S1x1x1x128, .f32⟩
  | 104 => ⟨S16x4x16x128, .f32⟩
  | 105 => ⟨S16x4x16x128, .f32⟩
  | 106 => ⟨S16x16x4x128, .f32⟩
  | 107 => ⟨S16x16x512, .f32⟩
  | 108 => ⟨S16x16x512, .f32⟩
  | 109 => ⟨S16x16x512, .f32⟩
  | 110 => ⟨S_, .f32⟩
  | 111 => ⟨S16x16x512, .f32⟩
  | 112 => ⟨S16x16x512, .f32⟩
  | 113 => ⟨S_, .f32⟩
  | 114 => ⟨S16x16x512, .f32⟩
  | 115 => ⟨S16x16x512, .f32⟩
  | 116 => ⟨S16x16x512, .f32⟩
  | 117 => ⟨S16x16x512, .f32⟩
  | 118 => ⟨S16, .i32⟩
  | 119 => ⟨S_, .i32⟩
  | 120 => ⟨S16, .i32⟩
  | 121 => ⟨S16, .i32⟩
  | 122 => ⟨S16, .f32⟩
  | 123 => ⟨S16x16x4x128, .f32⟩
  | 124 => ⟨S64, .f32⟩
  | 125 => ⟨S_, .f32⟩
  | 126 => ⟨S64, .f32⟩
  | 127 => ⟨S64, .f32⟩
  | _ => ⟨S16x16x512, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S16x1, .f32⟩
  | 11 => ⟨S1x64, .f32⟩
  | 12 => ⟨S16x64, .f32⟩
  | 13 => ⟨S16x64, .f32⟩
  | 14 => ⟨S16x64, .f32⟩
  | 15 => ⟨S16x64, .f32⟩
  | 16 => ⟨S16x1x64, .f32⟩
  | 17 => ⟨S16x64, .f32⟩
  | 18 => ⟨S16x1x64, .f32⟩
  | 19 => ⟨S16x16x4x64, .f32⟩
  | 20 => ⟨S16x16x4x64, .f32⟩
  | 21 => ⟨S1x16x1x64, .f32⟩
  | 22 => ⟨S16x16x4x64, .f32⟩
  | 23 => ⟨S16x16x4x64, .f32⟩
  | 24 => ⟨S1x16x1x64, .f32⟩
  | 25 => ⟨S16x16x4x64, .f32⟩
  | 26 => ⟨S16x16x4x64, .f32⟩
  | 27 => ⟨S16x16x4x64, .f32⟩
  | 28 => ⟨S1x16x1x64, .f32⟩
  | 29 => ⟨S16x16x4x64, .f32⟩
  | 30 => ⟨S16x16x4x64, .f32⟩
  | 31 => ⟨S1x16x1x64, .f32⟩
  | 32 => ⟨S16x16x4x64, .f32⟩
  | 33 => ⟨S16x16x4x64, .f32⟩
  | 34 => ⟨S16x16x4x64, .f32⟩
  | 35 => ⟨S16x16x4x128, .f32⟩
  | 36 => ⟨S16x4x16x128, .f32⟩
  | 37 => ⟨S16x16x4x128, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S16x1, .f32⟩
  | 53 => ⟨S1x64, .f32⟩
  | 54 => ⟨S16x64, .f32⟩
  | 55 => ⟨S16x64, .f32⟩
  | 56 => ⟨S16x64, .f32⟩
  | 57 => ⟨S16x64, .f32⟩
  | 58 => ⟨S16x1x64, .f32⟩
  | 59 => ⟨S16x64, .f32⟩
  | 60 => ⟨S16x1x64, .f32⟩
  | 61 => ⟨S16x16x4x64, .f32⟩
  | 62 => ⟨S16x16x4x64, .f32⟩
  | 63 => ⟨S1x16x1x64, .f32⟩
  | 64 => ⟨S16x16x4x64, .f32⟩
  | 65 => ⟨S16x16x4x64, .f32⟩
  | 66 => ⟨S1x16x1x64, .f32⟩
  | 67 => ⟨S16x16x4x64, .f32⟩
  | 68 => ⟨S16x16x4x64, .f32⟩
  | 69 => ⟨S16x16x4x64, .f32⟩
  | 70 => ⟨S1x16x1x64, .f32⟩
  | 71 => ⟨S16x16x4x64, .f32⟩
  | 72 => ⟨S16x16x4x64, .f32⟩
  | 73 => ⟨S1x16x1x64, .f32⟩
  | 74 => ⟨S16x16x4x64, .f32⟩
  | 75 => ⟨S16x16x4x64, .f32⟩
  | 76 => ⟨S16x16x4x64, .f32⟩
  | 77 => ⟨S16x16x4x128, .f32⟩
  | 78 => ⟨S_, .f32⟩
  | 79 => ⟨S16x16x4x128, .f32⟩
  | 80 => ⟨S16x16x4x128, .f32⟩
  | 81 => ⟨S16x4x16x128, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S_, .f32⟩
  | 90 => ⟨S4, .f32⟩
  | 91 => ⟨S4, .f32⟩
  | 92 => ⟨S4, .f32⟩
  | 93 => ⟨S1x4x1x1, .f32⟩
  | 94 => ⟨S16x4x16x1, .f32⟩
  | 95 => ⟨S16x16x512, .f32⟩
  | 96 => ⟨S16x16x4x128, .f32⟩
  | 97 => ⟨S16x4x16x128, .f32⟩
  | 98 => ⟨S_, .f32⟩
  | 99 => ⟨S_, .f32⟩
  | 100 => ⟨S16x4x16x1, .f32⟩
  | 101 => ⟨S16x4x1x1, .f32⟩
  | 102 => ⟨S16x4x16x1, .f32⟩
  | 103 => ⟨S16x4x16x128, .f32⟩
  | 104 => ⟨S16x4x16x128, .f32⟩
  | 105 => ⟨S16x4x16x1, .f32⟩
  | 106 => ⟨S16x4x16x1, .f32⟩
  | 107 => ⟨S16x4x16x128, .f32⟩
  | 108 => ⟨S16x4x16x128, .f32⟩
  | 109 => ⟨S16x4x16x1, .f32⟩
  | 110 => ⟨S16x4x16x1, .f32⟩
  | 111 => ⟨S16x4x16x1, .f32⟩
  | 112 => ⟨S16x4x16x128, .f32⟩
  | 113 => ⟨S16x4x16x128, .f32⟩
  | 114 => ⟨S_, .i1⟩
  | 115 => ⟨S16x16, .i1⟩
  | 116 => ⟨S16x16, .i32⟩
  | 117 => ⟨S_, .i32⟩
  | 118 => ⟨S16x16, .i32⟩
  | 119 => ⟨S16x16, .i32⟩
  | 120 => ⟨S16x16, .i32⟩
  | 121 => ⟨S16x16, .i1⟩
  | 122 => ⟨S_, .i1⟩
  | 123 => ⟨S16x16, .i1⟩
  | 124 => ⟨S16x16, .i1⟩
  | 125 => ⟨S16x4x16x16, .f32⟩
  | 126 => ⟨S_, .f32⟩
  | 127 => ⟨S_, .f32⟩
  | _ => ⟨S16x16x512, .f32⟩

abbrev hbmTy0_2 (i : Nat) : BufTy := match i % 128 with
  | 0 => ⟨S16x4x16x16, .i1⟩
  | 1 => ⟨S16x4x16x16, .f32⟩
  | 2 => ⟨S16x4x16x16, .f32⟩
  | 3 => ⟨S16x4x16x128, .f32⟩
  | 4 => ⟨S16x4x16x128, .f32⟩
  | 5 => ⟨S16x4x16x128, .f32⟩
  | 6 => ⟨S16x4x1x1, .f32⟩
  | 7 => ⟨S16x4x1x1, .f32⟩
  | 8 => ⟨S16x4x128x128, .f32⟩
  | 9 => ⟨S16x4x128x128, .f32⟩
  | 10 => ⟨S16x4x128x128, .f32⟩
  | 11 => ⟨S16x4x128x128, .f32⟩
  | 12 => ⟨S_, .f32⟩
  | 13 => ⟨S16x4x16, .f32⟩
  | 14 => ⟨S16x4x16x1, .f32⟩
  | 15 => ⟨S_, .f32⟩
  | 16 => ⟨S16x4x16x1, .f32⟩
  | 17 => ⟨S16x4x16x1, .f32⟩
  | 18 => ⟨S16x4x16x128, .f32⟩
  | 19 => ⟨S16x4x16x128, .f32⟩
  | 20 => ⟨S16x4x16x128, .f32⟩
  | 21 => ⟨S_, .f32⟩
  | 22 => ⟨S16x4x16, .f32⟩
  | 23 => ⟨S16x4x16x1, .f32⟩
  | 24 => ⟨S_, .f32⟩
  | 25 => ⟨S16x4x16x1, .f32⟩
  | 26 => ⟨S16x4x16x1, .f32⟩
  | 27 => ⟨S_, .f32⟩
  | 28 => ⟨S16x4x16x1, .f32⟩
  | 29 => ⟨S16x4x16x1, .f32⟩
  | 30 => ⟨S16x4x16x1, .f32⟩
  | 31 => ⟨S16x4x16x128, .f32⟩
  | 32 => ⟨S16x4x16x128, .f32⟩
  | 33 => ⟨S16x16x4x128, .f32⟩
  | 34 => ⟨S16x16x512, .f32⟩
  | 35 => ⟨S16x16x512, .f32⟩
  | 36 => ⟨S16x16x512, .f32⟩
  | 37 => ⟨S_, .f32⟩
  | 38 => ⟨S16x16x512, .f32⟩
  | 39 => ⟨S16x16x512, .f32⟩
  | 40 => ⟨S_, .f32⟩
  | 41 => ⟨S16x16x512, .f32⟩
  | 42 => ⟨S16x16x512, .f32⟩
  | 43 => ⟨S16x16x512, .f32⟩
  | 44 => ⟨S16x16x512, .f32⟩
  | 45 => ⟨S16x16x512, .bf16⟩
  | 46 => ⟨S16x16x512, .bf16⟩
  | _ => ⟨S16x16x512, .f32⟩

abbrev hbmTy (i : Nat) : BufTy := match i / 128 with
  | 0 => hbmTy0_0 i
  | 1 => hbmTy0_1 i
  | 2 => hbmTy0_2 i
  | _ => ⟨S16x16x512, .f32⟩

abbrev bufTy : (tb : Table) → Fin (tcTables nBuf tb) → BufTy
  | .hbm, ⟨i, _⟩ => hbmTy i
  | _, _ => ⟨S16x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_call1_call0_cst : Ref sig .tc := ⟨.hbm, 51, rfl⟩
abbrev main_call1_call0_v0 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c : Ref sig .tc := ⟨.hbm, 64, rfl⟩
abbrev main_v32 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v33 : Ref sig .tc := ⟨.hbm, 74, rfl⟩
abbrev main_v34 : Ref sig .tc := ⟨.hbm, 75, rfl⟩
abbrev main_cst_1 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_2 : Ref sig .tc := ⟨.hbm, 91, rfl⟩
abbrev main_v46 : Ref sig .tc := ⟨.hbm, 92, rfl⟩
abbrev main_v47 : Ref sig .tc := ⟨.hbm, 93, rfl⟩
abbrev main_cst_3 : Ref sig .tc := ⟨.hbm, 94, rfl⟩
abbrev main_v48 : Ref sig .tc := ⟨.hbm, 95, rfl⟩
abbrev main_v49 : Ref sig .tc := ⟨.hbm, 96, rfl⟩
abbrev main_cst_4 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_call4_v0 : Ref sig .tc := ⟨.hbm, 108, rfl⟩
abbrev main_call4_v1 : Ref sig .tc := ⟨.hbm, 109, rfl⟩
abbrev main_call4_cst : Ref sig .tc := ⟨.hbm, 110, rfl⟩
abbrev main_call4_v2 : Ref sig .tc := ⟨.hbm, 111, rfl⟩
abbrev main_call4_v3 : Ref sig .tc := ⟨.hbm, 112, rfl⟩
abbrev main_call4_cst_0 : Ref sig .tc := ⟨.hbm, 113, rfl⟩
abbrev main_call4_v4 : Ref sig .tc := ⟨.hbm, 114, rfl⟩
abbrev main_call4_v5 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_5 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_6 : Ref sig .tc := ⟨.hbm, 125, rfl⟩
abbrev main_v68 : Ref sig .tc := ⟨.hbm, 126, rfl⟩
abbrev main_v69 : Ref sig .tc := ⟨.hbm, 127, rfl⟩
abbrev main_cst_7 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_8 : Ref sig .tc := ⟨.hbm, 132, rfl⟩
abbrev main_v73 : Ref sig .tc := ⟨.hbm, 133, rfl⟩
abbrev main_v74 : Ref sig .tc := ⟨.hbm, 134, rfl⟩
abbrev main_cst_9 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_10 : Ref sig .tc := ⟨.hbm, 167, rfl⟩
abbrev main_v106 : Ref sig .tc := ⟨.hbm, 168, rfl⟩
abbrev main_v107 : Ref sig .tc := ⟨.hbm, 169, rfl⟩
abbrev main_cst_11 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_cst_12 : Ref sig .tc := ⟨.hbm, 174, rfl⟩
abbrev main_v111 : Ref sig .tc := ⟨.hbm, 175, rfl⟩
abbrev main_v112 : Ref sig .tc := ⟨.hbm, 176, rfl⟩
abbrev main_cst_13 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_14 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_15 : Ref sig .tc := ⟨.hbm, 211, rfl⟩
abbrev main_v145 : Ref sig .tc := ⟨.hbm, 212, rfl⟩
abbrev main_v146 : Ref sig .tc := ⟨.hbm, 213, rfl⟩
abbrev main_cst_16 : Ref sig .tc := ⟨.hbm, 214, rfl⟩
abbrev main_v147 : Ref sig .tc := ⟨.hbm, 215, rfl⟩
abbrev main_v148 : Ref sig .tc := ⟨.hbm, 216, rfl⟩
abbrev main_cst_17 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_call5_call0_cst : Ref sig .tc := ⟨.hbm, 226, rfl⟩
abbrev main_call5_call0_v0 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_c_18 : Ref sig .tc := ⟨.hbm, 242, rfl⟩
abbrev main_v171 : Ref sig .tc := ⟨.hbm, 243, rfl⟩
abbrev main_call6_v0 : Ref sig .tc := ⟨.hbm, 244, rfl⟩
abbrev main_call6_c : Ref sig .tc := ⟨.hbm, 245, rfl⟩
abbrev main_call6_v1 : Ref sig .tc := ⟨.hbm, 246, rfl⟩
abbrev main_call6_v2 : Ref sig .tc := ⟨.hbm, 247, rfl⟩
abbrev main_call6_v3 : Ref sig .tc := ⟨.hbm, 248, rfl⟩
abbrev main_call6_v4 : Ref sig .tc := ⟨.hbm, 249, rfl⟩
abbrev main_call6_c_0 : Ref sig .tc := ⟨.hbm, 250, rfl⟩
abbrev main_call6_v5 : Ref sig .tc := ⟨.hbm, 251, rfl⟩
abbrev main_v172 : Ref sig .tc := ⟨.hbm, 252, rfl⟩
abbrev main_v173 : Ref sig .tc := ⟨.hbm, 253, rfl⟩
abbrev main_cst_19 : Ref sig .tc := ⟨.hbm, 254, rfl⟩
abbrev main_call7_v0 : Ref sig .tc := ⟨.hbm, 255, rfl⟩
abbrev main_call7_v1 : Ref sig .tc := ⟨.hbm, 256, rfl⟩
abbrev main_call7_v2 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_cst_20 : Ref sig .tc := ⟨.hbm, 268, rfl⟩
abbrev main_v184 : Ref sig .tc := ⟨.hbm, 269, rfl⟩
abbrev main_v185 : Ref sig .tc := ⟨.hbm, 270, rfl⟩
abbrev main_cst_21 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_cst_22 : Ref sig .tc := ⟨.hbm, 277, rfl⟩
abbrev main_v191 : Ref sig .tc := ⟨.hbm, 278, rfl⟩
abbrev main_v192 : Ref sig .tc := ⟨.hbm, 279, rfl⟩
abbrev main_cst_23 : Ref sig .tc := ⟨.hbm, 280, rfl⟩
abbrev main_v193 : Ref sig .tc := ⟨.hbm, 281, rfl⟩
abbrev main_v194 : Ref sig .tc := ⟨.hbm, 282, rfl⟩
abbrev main_cst_24 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_call8_v0 : Ref sig .tc := ⟨.hbm, 291, rfl⟩
abbrev main_call8_v1 : Ref sig .tc := ⟨.hbm, 292, rfl⟩
abbrev main_call8_cst : Ref sig .tc := ⟨.hbm, 293, rfl⟩
abbrev main_call8_v2 : Ref sig .tc := ⟨.hbm, 294, rfl⟩
abbrev main_call8_v3 : Ref sig .tc := ⟨.hbm, 295, rfl⟩
abbrev main_call8_cst_0 : Ref sig .tc := ⟨.hbm, 296, rfl⟩
abbrev main_call8_v4 : Ref sig .tc := ⟨.hbm, 297, rfl⟩
abbrev main_call8_v5 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩

abbrev nD : Nat := 1
abbrev τ : Topo := Topo.v7x

variable {F : FTy → Type} [FloatOps F]
-- ==== OddIn.lean ====
abbrev S8x8192x1024 : Shape := ⟨3, ![8, 8192, 1024]⟩
abbrev S1024 : Shape := ⟨1, ![1024]⟩
abbrev S1024x3600 : Shape := ⟨2, ![1024, 3600]⟩
abbrev S1024x16 : Shape := ⟨2, ![1024, 16]⟩
abbrev S1024x512 : Shape := ⟨2, ![1024, 512]⟩
abbrev S_ : Shape := ⟨0, ![]⟩
abbrev S1024x128 : Shape := ⟨2, ![1024, 128]⟩
abbrev S65536x1024 : Shape := ⟨2, ![65536, 1024]⟩
abbrev S1x1024 : Shape := ⟨2, ![1, 1024]⟩
abbrev S65536x512 : Shape := ⟨2, ![65536, 512]⟩
abbrev S65536x128 : Shape := ⟨2, ![65536, 128]⟩
abbrev S1024x1024 : Shape := ⟨2, ![1024, 1024]⟩
abbrev S1024x1 : Shape := ⟨2, ![1024, 1]⟩

abbrev nBuf : Space → Nat
  | .hbm => 32
  | .vmem => 27
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3600, .f32⟩
  | .hbm, ⟨3, _⟩ => ⟨S1024x16, .f32⟩
  | .hbm, ⟨4, _⟩ => ⟨S1024x512, .f32⟩
  | .hbm, ⟨5, _⟩ => ⟨S1024x512, .bf16⟩
  | .hbm, ⟨6, _⟩ => ⟨S1024x512, .f32⟩
  | .hbm, ⟨7, _⟩ => ⟨S1024x512, .bf16⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x512, .bf16⟩
  | .hbm, ⟨20, _⟩ => ⟨S1024x512, .f32⟩
  | .hbm, ⟨21, _⟩ => ⟨S1024x512, .bf16⟩
  | .hbm, ⟨22, _⟩ => ⟨S65536x1024, .f32⟩
  | .hbm, ⟨23, _⟩ => ⟨S1x1024, .f32⟩
  | .hbm, ⟨24, _⟩ => ⟨S65536x512, .f32⟩
  | .hbm, ⟨25, _⟩ => ⟨S65536x512, .bf16⟩
  | .hbm, ⟨26, _⟩ => ⟨S65536x128, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .bf16⟩
  | .hbm, ⟨31, _⟩ => ⟨S65536x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .bf16⟩
  | .local _ .vmem, ⟨14, _⟩ => ⟨S1024x512, .bf16⟩
  | .local _ .vmem, ⟨15, _⟩ => ⟨S1024x128, .f32⟩
  | .local _ .vmem, ⟨16, _⟩ => ⟨S1024x128, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .bf16⟩
  | .local _ .vmem, ⟨24, _⟩ => ⟨S1024x512, .bf16⟩
  | .local _ .vmem, ⟨25, _⟩ => ⟨S1024x512, .f32⟩
  | .local _ .vmem, ⟨26, _⟩ => ⟨S1024x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OddInRefIdeal.lean ====
abbrev S8x8192x1024 : Shape := ⟨3, ![8, 8192, 1024]⟩
abbrev S1024 : Shape := ⟨1, ![1024]⟩
abbrev S1024x3600 : Shape := ⟨2, ![1024, 3600]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3600 : Shape := ⟨3, ![8, 8192, 3600]⟩
abbrev S8x8192x1552 : Shape := ⟨3, ![8, 8192, 1552]⟩
abbrev S8x8192x2048 : Shape := ⟨3, ![8, 8192, 2048]⟩
abbrev S8x8192x512 : Shape := ⟨3, ![8, 8192, 512]⟩
abbrev S8x8192x16 : Shape := ⟨3, ![8, 8192, 16]⟩
abbrev S8x8192x128 : Shape := ⟨3, ![8, 8192, 128]⟩
abbrev S65536x512 : Shape := ⟨2, ![65536, 512]⟩
abbrev S65536x128 : Shape := ⟨2, ![65536, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3600, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x3600, .f32⟩
  | .hbm, ⟨20, _⟩ => ⟨S8x8192x1552, .f32⟩
  | .hbm, ⟨21, _⟩ => ⟨S8x8192x2048, .f32⟩
  | .hbm, ⟨22, _⟩ => ⟨S8x8192x512, .f32⟩
  | .hbm, ⟨23, _⟩ => ⟨S8x8192x512, .f32⟩
  | .hbm, ⟨24, _⟩ => ⟨S8x8192x16, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S8x8192x512, .f32⟩
  | .hbm, ⟨29, _⟩ => ⟨S8x8192x512, .f32⟩
  | .hbm, ⟨30, _⟩ => ⟨S_, .i32⟩
  | .hbm, ⟨31, _⟩ => ⟨S_, .f32⟩
  | .hbm, ⟨32, _⟩ => ⟨S8x8192x128, .f32⟩
  | .hbm, ⟨33, _⟩ => ⟨S65536x512, .f32⟩
  | .hbm, ⟨34, _⟩ => ⟨S65536x512, .f32⟩
  | .hbm, ⟨35, _⟩ => ⟨S65536x512, .bf16⟩
  | .hbm, ⟨36, _⟩ => ⟨S65536x128, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S65536x512, .f32⟩
  | .hbm, ⟨41, _⟩ => ⟨S65536x512, .bf16⟩
  | .hbm, ⟨42, _⟩ => ⟨S65536x512, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== EvenIn.lean ====
abbrev S8x8192x1024 : Shape := ⟨3, ![8, 8192, 1024]⟩
abbrev S1024 : Shape := ⟨1, ![1024]⟩
abbrev S1024x3848 : Shape := ⟨2, ![1024, 3848]⟩
abbrev S8x3x1536 : Shape := ⟨3, ![8, 3, 1536]⟩
abbrev S4x1536 : Shape := ⟨2, ![4, 1536]⟩
abbrev S1024x8 : Shape := ⟨2, ![1024, 8]⟩
abbrev S1024x1792 : Shape := ⟨2, ![1024, 1792]⟩
abbrev S1024x1536 : Shape := ⟨2, ![1024, 1536]⟩
abbrev S_ : Shape := ⟨0, ![]⟩
abbrev S1024x128 : Shape := ⟨2, ![1024, 128]⟩
abbrev S1024x512 : Shape := ⟨2, ![1024, 512]⟩
abbrev S8x8x1536 : Shape := ⟨3, ![8, 8, 1536]⟩
abbrev S1x1024 : Shape := ⟨2, ![1, 1024]⟩
abbrev S8x8192x1792 : Shape := ⟨3, ![8, 8192, 1792]⟩
abbrev S8x8192x512 : Shape := ⟨3, ![8, 8192, 512]⟩
abbrev S8x8192x128 : Shape := ⟨3, ![8, 8192, 128]⟩
abbrev S1x1024x1024 : Shape := ⟨3, ![1, 1024, 1024]⟩
abbrev S1x8x1024 : Shape := ⟨3, ![1, 8, 1024]⟩
abbrev S1x8x1536 : Shape := ⟨3, ![1, 8, 1536]⟩
abbrev S1x1024x1792 : Shape := ⟨3, ![1, 1024, 1792]⟩
abbrev S1x1024x512 : Shape := ⟨3, ![1, 1024, 512]⟩
abbrev S1x1024x128 : Shape := ⟨3, ![1, 1024, 128]⟩
abbrev S1032x1536 : Shape := ⟨2, ![1032, 1536]⟩
abbrev S8x1024 : Shape := ⟨2, ![8, 1024]⟩
abbrev S8 : Shape := ⟨1, ![8]⟩
abbrev S8x1 : Shape := ⟨2, ![8, 1]⟩
abbrev S8x1536 : Shape := ⟨2, ![8, 1536]⟩
abbrev S1024x1024 : Shape := ⟨2, ![1024, 1024]⟩
abbrev S1024x1 : Shape := ⟨2, ![1024, 1]⟩
abbrev S136x128 : Shape := ⟨2, ![136, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 28
  | .vmem => 27
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3848, .f32⟩
  | .hbm, ⟨3, _⟩ => ⟨S8x3x1536, .f32⟩
  | .hbm, ⟨4, _⟩ => ⟨S4x1536, .f32⟩
  | .hbm, ⟨5, _⟩ => ⟨S1024x8, .f32⟩
  | .hbm, ⟨6, _⟩ => ⟨S1024x1792, .f32⟩
  | .hbm, ⟨7, _⟩ => ⟨S1024x1792, .bf16⟩
  | .hbm, ⟨8, _⟩ => ⟨S1024x1536, .f32⟩
  | .hbm, ⟨9, _⟩ => ⟨S1024x1536, .bf16⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x512, .f32⟩
  | .hbm, ⟨15, _⟩ => ⟨S1024x512, .bf16⟩
  | .hbm, ⟨16, _⟩ => ⟨S_, .i32⟩
  | .hbm, ⟨17, _⟩ => ⟨S_, .f32⟩
  | .hbm, ⟨18, _⟩ => ⟨S8x8x1536, .f32⟩
  | .hbm, ⟨19, _⟩ => ⟨S1x1024, .f32⟩
  | .hbm, ⟨20, _⟩ => ⟨S8x8192x1792, .f32⟩
  | .hbm, ⟨21, _⟩ => ⟨S8x8192x512, .bf16⟩
  | .hbm, ⟨22, _⟩ => ⟨S8x8192x512, .bf16⟩
  | .hbm, ⟨23, _⟩ => ⟨S8x8192x512, .bf16⟩
  | .hbm, ⟨24, _⟩ => ⟨S8x8192x128, .f32⟩
  | .hbm, ⟨25, _⟩ => ⟨S8x8192x512, .f32⟩
  | .hbm, ⟨26, _⟩ => ⟨S8x8x1536, .f32⟩
  | .hbm, ⟨27, _⟩ => ⟨S8x3x1536, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1536, .f32⟩
  | .local _ .vmem, ⟨5, _⟩ => ⟨S1x8x1536, .f32⟩
  | .local _ .vmem, ⟨6, _⟩ => ⟨S1x1024, .f32⟩
  | .local _ .vmem, ⟨7, _⟩ => ⟨S1024x1792, .bf16⟩
  | .local _ .vmem, ⟨8, _⟩ => ⟨S1024x1536, .bf16⟩
  | .local _ .vmem, ⟨9, _⟩ => ⟨S1024x128, .bf16⟩
  | .local _ .vmem, ⟨10, _⟩ => ⟨S1024x512, .bf16⟩
  | .local _ .vmem, ⟨11, _⟩ => ⟨S4x1536, .f32⟩
  | .local _ .vmem, ⟨12, _⟩ => ⟨S1x1024x1792, .f32⟩
  | .local _ .vmem, ⟨13, _⟩ => ⟨S1x1024x1792, .f32⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x128, .f32⟩
  | .local _ .vmem, ⟨21, _⟩ => ⟨S1x1024x128, .f32⟩
  | .local _ .vmem, ⟨22, _⟩ => ⟨S1x1024x512, .f32⟩
  | .local _ .vmem, ⟨23, _⟩ => ⟨S1x1024x512, .f32⟩
  | .local _ .vmem, ⟨24, _⟩ => ⟨S1x8x1536, .f32⟩
  | .local _ .vmem, ⟨25, _⟩ => ⟨S1x8x1536, .f32⟩
  | .local _ .vmem, ⟨26, _⟩ => ⟨S1032x1536, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== EvenInRefIdeal.lean ====
abbrev S8x8192x1024 : Shape := ⟨3, ![8, 8192, 1024]⟩
abbrev S1024 : Shape := ⟨1, ![1024]⟩
abbrev S1024x3848 : Shape := ⟨2, ![1024, 3848]⟩
abbrev S8x3x1536 : Shape := ⟨3, ![8, 3, 1536]⟩
abbrev S4x1536 : Shape := ⟨2, ![4, 1536]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3848 : Shape := ⟨3, ![8, 8192, 3848]⟩
abbrev S8x8192x1792 : Shape := ⟨3, ![8, 8192, 1792]⟩
abbrev S8x8192x2056 : Shape := ⟨3, ![8, 8192, 2056]⟩
abbrev S8x8192x1536 : Shape := ⟨3, ![8, 8192, 1536]⟩
abbrev S8x8192x8 : Shape := ⟨3, ![8, 8192, 8]⟩
abbrev S8x8192x512 : Shape := ⟨3, ![8, 8192, 512]⟩
abbrev S8x8195x1536 : Shape := ⟨3, ![8, 8195, 1536]⟩
abbrev S1x1536 : Shape := ⟨2, ![1, 1536]⟩
abbrev S1536 : Shape := ⟨1, ![1536]⟩
abbrev S1x1x1536 : Shape := ⟨3, ![1, 1, 1536]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S8x8192x128 : Shape := ⟨3, ![8, 8192, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3848, .f32⟩
  | .hbm, ⟨3, _⟩ => ⟨S8x3x1536, .f32⟩
  | .hbm, ⟨4, _⟩ => ⟨S4x1536, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x3848, .f32⟩
  | .hbm, ⟨22, _⟩ => ⟨S8x8192x1792, .f32⟩
  | .hbm, ⟨23, _⟩ => ⟨S8x8192x2056, .f32⟩
  | .hbm, ⟨24, _⟩ => ⟨S8x8192x1536, .f32⟩
  | .hbm, ⟨25, _⟩ => ⟨S8x8192x8, .f32⟩
  | .hbm, ⟨26, _⟩ => ⟨S8x8192x512, .f32⟩
  | .hbm, ⟨27, _⟩ => ⟨S8x8195x1536, .f32⟩
  | .hbm, ⟨28, _⟩ => ⟨S8x8192x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S8x8192x1536, .f32⟩
  | .hbm, ⟨33, _⟩ => ⟨S8x8192x1536, .f32⟩
  | .hbm, ⟨34, _⟩ => ⟨S8x8192x1536, .f32⟩
  | .hbm, ⟨35, _⟩ => ⟨S1x1536, .f32⟩
  | .hbm, ⟨36, _⟩ => ⟨S1536, .f32⟩
  | .hbm, ⟨37, _⟩ => ⟨S1x1x1536, .f32⟩
  | .hbm, ⟨38, _⟩ => ⟨S8x8192x1536, .f32⟩
  | .hbm, ⟨39, _⟩ => ⟨S8x8192x1536, .f32⟩
  | .hbm, ⟨40, _⟩ => ⟨S8x8192x1536, .f32⟩
  | .hbm, ⟨41, _⟩ => ⟨S8x8192x1536, .f32⟩
  | .hbm, ⟨42, _⟩ => ⟨S1x1536, .f32⟩
  | .hbm, ⟨43, _⟩ => ⟨S1536, .f32⟩
  | .hbm, ⟨44, _⟩ => ⟨S1x1x1536, .f32⟩
  | .hbm, ⟨45, _⟩ => ⟨S8x8192x1536, .f32⟩
  | .hbm, ⟨46, _⟩ => ⟨S8x8192x1536, .f32⟩
  | .hbm, ⟨47, _⟩ => ⟨S8x8192x1536, .f32⟩
  | .hbm, ⟨48, _⟩ => ⟨S8x8192x1536, .f32⟩
  | .hbm, ⟨49, _⟩ => ⟨S1x1536, .f32⟩
  | .hbm, ⟨50, _⟩ => ⟨S1536, .f32⟩
  | .hbm, ⟨51, _⟩ => ⟨S1x1x1536, .f32⟩
  | .hbm, ⟨52, _⟩ => ⟨S8x8192x1536, .f32⟩
  | .hbm, ⟨53, _⟩ => ⟨S8x8192x1536, .f32⟩
  | .hbm, ⟨54, _⟩ => ⟨S8x8192x1536, .f32⟩
  | .hbm, ⟨55, _⟩ => ⟨S8x3x1536, .f32⟩
  | .hbm, ⟨56, _⟩ => ⟨S8x8192x1536, .f32⟩
  | .hbm, ⟨57, _⟩ => ⟨S8x8192x1536, .f32⟩
  | .hbm, ⟨58, _⟩ => ⟨S_, .f32⟩
  | .hbm, ⟨59, _⟩ => ⟨S8x8192x1536, .f32⟩
  | .hbm, ⟨60, _⟩ => ⟨S8x8192x1536, .f32⟩
  | .hbm, ⟨61, _⟩ => ⟨S_, .f32⟩
  | .hbm, ⟨62, _⟩ => ⟨S8x8192x1536, .f32⟩
  | .hbm, ⟨63, _⟩ => ⟨S8x8192x1536, .f32⟩
  | .hbm, ⟨64, _⟩ => ⟨S8x8192x1536, .f32⟩
  | .hbm, ⟨65, _⟩ => ⟨S8x8192x512, .f32⟩
  | .hbm, ⟨66, _⟩ => ⟨S8x8192x512, .f32⟩
  | .hbm, ⟨67, _⟩ => ⟨S8x8192x512, .f32⟩
  | .hbm, ⟨68, _⟩ => ⟨S8x8192x4x128, .f32⟩
  | .hbm, ⟨69, _⟩ => ⟨S8x8192x4x128, .f32⟩
  | .hbm, ⟨70, _⟩ => ⟨S_, .f32⟩
  | .hbm, ⟨71, _⟩ => ⟨S8x8192x4, .f32⟩
  | .hbm, ⟨72, _⟩ => ⟨S8x8192x4x1, .f32⟩
  | .hbm, ⟨73, _⟩ => ⟨S_, .f32⟩
  | .hbm, ⟨74, _⟩ => ⟨S8x8192x4x1, .f32⟩
  | .hbm, ⟨75, _⟩ => ⟨S8x8192x4x1, .f32⟩
  | .hbm, ⟨76, _⟩ => ⟨S8x8192x4x1, .f32⟩
  | .hbm, ⟨77, _⟩ => ⟨S8x8192x4x128, .f32⟩
  | .hbm, ⟨78, _⟩ => ⟨S8x8192x4x128, .f32⟩
  | .hbm, ⟨79, _⟩ => ⟨S_, .f32⟩
  | .hbm, ⟨80, _⟩ => ⟨S8x8192x4x128, .f32⟩
  | .hbm, ⟨81, _⟩ => ⟨S8x8192x4x128, .f32⟩
  | .hbm, ⟨82, _⟩ => ⟨S8x8192x4x128, .f32⟩
  | .hbm, ⟨83, _⟩ => ⟨S8x8192x4x128, .f32⟩
  | .hbm, ⟨84, _⟩ => ⟨S_, .f32⟩
  | .hbm, ⟨85, _⟩ => ⟨S8x8192x4, .f32⟩
  | .hbm, ⟨86, _⟩ => ⟨S8x8192x4x1, .f32⟩
  | .hbm, ⟨87, _⟩ => ⟨S_, .f32⟩
  | .hbm, ⟨88, _⟩ => ⟨S8x8192x4x1, .f32⟩
  | .hbm, ⟨89, _⟩ => ⟨S8x8192x4x1, .f32⟩
  | .hbm, ⟨90, _⟩ => ⟨S8x8192x4x1, .f32⟩
  | .hbm, ⟨91, _⟩ => ⟨S8x8192x4x128, .f32⟩
  | .hbm, ⟨92, _⟩ => ⟨S8x8192x4x128, .f32⟩
  | .hbm, ⟨93, _⟩ => ⟨S_, .i32⟩
  | .hbm, ⟨94, _⟩ => ⟨S_, .f32⟩
  | .hbm, ⟨95, _⟩ => ⟨S8x8192x128, .f32⟩
  | .hbm, ⟨96, _⟩ => ⟨S8x8192x512, .f32⟩
  | .hbm, ⟨97, _⟩ => ⟨S8x8192x512, .bf16⟩
  | .hbm, ⟨98, _⟩ => ⟨S8x8192x512, .f32⟩
  | .hbm, ⟨99, _⟩ => ⟨S8x8192x512, .bf16⟩
  | .hbm, ⟨100, _⟩ => ⟨S8x8192x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_2 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_4 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c : Ref sig .tc := ⟨.hbm, 93, rfl⟩
abbrev main_call1_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Proof.Spec.lean ====
/- The mathematics of the layer's calls over one token, as plain functions of coordinates over the extended reals:
   the normalisation, the matrix product, the softmax and the attention to a memory. Both programs of each claim are
   read to these functions. -/
module

public import Idealize.ShloMosaic.Lib.Pointwise

set_option maxRecDepth 16384

@[expose] public section
noncomputable section

open Idealize.ShloMosaic Idealize.ShloMosaic.TcCoe Idealize.SL.Sem

namespace Cert.Spec

/-- The mean of the squares of a row of 1024 features. -/
def meanSq (x : Fin 1024 → EReal) : EReal :=
  Ideal.div (∑ k : Fin 1024, x k * x k) (Ideal.ofBits .f32 0x44800000#32)

/-- Root-mean-square normalisation of a row of 1024 features, with its weight. -/
def rms (x w : Fin 1024 → EReal) (d : Fin 1024) : EReal :=
  x d * Ideal.rsqrt (meanSq x + Ideal.ofBits .f32 0x358637BD#32) * w d

/-- A row times a matrix. -/
def mm {K N : Nat} (x : Fin K → EReal) (w : Fin K → Fin N → EReal) (n : Fin N) : EReal :=
  ∑ k : Fin K, x k * w k n

/-- The residual row plus the product of the two mixers' outputs with the output projection, whose upper half of rows
    `wa` meets the first mixer and lower half `wb` the second. -/
def mix (x : Fin 1024 → EReal) (ya yb : Fin 512 → EReal) (wa wb : Fin 512 → Fin 1024 → EReal) (d : Fin 1024) : EReal :=
  x d + (∑ k : Fin 512, ya k * wa k d + ∑ k : Fin 512, yb k * wb k d)

/-- The maximum of a row of 256 scores. -/
def rowMax (s : Fin 256 → EReal) : EReal :=
  Finset.univ.fold max (Ideal.ofBits .f32 0xFF800000#32) s

/-- The exponential of a score below its row's maximum. -/
def expo (s : Fin 256 → EReal) (j : Fin 256) : EReal := Ideal.exp (s j - rowMax s)

/-- The softmax of a row of 256 scores. -/
def softmax (s : Fin 256 → EReal) (j : Fin 256) : EReal := Ideal.div (expo s j) (∑ l : Fin 256, expo s l)

/-- The scores of head `h`: its slice of the query against every memory key, scaled by a sixteenth. -/
def score (q : Fin 1024 → EReal) (K : Fin 4 → Fin 256 → Fin 256 → EReal) (h : Fin 4) (j : Fin 256) : EReal :=
  (∑ e : Fin 256, q ⟨h.val * 256 + e.val, by omega⟩ * K h j e) * Ideal.ofBits .f32 0x3D800000#32

/-- The context of head `h` at feature `e`: the values weighted by the softmax of the scores. -/
def context (q : Fin 1024 → EReal) (K V : Fin 4 → Fin 256 → Fin 256 → EReal) (h : Fin 4) (e : Fin 256) : EReal :=
  ∑ j : Fin 256, softmax (score q K h) j * V h j e

/-- The contexts of the four heads side by side. -/
def contexts (q : Fin 1024 → EReal) (K V : Fin 4 → Fin 256 → Fin 256 → EReal) (c : Fin 1024) : EReal :=
  context q K V ⟨c.val / 256, by omega⟩ ⟨c.val % 256, by omega⟩

/-- A token's row after the attention to its memory: the mixed row plus the projected contexts. -/
def memAttn (x : Fin 1024 → EReal) (ya yb : Fin 512 → EReal) (wa wb : Fin 512 → Fin 1024 → EReal) (nw : Fin 1024 → EReal)
    (wq : Fin 1024 → Fin 1024 → EReal) (K V : Fin 4 → Fin 256 → Fin 256 → EReal) (wo : Fin 1024 → Fin 1024 → EReal)
    (d : Fin 1024) : EReal :=
  mix x ya yb wa wb d + mm (contexts (mm (rms (mix x ya yb wa wb) nw) wq) K V) wo d

/-- The sigmoid-weighted linear unit, `g / (1 + exp (-g))`. -/
def silu (g : EReal) : EReal := g * Ideal.div 1 (1 + Ideal.exp (-g))

/-- The feed-forward network's hidden row: the gate's unit times the up projection. -/
def hidden (x nw : Fin 1024 → EReal) (wg wu : Fin 1024 → Fin 2816 → EReal) (f : Fin 2816) : EReal :=
  silu (mm (rms x nw) wg f) * mm (rms x nw) wu f

/-- A token's row after the feed-forward network: half of its output added to the row. -/
def ffn (x nw : Fin 1024 → EReal) (wg wu : Fin 1024 → Fin 2816 → EReal) (wd : Fin 2816 → Fin 1024 → EReal) (d : Fin 1024) : EReal :=
  x d + Ideal.ofBits .f32 0x3F000000#32 * mm (hidden x nw wg wu) wd d

end Cert.Spec
-- ==== Proof.MemAttnPure.lean ====
/- The attention kernel's payloads read at a row and a feature: each is the layer's mathematics of that row. -/
module

public import proofs.«01_k».proof.Proof.Gen.MemAttnIdeal.Skeleton
public import proofs.«01_k».proof.Proof.Spec

set_option maxRecDepth 16384

@[expose] public section
noncomputable section

open Idealize.ShloMosaic Idealize.ShloMosaic.TcCoe Idealize.SL.Sem

namespace Cert.MemAttnIdeal.Value
open Cert.MemAttnIdeal Cert.MemAttnIdeal.Gen

theorem pay2_at (x : FVec Ideal S1x1024x1024 .f32) (ya : FVec Ideal S1x1024x512 .bf16) (wa : FVec Ideal S512x1024 .bf16)
    (yb : FVec Ideal S1x1024x512 .bf16) (wb : FVec Ideal S512x1024 .bf16) (r d : Fin 1024) :
    k0_pay2 (F := Ideal) x ya wa yb wb (ix2 r d)
      = x (ix3 0 r d) + (∑ k : Fin 512, ya (ix3 0 r k) * wa (ix2 k d) + ∑ k : Fin 512, yb (ix3 0 r k) * wb (ix2 k d)) := by
  pointwise! [k0_pay2]

theorem pay3_at (x : FVec Ideal S1x1024x1024 .f32) (ya : FVec Ideal S1x1024x512 .bf16) (wa : FVec Ideal S512x1024 .bf16)
    (yb : FVec Ideal S1x1024x512 .bf16) (wb : FVec Ideal S512x1024 .bf16) (nw : FVec Ideal S1x1024 .f32)
    (wq : FVec Ideal S1024x1024 .bf16) (r d : Fin 1024) :
    k0_pay3 (F := Ideal) x ya wa yb wb nw wq (ix2 r d)
      = Spec.mm (Spec.rms (fun k => k0_pay2 (F := Ideal) x ya wa yb wb (ix2 r k)) fun k => nw (ix2 0 k)) (fun k n => wq (ix2 k n)) d := by
  pointwise [k0_pay3, Spec.mm, Spec.rms, Spec.meanSq]

theorem pay7_at (q : FVec Ideal S1024x256 .bf16) (K V : FVec Ideal S1x256x256 .bf16) (r : Fin 1024) (e : Fin 256) :
    k0_pay7 (F := Ideal) q K V (ix2 r e)
      = ∑ j : Fin 256, Spec.softmax (fun j => (∑ e : Fin 256, q (ix2 r e) * K (ix3 0 j e)) * Ideal.ofBits .f32 0x3D800000#32) j * V (ix3 0 j e) := by
  pointwise [k0_pay7, Spec.softmax, Spec.expo, Spec.rowMax]

theorem pay10_at (s1 s2 : FVec Ideal S1024x256 .f32) (c0 : FVec Ideal S1024x256 .f32) (s3 c : FVec Ideal S1024x256 .f32)
    (V1 V2 V3 : FVec Ideal S1x256x256 .bf16) (r d : Fin 1024) :
    k0_pay10 (F := Ideal) s1 s2 c0 s3 c V1 V2 V3 (ix2 r d)
      = if h : d.val < 256 then c0 (ix2 r ⟨d.val, h⟩)
        else if h : d.val - 256 < 256 then ∑ j : Fin 256, Spec.softmax (fun j => s1 (ix2 r j)) j * V1 (ix3 0 j ⟨d.val - 256, h⟩)
        else if h : d.val - 256 - 256 < 256 then ∑ j : Fin 256, Spec.softmax (fun j => s2 (ix2 r j)) j * V2 (ix3 0 j ⟨d.val - 256 - 256, h⟩)
        else ∑ j : Fin 256, Spec.softmax (fun j => s3 (ix2 r j) * c (ix2 r j)) j * V3 (ix3 0 j ⟨d.val - 256 - 256 - 256, by omega⟩) := by
  pointwise [k0_pay10, Spec.softmax, Spec.expo, Spec.rowMax]

theorem pay1_at (v : FVec Ideal S1024x1024 .f32) (o : FVec Ideal S1024x1024 .bf16) (wo : FVec Ideal S1024x1024 .bf16) (r d : Fin 1024) :
    k0_pay1 (F := Ideal) v o wo (ix3 0 r d) = v (ix2 r d) + Spec.mm (fun c => o (ix2 r c)) (fun k n => wo (ix2 k n)) d := by
  pointwise [k0_pay1, Spec.mm]

theorem pay4_at (x : FVec Ideal S1x1024x1024 .f32) (ya : FVec Ideal S1x1024x512 .bf16) (wa : FVec Ideal S512x1024 .bf16)
    (yb : FVec Ideal S1x1024x512 .bf16) (wb : FVec Ideal S512x1024 .bf16) (nw : FVec Ideal S1x1024 .f32)
    (wq : FVec Ideal S1024x1024 .bf16) (r : Fin 1024) (e : Fin 256) :
    k0_pay4 (F := Ideal) x ya wa yb wb nw wq (ix2 r e) = k0_pay3 (F := Ideal) x ya wa yb wb nw wq (ix2 r ⟨0 * 256 + e.val, by omega⟩) := by
  pointwise [k0_pay4]

theorem pay5_at (q : FVec Ideal S1024x1024 .bf16) (K : FVec Ideal S1x256x256 .bf16) (r : Fin 1024) (j : Fin 256) :
    k0_pay5 (F := Ideal) q K (ix2 r j)
      = (∑ e : Fin 256, q (ix2 r ⟨1 * 256 + e.val, by omega⟩) * K (ix3 0 j e)) * Ideal.ofBits .f32 0x3D800000#32 := by
  pointwise [k0_pay5]

theorem pay6_at (q : FVec Ideal S1024x1024 .bf16) (K : FVec Ideal S1x256x256 .bf16) (r : Fin 1024) (j : Fin 256) :
    k0_pay6 (F := Ideal) q K (ix2 r j)
      = (∑ e : Fin 256, q (ix2 r ⟨2 * 256 + e.val, by omega⟩) * K (ix3 0 j e)) * Ideal.ofBits .f32 0x3D800000#32 := by
  pointwise [k0_pay6]

theorem pay8_at (q : FVec Ideal S1024x1024 .bf16) (K : FVec Ideal S1x256x256 .bf16) (r : Fin 1024) (j : Fin 256) :
    k0_pay8 (F := Ideal) q K (ix2 r j) = ∑ e : Fin 256, q (ix2 r ⟨3 * 256 + e.val, by omega⟩) * K (ix3 0 j e) := by
  pointwise [k0_pay8]

theorem pay9_at (r : Fin 1024) (j : Fin 256) : k0_pay9 (F := Ideal) (ix2 r j) = Ideal.ofBits .f32 0x3D800000#32 := by
  pointwise [k0_pay9]

/-- What the body stores at row `r` is the layer's mathematics of the row, whatever the blocks hold. -/
theorem core (x : FVec Ideal S1x1024x1024 .f32) (ya yb : FVec Ideal S1x1024x512 .bf16) (wa wb : FVec Ideal S512x1024 .bf16)
    (nw : FVec Ideal S1x1024 .f32) (wq wo : FVec Ideal S1024x1024 .bf16) (k0 k1 k2 k3 v0 v1 v2 v3 : FVec Ideal S1x256x256 .bf16)
    (r d : Fin 1024) (X : Fin 1024 → EReal) (YA YB : Fin 512 → EReal) (WA WB : Fin 512 → Fin 1024 → EReal) (NW : Fin 1024 → EReal)
    (WQ WO : Fin 1024 → Fin 1024 → EReal) (K V : Fin 4 → Fin 256 → Fin 256 → EReal)
    (hx : ∀ k, x (ix3 0 r k) = X k) (hya : ∀ k, ya (ix3 0 r k) = YA k) (hyb : ∀ k, yb (ix3 0 r k) = YB k)
    (hwa : ∀ k n, wa (ix2 k n) = WA k n) (hwb : ∀ k n, wb (ix2 k n) = WB k n) (hnw : ∀ k, nw (ix2 0 k) = NW k)
    (hwq : ∀ k n, wq (ix2 k n) = WQ k n) (hwo : ∀ k n, wo (ix2 k n) = WO k n)
    (hk0 : ∀ j e, k0 (ix3 0 j e) = K 0 j e) (hk1 : ∀ j e, k1 (ix3 0 j e) = K 1 j e) (hk2 : ∀ j e, k2 (ix3 0 j e) = K 2 j e)
    (hk3 : ∀ j e, k3 (ix3 0 j e) = K 3 j e) (hv0 : ∀ j e, v0 (ix3 0 j e) = V 0 j e) (hv1 : ∀ j e, v1 (ix3 0 j e) = V 1 j e)
    (hv2 : ∀ j e, v2 (ix3 0 j e) = V 2 j e) (hv3 : ∀ j e, v3 (ix3 0 j e) = V 3 j e) :
    k0_pay1 (F := Ideal) (k0_pay2 (F := Ideal) x ya wa yb wb)
        (k0_pay10 (F := Ideal) (k0_pay5 (F := Ideal) (k0_pay3 (F := Ideal) x ya wa yb wb nw wq) k1)
          (k0_pay6 (F := Ideal) (k0_pay3 (F := Ideal) x ya wa yb wb nw wq) k2)
          (k0_pay7 (F := Ideal) (k0_pay4 (F := Ideal) x ya wa yb wb nw wq) k0 v0)
          (k0_pay8 (F := Ideal) (k0_pay3 (F := Ideal) x ya wa yb wb nw wq) k3) (k0_pay9 (F := Ideal)) v1 v2 v3) wo (ix3 0 r d)
      = Spec.memAttn X YA YB WA WB NW WQ K V WO d := by
  have h2 : ∀ k : Fin 1024, k0_pay2 (F := Ideal) x ya wa yb wb (ix2 r k) = Spec.mix X YA YB WA WB k := fun k => by
    simp only [pay2_at, hx, hya, hyb, hwa, hwb]; rfl
  have h3 : ∀ k : Fin 1024, k0_pay3 (F := Ideal) x ya wa yb wb nw wq (ix2 r k)
      = Spec.mm (Spec.rms (Spec.mix X YA YB WA WB) NW) WQ k := fun k => by
    simp only [pay3_at, h2, hnw, hwq]
  rw [pay1_at, h2]
  simp only [pay10_at, pay5_at, pay6_at, pay7_at, pay8_at, pay9_at, pay4_at, h3, hwo, hk0, hk1, hk2, hk3, hv0, hv1, hv2, hv3]
  unfold Spec.memAttn
  generalize Spec.mm (Spec.rms (Spec.mix X YA YB WA WB) NW) WQ = Q
  refine congrArg (Spec.mix X YA YB WA WB d + ·) ?_
  refine Finset.sum_congr rfl fun c _ => congrArg (· * WO c d) ?_
  beta_reduce
  unfold Spec.contexts
  have hc := c.isLt
  have key : ∀ (h : Fin 4) (e : Fin 256), c.val = h.val * 256 + e.val →
      Spec.context Q K V ⟨c.val / 256, by omega⟩ ⟨c.val % 256, by omega⟩ = Spec.context Q K V h e := fun h e he => by
    have h1 : (⟨c.val / 256, by omega⟩ : Fin 4) = h := Fin.ext (show c.val / 256 = h.val by omega)
    have h2 : (⟨c.val % 256, by omega⟩ : Fin 256) = e := Fin.ext (show c.val % 256 = e.val by omega)
    rw [h1, h2]
  by_cases c0 : c.val < 256
  · rw [dif_pos c0, key 0 ⟨c.val, c0⟩ (by simp)]; rfl
  rw [dif_neg c0]
  by_cases c1 : c.val - 256 < 256
  · rw [dif_pos c1, key 1 ⟨c.val - 256, c1⟩ (by simp; omega)]; rfl
  rw [dif_neg c1]
  by_cases c2 : c.val - 256 - 256 < 256
  · rw [dif_pos c2, key 2 ⟨c.val - 256 - 256, c2⟩ (by simp; omega)]; rfl
  rw [dif_neg c2, key 3 ⟨c.val - 256 - 256 - 256, by omega⟩ (by simp; omega)]; rfl

end Cert.MemAttnIdeal.Value
-- ==== Proof.MemAttnValue.lean ====
/- The attention kernel's run: the result array holds, at every token and feature, the layer's mathematics of that
   token's row of the argument arrays. -/
module

public import proofs.«01_k».proof.Proof.MemAttnPure
public import proofs.«01_k».proof.Proof.Gen.MemAttnIdeal.Value
public import Idealize.ShloMosaic.Lib.Pipeline.ValueKit

set_option maxRecDepth 16384

@[expose] public section
noncomputable section

open Idealize.ShloMosaic Idealize.ShloMosaic.TcCoe Idealize.SL.Sem
open Idealize.ShloMosaic.Pipeline (Dat)

namespace Cert.MemAttnIdeal.Value
open Cert.MemAttnIdeal Cert.MemAttnIdeal.Gen

variable (m : (ℓ : Loc nD τ sig) → Buf (Elt Ideal) ℓ)

/-- The layer's mathematics over the argument arrays, at an index of the result array. -/
def out (x0 : FVec Ideal S8x8192x1024 .f32) (x1 x2 : FVec Ideal S8x8192x512 .bf16) (x3 : FVec Ideal S1024x1024 .f32)
    (x4 : FVec Ideal S1024 .f32) (x5 : FVec Ideal S1024x1024 .f32) (x6 x7 : FVec Ideal S8x256x4x256 .f32)
    (x8 : FVec Ideal S1024x1024 .f32) : FVec Ideal S8x8192x1024 .f32 := fun i =>
  Spec.memAttn (fun k => x0 (ix3 (i 0) (i 1) k)) (fun k => x1 (ix3 (i 0) (i 1) k)) (fun k => x2 (ix3 (i 0) (i 1) k))
    (fun k n => x3 (ix2 ⟨k.val, by omega⟩ n)) (fun k n => x3 (ix2 ⟨512 + k.val, by omega⟩ n)) (fun k => x4 (ix1 k))
    (fun k n => x5 (ix2 k n)) (fun h j e => x6 (ix4 (i 0) j h e)) (fun h j e => x7 (ix4 (i 0) j h e)) (fun k n => x8 (ix2 k n)) (i 2)

/-- The windows' block indices at every grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![0, 0] ∧ win0_5.index t = ![0, 0]
    ∧ win0_6.index t = ![0, 0] ∧ win0_7.index t = ![t.val / 8, 0, 0] ∧ win0_8.index t = ![t.val / 8, 0, 0]
    ∧ win0_9.index t = ![0, 0] ∧ win0_10.index t = ![t.val / 8, t.val % 8, 0] ∧ t.val / 8 < 8 :=
  (by decide +kernel : ∀ t : Fin grid0.N, _)

/-- The result array after the run. -/
theorem final (c : Dev nD) : (dats m 0 c).arrAt 10 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]; frame_out
  unfold k0_pay11; frame_out
  have hN : t.val < 64 := t.isLt
  have hi : ((View.whole main_v10).slice (win0_10.rect t)).emb y
      = (ix3 ⟨t.val / 8, by omega⟩ ⟨t.val % 8 * 1024 + (y 1).val, by have := (y 1).isLt; change (y 1).val < 1024 at this; omega⟩ (y 2) : S8x8192x1024.Idx) := by
    blk_ext [idx t]
  rw [hi]
  clear hi
  change S1x1024x1024.Idx at y
  idx_vars y
  obtain rfl : y0 = 0 := Subsingleton.elim _ _
  refine core _ _ _ _ _ _ _ _ _ _ _ _ _ _ _ _ y1 y2 _ _ _ _ _ _ _ _ _ _ ?_ ?_ ?_ ?_ ?_ ?_ ?_ ?_ ?_ ?_ ?_ ?_ ?_ ?_ ?_ ?_
  all_goals intro k
  all_goals try intro n
  all_goals try dsimp only [ix3_0, ix3_1, ix3_2]
  all_goals try (pointwise [r0_5, r0_6, r0_7, r0_8])
  all_goals blk_point [iblk, V, idx t]

end Cert.MemAttnIdeal.Value
-- ==== Proof.MemAttnRef.lean ====
/- The attention reference's stages read at a batch element, a token and a feature: each is the layer's mathematics of
   that token's row. -/
module

public import proofs.«01_k».proof.Proof.Gen.MemAttnRefIdeal.Read
public import proofs.«01_k».proof.Proof.Spec

set_option maxRecDepth 16384

@[expose] public section
noncomputable section

open Idealize.ShloMosaic Idealize.ShloMosaic.TcCoe Idealize.SL.Sem

namespace Cert.MemAttnRefIdeal.At
open Cert.MemAttnRefIdeal Cert.MemAttnRefIdeal.Gen Cert.MemAttnRefIdeal.Read

variable (x0 : FVec Ideal S8x8192x1024 .f32) (x1 x2 : FVec Ideal S8x8192x512 .bf16) (x3 : FVec Ideal S1024x1024 .f32)
  (x4 : FVec Ideal S1024 .f32) (x5 : FVec Ideal S1024x1024 .f32) (x6 x7 : FVec Ideal S8x256x4x256 .f32) (x8 : FVec Ideal S1024x1024 .f32)

theorem v4_at (b : Fin 8) (s : Fin 8192) (d : Fin 1024) :
    val_main_v4 (F := Ideal) x0 x1 x2 x3 (ix3 b s d)
      = Spec.mix (fun k => x0 (ix3 b s k)) (fun k => x1 (ix3 b s k)) (fun k => x2 (ix3 b s k))
          (fun k n => x3 (ix2 ⟨k.val, by omega⟩ n)) (fun k n => x3 (ix2 ⟨512 + k.val, by omega⟩ n)) d := by
  pointwise! [val_main_v4, val_main_v3, val_main_v2, val_main_v1, val_main_v0, Spec.mix]

theorem v17_at (b : Fin 8) (s : Fin 8192) (d : Fin 1024) :
    val_main_v17 (F := Ideal) x0 x1 x2 x3 x4 (ix3 b s d)
      = Spec.rms (fun k => val_main_v4 (F := Ideal) x0 x1 x2 x3 (ix3 b s k)) (fun k => x4 (ix1 k)) d := by
  pointwise [val_main_v17, val_main_v16, val_main_v15, val_main_v14, val_main_v13, val_main_v12, val_main_v11, val_main_v10,
    val_main_v9, val_main_v8, val_main_v7, val_main_v6, val_main_v5, val_main_cst, val_main_cst_0, val_main_cst_1, Spec.rms, Spec.meanSq]

theorem v18_at (b : Fin 8) (s : Fin 8192) (d : Fin 1024) :
    val_main_v18 (F := Ideal) x0 x1 x2 x3 x4 x5 (ix3 b s d)
      = Spec.mm (fun k => val_main_v17 (F := Ideal) x0 x1 x2 x3 x4 (ix3 b s k)) (fun k n => x5 (ix2 k n)) d := by
  pointwise [val_main_v18, Spec.mm]

theorem v22_at (b : Fin 8) (h : Fin 4) (s : Fin 8192) (j : Fin 256) :
    val_main_v22 (F := Ideal) x0 x1 x2 x3 x4 x5 x6 (ix4 b h s j)
      = (∑ e : Fin 256, val_main_v18 (F := Ideal) x0 x1 x2 x3 x4 x5 (ix3 b s ⟨h.val * 256 + e.val, by omega⟩) * x6 (ix4 b j h e))
        * Ideal.ofBits .f32 0x3D800000#32 := by
  pointwise [val_main_v22, val_main_v21, val_main_v20, val_main_v19, val_main_cst_2]

theorem v23_at (b : Fin 8) (h : Fin 4) (s : Fin 8192) :
    val_main_v23 (F := Ideal) x0 x1 x2 x3 x4 x5 x6 (ix3 b h s)
      = Spec.rowMax fun j => val_main_v22 (F := Ideal) x0 x1 x2 x3 x4 x5 x6 (ix4 b h s j) := by
  pointwise [val_main_v23, val_main_cst_3, Spec.rowMax]

theorem v27_at (b : Fin 8) (h : Fin 4) (s : Fin 8192) (j : Fin 256) :
    val_main_v27 (F := Ideal) x0 x1 x2 x3 x4 x5 x6 (ix4 b h s j)
      = val_main_v25 (F := Ideal) x0 x1 x2 x3 x4 x5 x6 (ix3 b h s) := by
  pointwise [val_main_v27, val_main_v26]

theorem v24_at (i : S8x4x8192.Idx) :
    val_main_v24 (F := Ideal) i = Ideal.ofBits .f32 0xFF800000#32 := by
  pointwise [val_main_v24, val_main_cst_4]

theorem v25_at (i : S8x4x8192.Idx) :
    val_main_v25 (F := Ideal) x0 x1 x2 x3 x4 x5 x6 i = max (val_main_v24 (F := Ideal) i) (val_main_v23 (F := Ideal) x0 x1 x2 x3 x4 x5 x6 i) := by
  rw [val_main_v25_apply]
  generalize val_main_v24 (F := Ideal) i = a
  generalize val_main_v23 (F := Ideal) x0 x1 x2 x3 x4 x5 x6 i = b
  rfl

theorem v29_at (b : Fin 8) (h : Fin 4) (s : Fin 8192) (j : Fin 256) :
    val_main_v29 (F := Ideal) x0 x1 x2 x3 x4 x5 x6 (ix4 b h s j)
      = Ideal.exp (val_main_v22 (F := Ideal) x0 x1 x2 x3 x4 x5 x6 (ix4 b h s j) - val_main_v27 (F := Ideal) x0 x1 x2 x3 x4 x5 x6 (ix4 b h s j)) := by
  pointwise [val_main_v29, val_main_v28]

theorem v33_at (b : Fin 8) (h : Fin 4) (s : Fin 8192) (j : Fin 256) :
    val_main_v33 (F := Ideal) x0 x1 x2 x3 x4 x5 x6 (ix4 b h s j)
      = Ideal.div (val_main_v29 (F := Ideal) x0 x1 x2 x3 x4 x5 x6 (ix4 b h s j)) (∑ l : Fin 256, val_main_v29 (F := Ideal) x0 x1 x2 x3 x4 x5 x6 (ix4 b h s l)) := by
  pointwise [val_main_v33, val_main_v32, val_main_v31, val_main_v30, val_main_cst_5]

theorem v36_at (b : Fin 8) (s : Fin 8192) (c : Fin 1024) :
    val_main_v36 (F := Ideal) x0 x1 x2 x3 x4 x5 x6 x7 (ix3 b s c)
      = ∑ j : Fin 256, val_main_v33 (F := Ideal) x0 x1 x2 x3 x4 x5 x6 (ix4 b ⟨c.val / 256, by omega⟩ s j)
          * x7 (ix4 b j ⟨c.val / 256, by omega⟩ ⟨c.val % 256, by omega⟩) := by
  pointwise [val_main_v36, val_main_v35, val_main_v34]
  exact Finset.sum_congr rfl fun j _ => mul_comm _ _

theorem v38_at (b : Fin 8) (s : Fin 8192) (d : Fin 1024) :
    val_main_v38 (F := Ideal) x0 x1 x2 x3 x4 x5 x6 x7 x8 (ix3 b s d)
      = val_main_v4 (F := Ideal) x0 x1 x2 x3 (ix3 b s d)
        + Spec.mm (fun c => val_main_v36 (F := Ideal) x0 x1 x2 x3 x4 x5 x6 x7 (ix3 b s c)) (fun k n => x8 (ix2 k n)) d := by
  pointwise [val_main_v38, val_main_v37, Spec.mm]

/-- The maximum's starting value is below the maximum of a row. -/
theorem max_rowMax (f : Fin 256 → EReal) : max (Ideal.ofBits .f32 0xFF800000#32) (Spec.rowMax f) = Spec.rowMax f :=
  max_eq_right ((Finset.le_fold_max _).2 (Or.inl le_rfl))

/-- The reference's result at a token is the layer's mathematics of that token's row. -/
theorem ref_at (b : Fin 8) (s : Fin 8192) (d : Fin 1024) :
    val_main_v38 (F := Ideal) x0 x1 x2 x3 x4 x5 x6 x7 x8 (ix3 b s d)
      = Spec.memAttn (fun k => x0 (ix3 b s k)) (fun k => x1 (ix3 b s k)) (fun k => x2 (ix3 b s k))
          (fun k n => x3 (ix2 ⟨k.val, by omega⟩ n)) (fun k n => x3 (ix2 ⟨512 + k.val, by omega⟩ n)) (fun k => x4 (ix1 k))
          (fun k n => x5 (ix2 k n)) (fun h j e => x6 (ix4 b j h e)) (fun h j e => x7 (ix4 b j h e)) (fun k n => x8 (ix2 k n)) d := by
  simp only [v38_at, v36_at, v33_at, v29_at, v27_at, v25_at, v24_at, v23_at, max_rowMax, v22_at, v18_at, v17_at, v4_at]
  rfl

end Cert.MemAttnRefIdeal.At
-- ==== Proof.MemAttnClaims.lean ====
/- The attention claims: the kernel's run and the reference's end in the same arrays. -/
module

public import proofs.«01_k».proof.Defs
public import proofs.«01_k».proof.Proof.MemAttnValue
public import proofs.«01_k».proof.Proof.MemAttnRef

set_option maxRecDepth 16384

@[expose] public section
noncomputable section

open Idealize.ShloMosaic Idealize.ShloMosaic.TcCoe Idealize.SL.Sem

namespace Cert.MemAttnClaims

/-- The reference's result 0 is the kernel's, as a function of the arguments. -/
theorem same0 {x0 x1 x2 x3 x4 x5 x6 x7 x8} : Cert.MemAttnRefIdeal.Read.val_main_v38 (F := Ideal) x0 x1 x2 x3 x4 x5 x6 x7 x8 = Cert.MemAttnIdeal.Value.out x0 x1 x2 x3 x4 x5 x6 x7 x8 := by
  funext i
  change Cert.MemAttnIdeal.S8x8192x1024.Idx at i
  idx_vars i
  exact Cert.MemAttnRefIdeal.At.ref_at _ _ _ _ _ _ _ _ _ i0 i1 i2

theorem algebraic : @Cert.algebraic_MemAttnIdeal_MemAttnRefIdeal Cert.MemAttnIdeal.Gen.facts Cert.MemAttnRefIdeal.Gen.facts :=
  fun m ρ m' ρ' _ hag => ⟨fun c => Cert.MemAttnIdeal.Value.out (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6)) (m ((c.tc : Thread Cert.MemAttnIdeal.nD Cert.MemAttnIdeal.τ).loc Cert.MemAttnIdeal.main_arg7)) (m ((c.tc : Thread Cert.MemAttnIdeal.nD Cert.MemAttnIdeal.τ).loc Cert.MemAttnIdeal.main_arg8)),
    (θ_run _ _ _).mono (fun _ h c => ⟨(h c).1.trans (Cert.MemAttnIdeal.Value.final m c), (h c).2⟩) (Cert.MemAttnIdeal.Value.run_blocks m ρ),
    (θ_run _ _ _).mono (fun _ h c => ⟨(h c).1.trans ((Cert.MemAttnRefIdeal.Read.val_main_v38_eq m' c).trans (same0.trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]))), (h c).2⟩) (Cert.MemAttnRefIdeal.Value.run m' ρ')⟩

end Cert.MemAttnClaims
-- ==== Proof.SpecMath.lean ====
/- Identities of the extended reals that the layer's calls need: the sigmoid written with the hyperbolic tangent, and a
   sum over 2816 hidden features in eleven chunks of 256. -/
module

public import proofs.«01_k».proof.Proof.Spec
public import Idealize.ShloMosaic.Lib.IdealHost
public import Mathlib.Analysis.SpecialFunctions.Trigonometric.DerivHyp

set_option maxRecDepth 16384

@[expose] public section
noncomputable section

open Idealize.ShloMosaic Idealize.ShloMosaic.TcCoe Idealize.SL.Sem

namespace Cert.Spec

/-- The f32 pattern of one half is the extended real one half. -/
theorem half_eq : Ideal.ofBits .f32 0x3F000000#32 = ((1 / 2 : ℝ) : EReal) := by
  simp [Ideal.ofBits, Ideal.ieee, -EReal.coe_mul]; norm_num

/-- Half of one plus the hyperbolic tangent of half the argument is the sigmoid, at infinite arguments too. -/
theorem half_tanh (g : EReal) :
    Ideal.ofBits .f32 0x3F000000#32 * (Ideal.tanh (Ideal.ofBits .f32 0x3F000000#32 * g) + 1) = Ideal.div 1 (1 + Ideal.exp (-g)) := by
  rw [half_eq]
  have one : (1 : EReal) = ((1 : ℝ) : EReal) := rfl
  induction g with
  | bot =>
    rw [EReal.coe_mul_bot_of_pos (by norm_num), Ideal.tanh_bot, EReal.neg_bot, Ideal.exp_top, EReal.add_top_of_ne_bot (show (1 : EReal) ≠ ⊥ from EReal.coe_ne_bot 1)]
    rw [show (-1 : EReal) + 1 = 0 by rw [one, ← EReal.coe_neg, ← EReal.coe_add]; simp]
    simp [Ideal.div]
  | top =>
    rw [EReal.coe_mul_top_of_pos (by norm_num), Ideal.tanh_top, EReal.neg_top, Ideal.exp_bot, add_zero]
    rw [one, Ideal.div_coe one_ne_zero, ← EReal.coe_add, ← EReal.coe_mul, ← EReal.coe_mul]
    norm_num
  | coe x =>
    have hp : (0 : ℝ) < 1 + Real.exp (-x) := by positivity
    rw [← EReal.coe_mul, Ideal.tanh_coe, ← EReal.coe_neg, Ideal.exp_coe, one, ← EReal.coe_add, ← EReal.coe_add, ← EReal.coe_mul,
      Ideal.div_coe hp.ne', ← EReal.coe_mul]
    congr 1
    rw [Real.tanh_eq_sinh_div_cosh, Real.sinh_eq, Real.cosh_eq]
    have h1 : Real.exp (-x) = Real.exp (-(1 / 2 * x)) * Real.exp (-(1 / 2 * x)) := by rw [← Real.exp_add]; ring_nf
    have h2 : Real.exp (1 / 2 * x) * Real.exp (-(1 / 2 * x)) = 1 := by rw [← Real.exp_add]; simp
    have ha := Real.exp_pos (1 / 2 * x)
    have hb := Real.exp_pos (-(1 / 2 * x))
    rw [h1]
    generalize Real.exp (1 / 2 * x) = a at *
    generalize Real.exp (-(1 / 2 * x)) = b at *
    have : 1 + b * b ≠ 0 := by positivity
    have : a + b ≠ 0 := by positivity
    field_simp
    nlinarith

/-- A sum of eleven terms, added from the left. -/
theorem sum_eleven (F : Fin 11 → EReal) :
    ∑ j : Fin 11, F j = F 0 + F 1 + F 2 + F 3 + F 4 + F 5 + F 6 + F 7 + F 8 + F 9 + F 10 := by
  rw [Fin.sum_univ_castSucc, Fin.sum_univ_castSucc, Fin.sum_univ_castSucc, Fin.sum_univ_eight]; rfl

/-- A sum over 2816 features is the sum of its eleven chunks of 256, added from the left. -/
theorem sum_chunks (f : Fin 2816 → EReal) :
    ∑ k : Fin 2816, f k
      = ∑ t : Fin 256, f ⟨t.val, by omega⟩ + ∑ t : Fin 256, f ⟨256 + t.val, by omega⟩ + ∑ t : Fin 256, f ⟨512 + t.val, by omega⟩
        + ∑ t : Fin 256, f ⟨768 + t.val, by omega⟩ + ∑ t : Fin 256, f ⟨1024 + t.val, by omega⟩ + ∑ t : Fin 256, f ⟨1280 + t.val, by omega⟩
        + ∑ t : Fin 256, f ⟨1536 + t.val, by omega⟩ + ∑ t : Fin 256, f ⟨1792 + t.val, by omega⟩ + ∑ t : Fin 256, f ⟨2048 + t.val, by omega⟩
        + ∑ t : Fin 256, f ⟨2304 + t.val, by omega⟩ + ∑ t : Fin 256, f ⟨2560 + t.val, by omega⟩ := by
  rw [Fin.sum_univ_tiles 11 256 rfl f, sum_eleven]
  have e : ∀ (j : Fin 11) (c : ℕ) (hc : j.val * 256 = c), ∑ t : Fin 256, f ⟨j.val * 256 + t.val, by omega⟩ = ∑ t : Fin 256, f ⟨c + t.val, by omega⟩ :=
    fun j c hc => by subst hc; rfl
  have e0 : ∑ t : Fin 256, f ⟨(0 : Fin 11).val * 256 + t.val, by omega⟩ = ∑ t : Fin 256, f ⟨t.val, by omega⟩ :=
    Finset.sum_congr rfl fun t _ => congrArg f (Fin.ext (by show 0 * 256 + t.val = t.val; omega))
  rw [e0, e 1 256 rfl, e 2 512 rfl, e 3 768 rfl, e 4 1024 rfl, e 5 1280 rfl, e 6 1536 rfl, e 7 1792 rfl, e 8 2048 rfl, e 9 2304 rfl, e 10 2560 rfl]

end Cert.Spec
-- ==== Proof.FfnPure.lean ====
/- The feed-forward kernel's output block read at a row and a feature: the layer's mathematics of that row. -/
module

public import proofs.«01_k».proof.Proof.Gen.FfnIdeal.Frame
public import proofs.«01_k».proof.Proof.SpecMath
public import Idealize.ShloMosaic.Lib.Pipeline.ValueKit

set_option maxRecDepth 16384

@[expose] public section
noncomputable section

open Idealize.ShloMosaic Idealize.ShloMosaic.TcCoe Idealize.SL.Sem

namespace Cert.FfnIdeal.Value
open Cert.FfnIdeal Cert.FfnIdeal.Gen

theorem pay3_at (x : FVec Ideal S1024x1024 .f32) (nw : FVec Ideal S1x1024 .f32) (r d : Fin 1024) :
    k0_pay3 (F := Ideal) x nw (ix2 r d) = Spec.rms (fun k => x (ix2 r k)) (fun k => nw (ix2 0 k)) d := by
  pointwise [k0_pay3, k0_pay2, Spec.rms, Spec.meanSq]

theorem out_at (x0 : FVec Ideal S1024x1024 .f32) (x1 : FVec Ideal S1x1024 .f32) (x2 x3 : FVec Ideal S1024x2816 .bf16)
    (x4 : FVec Ideal S2816x1024 .bf16) (x5 : FVec Ideal S1x1024 .f32) (r d : Fin 1024) :
    out0_6 (F := Ideal) x0 x1 x2 x3 x4 x5 (ix2 r d)
      = Spec.ffn (fun k => x0 (ix2 r k)) (fun k => x1 (ix2 0 k)) (fun k n => x2 (ix2 k n)) (fun k n => x3 (ix2 k n)) (fun k n => x4 (ix2 k n)) d := by
  unfold_out out0_6
  frame_out
  pointwise [k0_pay1, k0_pay2, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, pay3_at]
  simp only [Spec.half_tanh]
  unfold Spec.ffn
  conv_rhs => rw [Spec.mm]
  rw [Spec.sum_chunks]
  rfl

end Cert.FfnIdeal.Value
-- ==== Proof.FfnValue.lean ====
/- The feed-forward kernel's run: the result array holds, at every row of all tokens and every feature, the layer's mathematics
   of that token's row of the argument arrays. -/
module

public import proofs.«01_k».proof.Proof.FfnPure
public import proofs.«01_k».proof.Proof.Gen.FfnIdeal.Value
public import Idealize.ShloMosaic.Lib.Pipeline.ValueKit

set_option maxRecDepth 16384

@[expose] public section
noncomputable section

open Idealize.ShloMosaic Idealize.ShloMosaic.TcCoe Idealize.SL.Sem

namespace Cert.FfnIdeal.Value
open Cert.FfnIdeal Cert.FfnIdeal.Gen
open Idealize.ShloMosaic.Pipeline (Dat)

variable (m : (ℓ : Loc nD τ sig) → Buf (Elt Ideal) ℓ)

/-- The layer's mathematics over the argument arrays, at an index of the result array. -/
def out (x0 : FVec Ideal S8x8192x1024 .f32) (x1 : FVec Ideal S1024 .f32) (x2 x3 : FVec Ideal S1024x2816 .f32)
    (x4 : FVec Ideal S2816x1024 .f32) : FVec Ideal S65536x1024 .f32 := fun i =>
  Spec.ffn (fun k => x0 (ix3 ⟨(i 0).val / 8192, Nat.div_lt_of_lt_mul (i 0).isLt⟩ ⟨(i 0).val % 8192, Nat.mod_lt _ (by norm_num)⟩ k)) (fun k => x1 (ix1 k))
    (fun k n => x2 (ix2 k n)) (fun k n => x3 (ix2 k n)) (fun k n => x4 (ix2 k n)) (i 1)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem core {u0 u1 v0 v1 : Fin 1024 → EReal} {a0 a1 b0 b1 : Fin 1024 → Fin 2816 → EReal} {e0 e1 : Fin 2816 → Fin 1024 → EReal} {d : Fin 1024}
    (h0 : ∀ k, u0 k = u1 k) (h1 : ∀ k, v0 k = v1 k) (h2 : ∀ k n, a0 k n = a1 k n) (h3 : ∀ k n, b0 k n = b1 k n)
    (h4 : ∀ k n, e0 k n = e1 k n) :
    Spec.ffn u0 v0 a0 b0 e0 d = Spec.ffn u1 v1 a1 b1 e1 d := by
  obtain rfl : u0 = u1 := funext h0
  obtain rfl : v0 = v1 := funext h1
  obtain rfl : a0 = a1 := funext fun k => funext (h2 k)
  obtain rfl : b0 = b1 := funext fun k => funext (h3 k)
  obtain rfl : e0 = e1 := funext fun k => funext (h4 k)
  rfl

/-- The result array after the run. -/
theorem final (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  have hN : t.val < 64 := t.isLt
  change S1024x1024.Idx at y
  idx_vars y
  have hi : ((View.whole main_v6).slice (win0_6.rect t)).emb (ix2 y0 y1)
      = (ix2 ⟨t.val * 1024 + y0.val, by omega⟩ y1 : S65536x1024.Idx) := by
    blk_ext [idx t]
  rw [hi]
  refine (out_at _ _ _ _ _ _ y0 y1).trans ?_
  unfold out
  refine core ?_ ?_ ?_ ?_ ?_
  all_goals intro k
  all_goals try intro n
  all_goals blk_point [iblk, V, idx t]

end Cert.FfnIdeal.Value
-- ==== Proof.FfnRef.lean ====
/- The feed-forward reference's stages read at a batch element, a token and a feature: each is the layer's mathematics of
   that token's row. -/
module

public import proofs.«01_k».proof.Proof.Gen.FfnRefIdeal.Read
public import proofs.«01_k».proof.Proof.SpecMath

set_option maxRecDepth 16384

@[expose] public section
noncomputable section

open Idealize.ShloMosaic Idealize.ShloMosaic.TcCoe Idealize.SL.Sem

namespace Cert.FfnRefIdeal.At
open Cert.FfnRefIdeal Cert.FfnRefIdeal.Gen Cert.FfnRefIdeal.Read

variable (x0 : FVec Ideal S8x8192x1024 .f32) (x1 : FVec Ideal S1024 .f32) (x2 x3 : FVec Ideal S1024x2816 .f32)
  (x4 : FVec Ideal S2816x1024 .f32) (x5 : FVec Ideal S1024 .f32)

theorem v12_at (b : Fin 8) (s : Fin 8192) (d : Fin 1024) :
    val_main_v12 (F := Ideal) x0 x1 (ix3 b s d) = Spec.rms (fun k => x0 (ix3 b s k)) (fun k => x1 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, Spec.rms, Spec.meanSq]

theorem v13_at (b : Fin 8) (s : Fin 8192) (f : Fin 2816) :
    val_main_v13 (F := Ideal) x0 x1 x2 (ix3 b s f)
      = Spec.mm (fun k => val_main_v12 (F := Ideal) x0 x1 (ix3 b s k)) (fun k n => x2 (ix2 k n)) f := by
  pointwise [val_main_v13, Spec.mm]

theorem v15_at (b : Fin 8) (s : Fin 8192) (f : Fin 2816) :
    val_main_v15 (F := Ideal) x0 x1 x3 (ix3 b s f)
      = Spec.mm (fun k => val_main_v12 (F := Ideal) x0 x1 (ix3 b s k)) (fun k n => x3 (ix2 k n)) f := by
  pointwise [val_main_v15, Spec.mm]

theorem v16_at (b : Fin 8) (s : Fin 8192) (f : Fin 2816) :
    val_main_v16 (F := Ideal) x0 x1 x2 x3 (ix3 b s f)
      = Spec.silu (val_main_v13 (F := Ideal) x0 x1 x2 (ix3 b s f)) * val_main_v15 (F := Ideal) x0 x1 x3 (ix3 b s f) := by
  pointwise [val_main_v16, val_main_v14, val_main_call0_v5, val_main_call0_v4, val_main_call0_v3, val_main_call0_v2, val_main_call0_v1,
    val_main_call0_v0, val_main_call0_cst, val_main_call0_cst_0, Spec.silu]

theorem v20_at (b : Fin 8) (s : Fin 8192) (d : Fin 1024) :
    val_main_v20 (F := Ideal) x0 x1 x2 x3 x4 (ix3 b s d)
      = x0 (ix3 b s d) + Ideal.ofBits .f32 0x3F000000#32
          * Spec.mm (fun f => val_main_v16 (F := Ideal) x0 x1 x2 x3 (ix3 b s f)) (fun k n => x4 (ix2 k n)) d := by
  pointwise [val_main_v20, val_main_v19, val_main_v18, val_main_v17, val_main_cst_2, Spec.mm]

theorem v20_eq (b : Fin 8) (s : Fin 8192) (d : Fin 1024) :
    val_main_v20 (F := Ideal) x0 x1 x2 x3 x4 (ix3 b s d)
      = Spec.ffn (fun k => x0 (ix3 b s k)) (fun k => x1 (ix1 k)) (fun k n => x2 (ix2 k n)) (fun k n => x3 (ix2 k n)) (fun k n => x4 (ix2 k n)) d := by
  simp only [v20_at, v16_at, v13_at, v15_at, v12_at]
  rfl

/-- The reference's result at a row of all tokens is the layer's mathematics of that token's row. -/
theorem ref_at (n : Fin 65536) (d : Fin 1024) :
    val_main_v21 (F := Ideal) x0 x1 x2 x3 x4 (ix2 n d)
      = Spec.ffn (fun k => x0 (ix3 ⟨n.val / 8192, by omega⟩ ⟨n.val % 8192, by omega⟩ k)) (fun k => x1 (ix1 k))
          (fun k n => x2 (ix2 k n)) (fun k n => x3 (ix2 k n)) (fun k n => x4 (ix2 k n)) d := by
  pointwise [val_main_v21]
  rw [v20_eq]

end Cert.FfnRefIdeal.At
-- ==== Proof.FfnClaims.lean ====
/- The feed-forward claims: the kernel's run and the reference's end in the same arrays. -/
module

public import proofs.«01_k».proof.Defs
public import proofs.«01_k».proof.Proof.FfnValue
public import proofs.«01_k».proof.Proof.FfnRef

set_option maxRecDepth 16384

@[expose] public section
noncomputable section

open Idealize.ShloMosaic Idealize.ShloMosaic.TcCoe Idealize.SL.Sem

namespace Cert.FfnClaims

/-- The reference's result 0 is the kernel's, as a function of the arguments. -/
theorem same0 {x0 x1 x2 x3 x4} : Cert.FfnRefIdeal.Read.val_main_v21 (F := Ideal) x0 x1 x2 x3 x4 = Cert.FfnIdeal.Value.out x0 x1 x2 x3 x4 := by
  funext i
  change Cert.FfnIdeal.S65536x1024.Idx at i
  idx_vars i
  exact Cert.FfnRefIdeal.At.ref_at _ _ _ _ _ i0 i1

theorem algebraic : @Cert.algebraic_FfnIdeal_FfnRefIdeal Cert.FfnIdeal.Gen.facts Cert.FfnRefIdeal.Gen.facts :=
  fun m ρ m' ρ' _ hag => ⟨fun c => Cert.FfnIdeal.Value.out (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)),
    (θ_run _ _ _).mono (fun _ h c => ⟨(h c).1.trans (Cert.FfnIdeal.Value.final m c), (h c).2⟩) (Cert.FfnIdeal.Value.run_blocks m ρ),
    (θ_run _ _ _).mono (fun _ h c => ⟨(h c).1.trans ((Cert.FfnRefIdeal.Read.val_main_v21_eq _ _ _ _ _).trans (same0.trans (by rw [(hag c).1, (hag c).2.1, (hag c).2.2.1, (hag c).2.2.2.1, (hag c).2.2.2.2]))), (h c).2⟩) (Cert.FfnRefIdeal.Value.run m' ρ')⟩

end Cert.FfnClaims
-- ==== Proof.FfnFinalPure.lean ====
/- The last feed-forward kernel's output block read at a row and a feature: the layer's mathematics of that row. -/
module

public import proofs.«01_k».proof.Proof.Gen.FfnFinalIdeal.Frame
public import proofs.«01_k».proof.Proof.SpecMath
public import Idealize.ShloMosaic.Lib.Pipeline.ValueKit

set_option maxRecDepth 16384

@[expose] public section
noncomputable section

open Idealize.ShloMosaic Idealize.ShloMosaic.TcCoe Idealize.SL.Sem

namespace Cert.FfnFinalIdeal.Value
open Cert.FfnFinalIdeal Cert.FfnFinalIdeal.Gen

theorem pay3_at (x : FVec Ideal S1024x1024 .f32) (nw : FVec Ideal S1x1024 .f32) (r d : Fin 1024) :
    k0_pay3 (F := Ideal) x nw (ix2 r d) = Spec.rms (fun k => x (ix2 r k)) (fun k => nw (ix2 0 k)) d := by
  pointwise [k0_pay3, k0_pay2, Spec.rms, Spec.meanSq]

theorem pay1_at (v1 : FVec Ideal S1024x1024 .f32) (v204 v207 : FVec Ideal S1024x256 .f32) (v221 : FVec Ideal S1024x1024 .f32)
    (v224 : FVec Ideal S1024x256 .f32) (v232 : FVec Ideal S256x1024 .bf16) (v239 : FVec Ideal S1x1024 .f32) (r d : Fin 1024) :
    k0_pay1 (F := Ideal) v1 v204 v207 v221 v224 v232 v239 (ix2 r d)
      = Spec.rms (fun k => v1 (ix2 r k) + Ideal.ofBits .f32 0x3F000000#32 * (v221 (ix2 r k)
          + ∑ t : Fin 256, v204 (ix2 r t) * (Ideal.ofBits .f32 0x3F000000#32 * (v224 (ix2 r t) + 1)) * v207 (ix2 r t) * v232 (ix2 t k)))
        (fun k => v239 (ix2 0 k)) d := by
  pointwise [k0_pay1, Spec.rms, Spec.meanSq]

theorem out_at (x0 : FVec Ideal S1024x1024 .f32) (x1 : FVec Ideal S1x1024 .f32) (x2 x3 : FVec Ideal S1024x2816 .bf16)
    (x4 : FVec Ideal S2816x1024 .bf16) (x5 : FVec Ideal S1x1024 .f32) (r d : Fin 1024) :
    out0_6 (F := Ideal) x0 x1 x2 x3 x4 x5 (ix2 r d)
      = Spec.rms (Spec.ffn (fun k => x0 (ix2 r k)) (fun k => x1 (ix2 0 k)) (fun k n => x2 (ix2 k n)) (fun k n => x3 (ix2 k n)) (fun k n => x4 (ix2 k n)))
          (fun k => x5 (ix2 0 k)) d := by
  unfold_out out0_6
  frame_out
  rw [pay1_at]
  refine congrArg (fun y => Spec.rms y (fun k => x5 (ix2 0 k)) d) (funext fun k => ?_)
  pointwise [k0_pay2, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, pay3_at]
  simp only [Spec.half_tanh]
  unfold Spec.ffn
  conv_rhs => rw [Spec.mm]
  rw [Spec.sum_chunks]
  rfl

end Cert.FfnFinalIdeal.Value
-- ==== Proof.FfnFinalValue.lean ====
/- The feed-forward kernel's run: the result array holds, at every row of all tokens and every feature, the layer's mathematics
   of that token's row of the argument arrays. -/
module

public import proofs.«01_k».proof.Proof.FfnFinalPure
public import proofs.«01_k».proof.Proof.Gen.FfnFinalIdeal.Value
public import Idealize.ShloMosaic.Lib.Pipeline.ValueKit

set_option maxRecDepth 16384

@[expose] public section
noncomputable section

open Idealize.ShloMosaic Idealize.ShloMosaic.TcCoe Idealize.SL.Sem

namespace Cert.FfnFinalIdeal.Value
open Cert.FfnFinalIdeal Cert.FfnFinalIdeal.Gen
open Idealize.ShloMosaic.Pipeline (Dat)

variable (m : (ℓ : Loc nD τ sig) → Buf (Elt Ideal) ℓ)

/-- The layer's mathematics over the argument arrays, at an index of the result array. -/
def out (x0 : FVec Ideal S8x8192x1024 .f32) (x1 : FVec Ideal S1024 .f32) (x2 x3 : FVec Ideal S1024x2816 .f32)
    (x4 : FVec Ideal S2816x1024 .f32) (x5 : FVec Ideal S1024 .f32) : FVec Ideal S65536x1024 .f32 := fun i =>
  Spec.rms (Spec.ffn (fun k => x0 (ix3 ⟨(i 0).val / 8192, Nat.div_lt_of_lt_mul (i 0).isLt⟩ ⟨(i 0).val % 8192, Nat.mod_lt _ (by norm_num)⟩ k)) (fun k => x1 (ix1 k))
    (fun k n => x2 (ix2 k n)) (fun k n => x3 (ix2 k n)) (fun k n => x4 (ix2 k n))) (fun k => x5 (ix1 k)) (i 1)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem core {u0 u1 v0 v1 : Fin 1024 → EReal} {a0 a1 b0 b1 : Fin 1024 → Fin 2816 → EReal} {e0 e1 : Fin 2816 → Fin 1024 → EReal} {f0 f1 : Fin 1024 → EReal} {d : Fin 1024}
    (h0 : ∀ k, u0 k = u1 k) (h1 : ∀ k, v0 k = v1 k) (h2 : ∀ k n, a0 k n = a1 k n) (h3 : ∀ k n, b0 k n = b1 k n)
    (h4 : ∀ k n, e0 k n = e1 k n) (h5 : ∀ k, f0 k = f1 k) :
    Spec.rms (Spec.ffn u0 v0 a0 b0 e0) f0 d = Spec.rms (Spec.ffn u1 v1 a1 b1 e1) f1 d := by
  obtain rfl : u0 = u1 := funext h0
  obtain rfl : v0 = v1 := funext h1
  obtain rfl : a0 = a1 := funext fun k => funext (h2 k)
  obtain rfl : b0 = b1 := funext fun k => funext (h3 k)
  obtain rfl : e0 = e1 := funext fun k => funext (h4 k)
  obtain rfl : f0 = f1 := funext h5
  rfl

/-- The result array after the run. -/
theorem final (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  have hN : t.val < 64 := t.isLt
  change S1024x1024.Idx at y
  idx_vars y
  have hi : ((View.whole main_v6).slice (win0_6.rect t)).emb (ix2 y0 y1)
      = (ix2 ⟨t.val * 1024 + y0.val, by omega⟩ y1 : S65536x1024.Idx) := by
    blk_ext [idx t]
  rw [hi]
  refine (out_at _ _ _ _ _ _ y0 y1).trans ?_
  unfold out
  refine core ?_ ?_ ?_ ?_ ?_ ?_
  all_goals intro k
  all_goals try intro n
  all_goals blk_point [iblk, V, idx t]

end Cert.FfnFinalIdeal.Value
-- ==== Proof.FfnFinalRef.lean ====
/- The feed-forward reference's stages read at a batch element, a token and a feature: each is the layer's mathematics of
   that token's row. -/
module

public import proofs.«01_k».proof.Proof.Gen.FfnFinalRefIdeal.Read
public import proofs.«01_k».proof.Proof.SpecMath

set_option maxRecDepth 16384

@[expose] public section
noncomputable section

open Idealize.ShloMosaic Idealize.ShloMosaic.TcCoe Idealize.SL.Sem

namespace Cert.FfnFinalRefIdeal.At
open Cert.FfnFinalRefIdeal Cert.FfnFinalRefIdeal.Gen Cert.FfnFinalRefIdeal.Read

variable (x0 : FVec Ideal S8x8192x1024 .f32) (x1 : FVec Ideal S1024 .f32) (x2 x3 : FVec Ideal S1024x2816 .f32)
  (x4 : FVec Ideal S2816x1024 .f32) (x5 : FVec Ideal S1024 .f32)

theorem v12_at (b : Fin 8) (s : Fin 8192) (d : Fin 1024) :
    val_main_v12 (F := Ideal) x0 x1 (ix3 b s d) = Spec.rms (fun k => x0 (ix3 b s k)) (fun k => x1 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, Spec.rms, Spec.meanSq]

theorem v13_at (b : Fin 8) (s : Fin 8192) (f : Fin 2816) :
    val_main_v13 (F := Ideal) x0 x1 x2 (ix3 b s f)
      = Spec.mm (fun k => val_main_v12 (F := Ideal) x0 x1 (ix3 b s k)) (fun k n => x2 (ix2 k n)) f := by
  pointwise [val_main_v13, Spec.mm]

theorem v15_at (b : Fin 8) (s : Fin 8192) (f : Fin 2816) :
    val_main_v15 (F := Ideal) x0 x1 x3 (ix3 b s f)
      = Spec.mm (fun k => val_main_v12 (F := Ideal) x0 x1 (ix3 b s k)) (fun k n => x3 (ix2 k n)) f := by
  pointwise [val_main_v15, Spec.mm]

theorem v16_at (b : Fin 8) (s : Fin 8192) (f : Fin 2816) :
    val_main_v16 (F := Ideal) x0 x1 x2 x3 (ix3 b s f)
      = Spec.silu (val_main_v13 (F := Ideal) x0 x1 x2 (ix3 b s f)) * val_main_v15 (F := Ideal) x0 x1 x3 (ix3 b s f) := by
  pointwise [val_main_v16, val_main_v14, val_main_call0_v5, val_main_call0_v4, val_main_call0_v3, val_main_call0_v2, val_main_call0_v1,
    val_main_call0_v0, val_main_call0_cst, val_main_call0_cst_0, Spec.silu]

theorem v20_at (b : Fin 8) (s : Fin 8192) (d : Fin 1024) :
    val_main_v20 (F := Ideal) x0 x1 x2 x3 x4 (ix3 b s d)
      = x0 (ix3 b s d) + Ideal.ofBits .f32 0x3F000000#32
          * Spec.mm (fun f => val_main_v16 (F := Ideal) x0 x1 x2 x3 (ix3 b s f)) (fun k n => x4 (ix2 k n)) d := by
  pointwise [val_main_v20, val_main_v19, val_main_v18, val_main_v17, val_main_cst_2, Spec.mm]

theorem v20_eq (b : Fin 8) (s : Fin 8192) (d : Fin 1024) :
    val_main_v20 (F := Ideal) x0 x1 x2 x3 x4 (ix3 b s d)
      = Spec.ffn (fun k => x0 (ix3 b s k)) (fun k => x1 (ix1 k)) (fun k n => x2 (ix2 k n)) (fun k n => x3 (ix2 k n)) (fun k n => x4 (ix2 k n)) d := by
  simp only [v20_at, v16_at, v13_at, v15_at, v12_at]
  rfl

theorem v33_at (b : Fin 8) (s : Fin 8192) (d : Fin 1024) :
    val_main_v33 (F := Ideal) x0 x1 x2 x3 x4 x5 (ix3 b s d)
      = Spec.rms (fun k => val_main_v20 (F := Ideal) x0 x1 x2 x3 x4 (ix3 b s k)) (fun k => x5 (ix1 k)) d := by
  pointwise [val_main_v33, val_main_v32, val_main_v31, val_main_v30, val_main_v29, val_main_v28, val_main_v27, val_main_v26,
    val_main_v25, val_main_v24, val_main_v23, val_main_v22, val_main_v21, val_main_cst_3, val_main_cst_4, val_main_cst_5, Spec.rms, Spec.meanSq]

/-- The reference's result at a row of all tokens is the layer's mathematics of that token's row. -/
theorem ref_at (n : Fin 65536) (d : Fin 1024) :
    val_main_v34 (F := Ideal) x0 x1 x2 x3 x4 x5 (ix2 n d)
      = Spec.rms (Spec.ffn (fun k => x0 (ix3 ⟨n.val / 8192, by omega⟩ ⟨n.val % 8192, by omega⟩ k)) (fun k => x1 (ix1 k))
          (fun k n => x2 (ix2 k n)) (fun k n => x3 (ix2 k n)) (fun k n => x4 (ix2 k n))) (fun k => x5 (ix1 k)) d := by
  pointwise [val_main_v34]
  rw [v33_at]
  simp only [v20_eq]

end Cert.FfnFinalRefIdeal.At
-- ==== Proof.FfnFinalClaims.lean ====
/- The last feed-forward claims: the kernel's run and the reference's end in the same arrays. -/
module

public import proofs.«01_k».proof.Defs
public import proofs.«01_k».proof.Proof.FfnFinalValue
public import proofs.«01_k».proof.Proof.FfnFinalRef

set_option maxRecDepth 16384

@[expose] public section
noncomputable section

open Idealize.ShloMosaic Idealize.ShloMosaic.TcCoe Idealize.SL.Sem

namespace Cert.FfnFinalClaims

/-- The reference's result 0 is the kernel's, as a function of the arguments. -/
theorem same0 {x0 x1 x2 x3 x4 x5} : Cert.FfnFinalRefIdeal.Read.val_main_v34 (F := Ideal) x0 x1 x2 x3 x4 x5 = Cert.FfnFinalIdeal.Value.out x0 x1 x2 x3 x4 x5 := by
  funext i
  change Cert.FfnFinalIdeal.S65536x1024.Idx at i
  idx_vars i
  exact Cert.FfnFinalRefIdeal.At.ref_at _ _ _ _ _ _ i0 i1

theorem algebraic : @Cert.algebraic_FfnFinalIdeal_FfnFinalRefIdeal Cert.FfnFinalIdeal.Gen.facts Cert.FfnFinalRefIdeal.Gen.facts :=
  fun m ρ m' ρ' _ hag => ⟨fun c => Cert.FfnFinalIdeal.Value.out (m ((c.tc : Thread Cert.FfnFinalIdeal.nD Cert.FfnFinalIdeal.τ).loc Cert.FfnFinalIdeal.main_arg0)) (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2)) (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)) (m ((c.tc : Thread Cert.FfnFinalIdeal.nD Cert.FfnFinalIdeal.τ).loc Cert.FfnFinalIdeal.main_arg5)),
    (θ_run _ _ _).mono (fun _ h c => ⟨(h c).1.trans (Cert.FfnFinalIdeal.Value.final m c), (h c).2⟩) (Cert.FfnFinalIdeal.Value.run_blocks m ρ),
    (θ_run _ _ _).mono (fun _ h c => ⟨(h c).1.trans ((Cert.FfnFinalRefIdeal.Read.val_main_v34_eq m' c).trans (same0.trans (by rw [(hag c).1, (hag c).2.1, (hag c).2.2.1, (hag c).2.2.2.1, (hag c).2.2.2.2.1, (hag c).2.2.2.2.2]))), (h c).2⟩) (Cert.FfnFinalRefIdeal.Value.run m' ρ')⟩

end Cert.FfnFinalClaims
-- ==== Proof.MemKvValue.lean ====
/- The memory projection kernel's run: the two result arrays hold, at every memory row and feature, the projection of that
   row's normalised features. -/
module

public import proofs.«01_k».proof.Proof.Gen.MemKvIdeal.Value
public import proofs.«01_k».proof.Proof.Spec
public import Idealize.ShloMosaic.Lib.Pipeline.ValueKit

set_option maxRecDepth 16384

@[expose] public section
noncomputable section

open Idealize.ShloMosaic Idealize.ShloMosaic.TcCoe Idealize.SL.Sem

namespace Cert.MemKvIdeal.Value
open Cert.MemKvIdeal Cert.MemKvIdeal.Gen
open Idealize.ShloMosaic.Pipeline (Dat)

theorem out4_at (x0 : FVec Ideal S1024x1024 .f32) (x1 : FVec Ideal S1x1024 .f32) (x2 x3 : FVec Ideal S1024x1024 .bf16) (r d : Fin 1024) :
    out0_4 (F := Ideal) x0 x1 x2 x3 (ix2 r d)
      = Spec.mm (Spec.rms (fun k => x0 (ix2 r k)) (fun k => x1 (ix2 0 k))) (fun k n => x2 (ix2 k n)) d := by
  unfold out0_4
  frame_out
  pointwise [k0_pay1, k0_pay2, Spec.mm, Spec.rms, Spec.meanSq]

theorem out5_at (x0 : FVec Ideal S1024x1024 .f32) (x1 : FVec Ideal S1x1024 .f32) (x2 x3 : FVec Ideal S1024x1024 .bf16) (r d : Fin 1024) :
    out0_5 (F := Ideal) x0 x1 x2 x3 (ix2 r d)
      = Spec.mm (Spec.rms (fun k => x0 (ix2 r k)) (fun k => x1 (ix2 0 k))) (fun k n => x3 (ix2 k n)) d := by
  unfold out0_5
  frame_out
  pointwise [k0_pay1, k0_pay3, Spec.mm, Spec.rms, Spec.meanSq]

variable (m : (ℓ : Loc nD τ sig) → Buf (Elt Ideal) ℓ)

/-- A projection of the normalised memory rows, at an index of a result array. -/
def out (x0 : FVec Ideal S8x256x1024 .f32) (x1 : FVec Ideal S1024 .f32) (x2 : FVec Ideal S1024x1024 .f32) : FVec Ideal S2048x1024 .f32 := fun i =>
  Spec.mm (Spec.rms (fun k => x0 (ix3 ⟨(i 0).val / 256, Nat.div_lt_of_lt_mul (i 0).isLt⟩ ⟨(i 0).val % 256, Nat.mod_lt _ (by norm_num)⟩ k)) (fun k => x1 (ix1 k)))
    (fun k n => x2 (ix2 k n)) (i 1)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem core {u0 u1 v0 v1 : Fin 1024 → EReal} {a0 a1 : Fin 1024 → Fin 1024 → EReal} {d : Fin 1024}
    (h0 : ∀ k, u0 k = u1 k) (h1 : ∀ k, v0 k = v1 k) (h2 : ∀ k n, a0 k n = a1 k n) :
    Spec.mm (Spec.rms u0 v0) a0 d = Spec.mm (Spec.rms u1 v1) a1 d := by
  obtain rfl : u0 = u1 := funext h0
  obtain rfl : v0 = v1 := funext h1
  obtain rfl : a0 = a1 := funext fun k => funext (h2 k)
  rfl

/-- The keys after the run. -/
theorem final_keys (c : Dev nD) : (dats m 0 c).arrAt 4 (cfgs 0).N
    = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have hN : t.val < 2 := t.isLt
  change S1024x1024.Idx at y
  idx_vars y
  have hi : ((View.whole main_v4_0).slice (win0_4.rect t)).emb (ix2 y0 y1)
      = (ix2 ⟨t.val * 1024 + y0.val, by omega⟩ y1 : S2048x1024.Idx) := by
    blk_ext [idx t]
  rw [hi]
  refine (out4_at _ _ _ _ y0 y1).trans ?_
  unfold out
  refine core ?_ ?_ ?_
  all_goals intro k
  all_goals try intro n
  all_goals blk_point [iblk, V, idx t]

/-- The values after the run. -/
theorem final_values (c : Dev nD) : (dats m 0 c).arrAt 5 (cfgs 0).N
    = out (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  have hN : t.val < 2 := t.isLt
  change S1024x1024.Idx at y
  idx_vars y
  have hi : ((View.whole main_v4_1).slice (win0_5.rect t)).emb (ix2 y0 y1)
      = (ix2 ⟨t.val * 1024 + y0.val, by omega⟩ y1 : S2048x1024.Idx) := by
    blk_ext [idx t]
  rw [hi]
  refine (out5_at _ _ _ _ y0 y1).trans ?_
  unfold out
  refine core ?_ ?_ ?_
  all_goals intro k
  all_goals try intro n
  all_goals blk_point [iblk, V, idx t]

end Cert.MemKvIdeal.Value
-- ==== Proof.MemKvRef.lean ====
/- The memory projection reference's stages read at an index: each is the mathematics of that memory row. -/
module

public import proofs.«01_k».proof.Proof.Gen.MemKvRefIdeal.Read
public import proofs.«01_k».proof.Proof.Spec

set_option maxRecDepth 16384

@[expose] public section
noncomputable section

open Idealize.ShloMosaic Idealize.ShloMosaic.TcCoe Idealize.SL.Sem

namespace Cert.MemKvRefIdeal.At
open Cert.MemKvRefIdeal Cert.MemKvRefIdeal.Gen Cert.MemKvRefIdeal.Read

variable (x0 : FVec Ideal S8x256x1024 .f32) (x1 : FVec Ideal S1024 .f32) (x2 x3 : FVec Ideal S1024x1024 .f32)

theorem v12_at (b : Fin 8) (s : Fin 256) (d : Fin 1024) :
    val_main_v12 (F := Ideal) x0 x1 (ix3 b s d) = Spec.rms (fun k => x0 (ix3 b s k)) (fun k => x1 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, Spec.rms, Spec.meanSq]

theorem v13_at (b : Fin 8) (s : Fin 256) (f : Fin 1024) :
    val_main_v13 (F := Ideal) x0 x1 x2 (ix3 b s f)
      = Spec.mm (fun k => val_main_v12 (F := Ideal) x0 x1 (ix3 b s k)) (fun k n => x2 (ix2 k n)) f := by
  pointwise [val_main_v13, Spec.mm]

theorem v15_at (b : Fin 8) (s : Fin 256) (f : Fin 1024) :
    val_main_v15 (F := Ideal) x0 x1 x3 (ix3 b s f)
      = Spec.mm (fun k => val_main_v12 (F := Ideal) x0 x1 (ix3 b s k)) (fun k n => x3 (ix2 k n)) f := by
  pointwise [val_main_v15, Spec.mm]

/-- The keys at a memory row and a feature. -/
theorem keys_at (n : Fin 2048) (d : Fin 1024) :
    val_main_v14 (F := Ideal) x0 x1 x2 (ix2 n d)
      = Spec.mm (Spec.rms (fun k => x0 (ix3 ⟨n.val / 256, by omega⟩ ⟨n.val % 256, by omega⟩ k)) (fun k => x1 (ix1 k)))
          (fun k n => x2 (ix2 k n)) d := by
  pointwise [val_main_v14]
  rw [v13_at]
  simp only [v12_at]

/-- The values at a memory row and a feature. -/
theorem values_at (n : Fin 2048) (d : Fin 1024) :
    val_main_v16 (F := Ideal) x0 x1 x3 (ix2 n d)
      = Spec.mm (Spec.rms (fun k => x0 (ix3 ⟨n.val / 256, by omega⟩ ⟨n.val % 256, by omega⟩ k)) (fun k => x1 (ix1 k)))
          (fun k n => x3 (ix2 k n)) d := by
  pointwise [val_main_v16]
  rw [v15_at]
  simp only [v12_at]

end Cert.MemKvRefIdeal.At
-- ==== Proof.MemKvClaims.lean ====
/- The memory projection claims: the kernel's run and the reference's end in the same arrays. -/
module

public import proofs.«01_k».proof.Defs
public import proofs.«01_k».proof.Proof.MemKvValue
public import proofs.«01_k».proof.Proof.MemKvRef

set_option maxRecDepth 16384

@[expose] public section
noncomputable section

open Idealize.ShloMosaic Idealize.ShloMosaic.TcCoe Idealize.SL.Sem

namespace Cert.MemKvClaims

/-- The reference's result 0 is the kernel's, as a function of the arguments. -/
theorem same0 {x0 x1 x2} : Cert.MemKvRefIdeal.Read.val_main_v14 (F := Ideal) x0 x1 x2 = Cert.MemKvIdeal.Value.out x0 x1 x2 := by
  funext i
  change Cert.MemKvIdeal.S2048x1024.Idx at i
  idx_vars i
  exact Cert.MemKvRefIdeal.At.keys_at _ _ _ i0 i1

/-- The reference's result 1 is the kernel's, as a function of the arguments. -/
theorem same1 {x0 x1 x3} : Cert.MemKvRefIdeal.Read.val_main_v16 (F := Ideal) x0 x1 x3 = Cert.MemKvIdeal.Value.out x0 x1 x3 := by
  funext i
  change Cert.MemKvIdeal.S2048x1024.Idx at i
  idx_vars i
  exact Cert.MemKvRefIdeal.At.values_at _ _ _ i0 i1

theorem algebraic : @Cert.algebraic_MemKvIdeal_MemKvRefIdeal Cert.MemKvIdeal.Gen.facts Cert.MemKvRefIdeal.Gen.facts :=
  fun m ρ m' ρ' _ hag => ⟨fun c => Cert.MemKvIdeal.Value.out (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)), fun c => Cert.MemKvIdeal.Value.out (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg3)),
    (θ_run _ _ _).mono (fun _ h c => ⟨(h c).1.trans (Cert.MemKvIdeal.Value.final_keys m c), (h c).2.1.trans (Cert.MemKvIdeal.Value.final_values m c), (h c).2.2⟩) (Cert.MemKvIdeal.Value.run_blocks m ρ),
    (θ_run _ _ _).mono (fun _ h c => ⟨(h c).1.trans ((Cert.MemKvRefIdeal.Read.val_main_v14_eq _ _ _).trans (same0.trans (by rw [(hag c).1, (hag c).2.1, (hag c).2.2.1]))), (h c).2.1.trans ((Cert.MemKvRefIdeal.Read.val_main_v16_eq _ _ _).trans (same1.trans (by rw [(hag c).1, (hag c).2.1, (hag c).2.2.2]))), (h c).2.2⟩) (Cert.MemKvRefIdeal.Value.run m' ρ')⟩

end Cert.MemKvClaims
-- ==== Proof.OddSpec.lean ====
/- The mathematics of one head of the odd layer's two mixers over a sequence of sixteen tokens, as plain functions of
   coordinates over the extended reals: the decayed linear attention with its state, the gate's logarithm, the rotary
   embedding and the head normalisations. Both programs of the claim are read to these functions. -/
module

public import proofs.«01_k».proof.Proof.Spec

set_option maxRecDepth 16384

@[expose] public section
noncomputable section

open Idealize.ShloMosaic Idealize.ShloMosaic.TcCoe Idealize.SL.Sem

namespace Cert.OddSpec

/-- The running sum of the log decays of a feature over the tokens up to and including token `i`. -/
def cum {n : Nat} (la : Fin 16 → Fin n → EReal) (i : Fin 16) (a : Fin n) : EReal :=
  ∑ j : Fin 16, if j ≤ i then la j a else 0

/-- The causal score of token `i` against token `j`, each decayed to the sequence's start. -/
def score {n : Nat} (q k c : Fin 16 → Fin n → EReal) (i j : Fin 16) : EReal :=
  if j ≤ i then ∑ a : Fin n, (q i a * Ideal.exp (c i a)) * (k j a * Ideal.exp (-(c j a))) else 0

/-- The output of the decayed linear attention: what the incoming state gives plus what the tokens up to `i` give. -/
def out {n : Nat} (q k c : Fin 16 → Fin n → EReal) (v : Fin 16 → Fin 128 → EReal) (s : Fin n → Fin 128 → EReal)
    (i : Fin 16) (e : Fin 128) : EReal :=
  (∑ a : Fin n, (q i a * Ideal.exp (c i a)) * s a e) + ∑ j : Fin 16, score q k c i j * v j e

/-- The state after the sixteen tokens: the incoming state decayed plus the keys' products with the values. -/
def state {n : Nat} (k c : Fin 16 → Fin n → EReal) (v : Fin 16 → Fin 128 → EReal) (s : Fin n → Fin 128 → EReal)
    (a : Fin n) (e : Fin 128) : EReal :=
  s a e * Ideal.exp (c 15 a) + ∑ j : Fin 16, (k j a * Ideal.exp (c 15 a - c j a)) * v j e

/-- The log decay of a gate's pre-activation: a sixteenth of the logarithm of its sigmoid. -/
def logDecay (z : EReal) : EReal :=
  Ideal.div (-(max (-z) 0 + Ideal.log (1 + Ideal.exp (-(max (-z) (- -z)))))) (Ideal.ofBits .f32 0x41800000#32)

/-- Root-mean-square normalisation of a head's row of 128 features, with its weight. -/
def headRms (o w : Fin 128 → EReal) (e : Fin 128) : EReal :=
  o e * Ideal.rsqrt (Ideal.div (∑ k : Fin 128, o k * o k) (Ideal.ofBits .f32 0x43000000#32) + Ideal.ofBits .f32 0x358637BD#32) * w e

/-- A head's row of 128 features less its mean. -/
def centre (o : Fin 128 → EReal) (e : Fin 128) : EReal :=
  o e - Ideal.div (∑ k : Fin 128, o k) (Ideal.ofBits .f32 0x43000000#32)

/-- Layer normalisation of a head's row of 128 features. -/
def headLn (o : Fin 128 → EReal) (e : Fin 128) : EReal :=
  centre o e * Ideal.rsqrt (Ideal.div (∑ k : Fin 128, centre o k * centre o k) (Ideal.ofBits .f32 0x43000000#32) + Ideal.ofBits .f32 0x358637BD#32)

/-- The rotary embedding of a row of 128 features by the cosines and sines of 64 angles. -/
def rot (x : Fin 128 → EReal) (c s : Fin 64 → EReal) (a : Fin 128) : EReal :=
  if h : a.val < 64 then x a * c ⟨a.val, h⟩ - x ⟨a.val + 64, by omega⟩ * s ⟨a.val, h⟩
  else x ⟨a.val - 64, by omega⟩ * s ⟨a.val - 64, by omega⟩ + x a * c ⟨a.val - 64, by omega⟩

/-- The logarithm of the decay of retention head `h`. -/
def logGamma (h : Fin 4) : ℝ := Real.log (1 - 1 / 2 ^ (5 + h.val))

/-- The running sum of a retention head's log decay up to and including token `i`. -/
def retCum (h : Fin 4) (i : Fin 16) : EReal := (((i.val + 1 : ℕ) : ℝ) * logGamma h : ℝ)

/-! ## One sequence's heads, from the arrays -/

/-- An array of three or four axes of the reals at infinite precision. -/
abbrev A1 (n : Nat) (φ : FTy) := FVec Ideal (⟨1, ![n]⟩ : Shape) φ
abbrev A2 (n m : Nat) (φ : FTy) := FVec Ideal (⟨2, ![n, m]⟩ : Shape) φ
abbrev A3 (n m l : Nat) (φ : FTy) := FVec Ideal (⟨3, ![n, m, l]⟩ : Shape) φ
abbrev A4 (n m l o : Nat) (φ : FTy) := FVec Ideal (⟨4, ![n, m, l, o]⟩ : Shape) φ

/-- Head `h`'s query of the gated linear attention, scaled by the root of its 64 features. -/
def gq (x0 : A3 16 16 512 .f32) (b : Fin 16) (h : Fin 4) (i : Fin 16) (a : Fin 64) : EReal :=
  x0 (ix3 b i ⟨h.val * 64 + a.val, by omega⟩) * Ideal.ofBits .f32 0x3E000000#32

/-- Head `h`'s key. -/
def gk (x0 : A3 16 16 512 .f32) (b : Fin 16) (h : Fin 4) (i : Fin 16) (a : Fin 64) : EReal :=
  x0 (ix3 b i ⟨256 + (h.val * 64 + a.val), by omega⟩)

/-- The log decay of token `i` at feature `n`, from the low-rank gate. -/
def glog (x2 : A3 16 16 128 .f32) (x5 : A2 16 256 .f32) (x6 : A1 256 .f32) (b i : Fin 16) (n : Fin 256) : EReal :=
  logDecay (∑ k : Fin 16, x2 (ix3 b i ⟨k.val, by omega⟩) * x5 (ix2 k n) + x6 (ix1 n))

/-- Head `h`'s running log decay. -/
def gc (x2 : A3 16 16 128 .f32) (x5 : A2 16 256 .f32) (x6 : A1 256 .f32) (b : Fin 16) (h : Fin 4) : Fin 16 → Fin 64 → EReal :=
  cum fun j a => glog x2 x5 x6 b j ⟨h.val * 64 + a.val, by omega⟩

/-- Head `h`'s values. -/
def hv (x1 : A3 16 16 512 .bf16) (b : Fin 16) (h : Fin 4) (j : Fin 16) (e : Fin 128) : EReal :=
  x1 (ix3 b j ⟨h.val * 128 + e.val, by omega⟩)

/-- Head `h`'s incoming state. -/
def hs {n : Nat} (x : A4 16 4 n 128 .f32) (b : Fin 16) (h : Fin 4) (a : Fin n) (e : Fin 128) : EReal := x (ix4 b h a e)

/-- The gated linear attention's output. -/
def yc (x0 : A3 16 16 512 .f32) (x1 : A3 16 16 512 .bf16) (x2 : A3 16 16 128 .f32) (x3 : A3 16 16 512 .f32) (x4 : A4 16 4 64 128 .f32)
    (x5 : A2 16 256 .f32) (x6 : A1 256 .f32) (x7 : A1 128 .f32) (b i : Fin 16) (h : Fin 4) (e : Fin 128) : EReal :=
  headRms (out (gq x0 b h) (gk x0 b h) (gc x2 x5 x6 b h) (hv x1 b h) (hs x4 b h) i) (fun e => x7 (ix1 e)) e
    * Spec.silu (x3 (ix3 b i ⟨h.val * 128 + e.val, by omega⟩))

/-- The gated linear attention's state after the sequence. -/
def gla (x0 : A3 16 16 512 .f32) (x1 : A3 16 16 512 .bf16) (x2 : A3 16 16 128 .f32) (x4 : A4 16 4 64 128 .f32)
    (x5 : A2 16 256 .f32) (x6 : A1 256 .f32) (b : Fin 16) (h : Fin 4) (a : Fin 64) (e : Fin 128) : EReal :=
  state (gk x0 b h) (gc x2 x5 x6 b h) (hv x1 b h) (hs x4 b h) a e

/-- The rotary angle of token `i`, at position 1024 and on, and frequency `a`. -/
def angle (i : Fin 16) (a : Fin 64) : EReal :=
  ((((IntOp.addi (BitVec.ofNat 32 i.val) 1024#32).toInt : ℝ)) : EReal)
    * Ideal.pow (Ideal.ofBits .f32 0x461C4000#32)
        (Ideal.div (-(Ideal.ofBits .f32 0x40000000#32 * (((BitVec.ofNat 32 a.val).toInt : ℝ) : EReal))) (Ideal.ofBits .f32 0x43000000#32))

/-- Head `h`'s row turned by its position. -/
def rr (x : A3 16 16 512 .f32) (b : Fin 16) (h : Fin 4) (i : Fin 16) : Fin 128 → EReal :=
  rot (fun a => x (ix3 b i ⟨h.val * 128 + a.val, by omega⟩)) (fun a => Ideal.cos (angle i a)) (fun a => Ideal.sin (angle i a))

/-- Head `h`'s turned key, scaled by the root of its 128 features. -/
def rk (x : A3 16 16 512 .f32) (b : Fin 16) (h : Fin 4) (i : Fin 16) (a : Fin 128) : EReal :=
  rr x b h i a * Ideal.ofBits .f32 0x3DB504F3#32

/-- The retention's output. -/
def yd (x8 x9 : A3 16 16 512 .f32) (x10 : A3 16 16 512 .bf16) (x11 : A3 16 16 512 .f32) (x12 : A4 16 4 128 128 .f32)
    (b i : Fin 16) (h : Fin 4) (e : Fin 128) : EReal :=
  headLn (out (rr x8 b h) (rk x9 b h) (fun i _ => retCum h i) (hv x10 b h) (hs x12 b h) i) e
    * Spec.silu (x11 (ix3 b i ⟨h.val * 128 + e.val, by omega⟩))

/-- The retention's state after the sequence. -/
def ret (x9 : A3 16 16 512 .f32) (x10 : A3 16 16 512 .bf16) (x12 : A4 16 4 128 128 .f32)
    (b : Fin 16) (h : Fin 4) (a e : Fin 128) : EReal :=
  state (rk x9 b h) (fun i _ => retCum h i) (hv x10 b h) (hs x12 b h) a e

end Cert.OddSpec
-- ==== Proof.OddMath.lean ====
/- Facts the odd layer's mixers rest on: a sum over lanes of which half are masked, the running sum as a product with a
   triangular matrix of zeros and ones, the host's running sum, and the retention's decays as powers of one number. -/
module

public import proofs.«01_k».proof.Proof.OddSpec
public import proofs.«01_k».proof.Proof.SpecMath

set_option maxRecDepth 16384

@[expose] public section
noncomputable section

open Idealize.ShloMosaic Idealize.ShloMosaic.TcCoe Idealize.SL.Sem

namespace Cert.OddMath

/-- A sum over 128 lanes whose terms above lane 64 vanish is the sum over the lower 64. -/
theorem sum_low (f : Fin 128 → EReal) (h : ∀ l : Fin 128, ¬ l.val < 64 → f l = 0) :
    ∑ l : Fin 128, f l = ∑ a : Fin 64, f ⟨a.val, by omega⟩ := by
  rw [show (∑ l : Fin 128, f l) = ∑ l : Fin (64 + 64), f l from rfl, Fin.sum_univ_add]
  rw [show (∑ i : Fin 64, f (Fin.natAdd 64 i)) = 0 from Finset.sum_eq_zero fun i _ => h _ (by simp)]
  rw [add_zero]; rfl

/-- A sum over 128 lanes whose terms below lane 64 vanish is the sum over the upper 64. -/
theorem sum_high (f : Fin 128 → EReal) (h : ∀ l : Fin 128, l.val < 64 → f l = 0) :
    ∑ l : Fin 128, f l = ∑ a : Fin 64, f ⟨64 + a.val, by omega⟩ := by
  rw [show (∑ l : Fin 128, f l) = ∑ l : Fin (64 + 64), f l from rfl, Fin.sum_univ_add]
  rw [show (∑ i : Fin 64, f (Fin.castAdd 64 i)) = 0 from Finset.sum_eq_zero fun i _ => h _ (by simp)]
  rw [zero_add]; rfl

/-- The first 16 of 128 terms, when the others vanish. -/
theorem sum_first (f : Fin 128 → EReal) (h : ∀ l : Fin 128, ¬ l.val < 16 → f l = 0) :
    ∑ l : Fin 128, f l = ∑ a : Fin 16, f ⟨a.val, by omega⟩ := by
  rw [show (∑ l : Fin 128, f l) = ∑ l : Fin (16 + 112), f l from rfl, Fin.sum_univ_add]
  rw [show (∑ i : Fin 112, f (Fin.natAdd 16 i)) = 0 from Finset.sum_eq_zero fun i _ => h _ (by simp)]
  rw [add_zero]; rfl

/-- Adding terms one after another from `v` is `v` plus their sum. -/
theorem foldl_add {N : Nat} (f : Fin N → EReal) (v : EReal) :
    (List.finRange N).foldl (fun r n => r + f n) v = v + ∑ n, f n := by
  rw [← List.sum_ofFn, List.ofFn_eq_map]
  generalize List.finRange N = l
  induction l generalizing v with
  | nil => simp
  | cons a l ih => simp only [List.foldl_cons, List.map_cons, List.sum_cons, ih, add_assoc]

theorem symm_col4 (n : Fin (⟨4, ![1, 1, 16, 1]⟩ : Shape).numel) (hn : n.val < 16) :
    (⟨4, ![1, 1, 16, 1]⟩ : Shape).rowMajor.symm n = ix4 (0 : Fin 1) (0 : Fin 1) (⟨n.val, hn⟩ : Fin 16) (0 : Fin 1) := by
  rw [Equiv.symm_apply_eq]
  obtain ⟨n, hN⟩ := n
  change n < 16 at hn
  apply Fin.ext
  interval_cases n <;> rfl

theorem sum_numel {N : Nat} (hN : N = 16) (f : Fin N → EReal) : ∑ n, f n = ∑ w : Fin 16, f ⟨w.val, by omega⟩ := by
  subst hN; rfl

/-- The terms a window of sixteen ending at `i` meets, the padding below giving zero, are those up to and including `i`. -/
theorem sum_window (g : Fin 16 → EReal) (i : Fin 16) :
    (∑ w : Fin 16, if h : 15 ≤ i.val + w.val then g ⟨i.val + w.val - 15, by omega⟩ else 0) = ∑ j : Fin 16, if j ≤ i then g j else 0 := by
  refine Finset.sum_nbij' (fun w => if h : 15 ≤ i.val + w.val then (⟨i.val + w.val - 15, by omega⟩ : Fin 16) else ⟨i.val + w.val + 1, by omega⟩)
    (fun j => if h : j.val ≤ i.val then (⟨j.val + 15 - i.val, by omega⟩ : Fin 16) else ⟨j.val - i.val - 1, by omega⟩) ?_ ?_ ?_ ?_ ?_
  · intros; simp
  · intros; simp
  · intro w _
    apply Fin.ext
    by_cases h : 15 ≤ i.val + w.val
    · simp only [dif_pos h]
      rw [dif_pos (show i.val + w.val - 15 ≤ i.val by omega)]
      show i.val + w.val - 15 + 15 - i.val = w.val
      omega
    · simp only [dif_neg h]
      rw [dif_neg (show ¬ i.val + w.val + 1 ≤ i.val by omega)]
      show i.val + w.val + 1 - i.val - 1 = w.val
      omega
  · intro w _
    apply Fin.ext
    by_cases h : w.val ≤ i.val
    · simp only [dif_pos h]
      rw [dif_pos (show 15 ≤ i.val + (w.val + 15 - i.val) by omega)]
      show i.val + (w.val + 15 - i.val) - 15 = w.val
      omega
    · simp only [dif_neg h]
      rw [dif_neg (show ¬ 15 ≤ i.val + (w.val - i.val - 1) by omega)]
      show i.val + (w.val - i.val - 1) + 1 = w.val
      omega
  · intro w _
    by_cases h : 15 ≤ i.val + w.val
    · rw [dif_pos h, dif_pos h, if_pos (by rw [Fin.le_def]; dsimp only; omega)]
    · rw [dif_neg h, dif_neg h, if_neg (by rw [Fin.le_def]; dsimp only; omega)]

/-- The host's running sum along the third axis of four: entry `i` is the sum of the entries up to and including `i`. -/
theorem cumsum_at {B H D : Nat} (x : FVec Ideal ⟨4, ![B, H, 16, D]⟩ .f32) (init : FVec Ideal ⟨0, ![]⟩ .f32) (h0 : init ix0 = 0)
    (h : (⟨4, ![B, H, 16, D]⟩ : Shape).ReduceWindows (![1, 1, 16, 1] : Fin 4 → Nat) ![1, 1, 1, 1] ![0, 0, 15, 0] ![0, 0, 0, 0] ⟨4, ![B, H, 16, D]⟩)
    (hu : 0 < (⟨0, ![]⟩ : Shape).numel) (b : Fin B) (g : Fin H) (i : Fin 16) (d : Fin D) :
    Host.reduceWindowAdd (F := Ideal) ![1, 1, 16, 1] ![1, 1, 1, 1] ![0, 0, 15, 0] ![0, 0, 0, 0] x init h hu (ix4 b g i d)
      = ∑ j : Fin 16, if j ≤ i then x (ix4 b g j d) else 0 := by
  have hv : init (Shape.Idx.first hu) = 0 := (congrArg init (funext fun a => a.elim0)).trans h0
  have hnum : (⟨4, ![1, 1, 16, 1]⟩ : Shape).numel = 16 := by decide
  unfold Host.reduceWindowAdd
  rw [hv, Ideal.hostReduceWindowAdd_def]
  unfold Ideal.hostReduceWindowAdd Host.reduceWindow
  dsimp only
  refine (foldl_add _ _).trans ?_
  rw [zero_add, ← sum_window fun j => x (ix4 b g j d)]
  refine (sum_numel hnum _).trans (Finset.sum_congr rfl fun w _ => ?_)
  have hs := symm_col4 ⟨w.val, by rw [hnum]; exact w.isLt⟩ w.isLt
  have w0 := congrArg Fin.val (congrFun hs 0)
  have w1 := congrArg Fin.val (congrFun hs 1)
  have w2 := congrArg Fin.val (congrFun hs 2)
  have w3 := congrArg Fin.val (congrFun hs 3)
  by_cases hw : 15 ≤ i.val + w.val
  · rw [dif_pos hw, dif_pos]
    · refine congrArg x (funext fun a => Fin.ext ?_)
      match a with
      | ⟨0, _⟩ => refine (congrArg (b.val * 1 + · - 0) w0).trans ?_; show b.val * 1 + 0 - 0 = b.val; omega
      | ⟨1, _⟩ => refine (congrArg (g.val * 1 + · - 0) w1).trans ?_; show g.val * 1 + 0 - 0 = g.val; omega
      | ⟨2, _⟩ => refine (congrArg (i.val * 1 + · - 15) w2).trans ?_; show i.val * 1 + w.val - 15 = i.val + w.val - 15; omega
      | ⟨3, _⟩ => refine (congrArg (d.val * 1 + · - 0) w3).trans ?_; show d.val * 1 + 0 - 0 = d.val; omega
    · intro a
      match a with
      | ⟨0, _⟩ =>
        refine (congrArg (fun z => 0 ≤ b.val * 1 + z ∧ b.val * 1 + z - 0 < B) w0).mpr ?_
        show 0 ≤ b.val * 1 + 0 ∧ b.val * 1 + 0 - 0 < B; omega
      | ⟨1, _⟩ =>
        refine (congrArg (fun z => 0 ≤ g.val * 1 + z ∧ g.val * 1 + z - 0 < H) w1).mpr ?_
        show 0 ≤ g.val * 1 + 0 ∧ g.val * 1 + 0 - 0 < H; omega
      | ⟨2, _⟩ =>
        refine (congrArg (fun z => 15 ≤ i.val * 1 + z ∧ i.val * 1 + z - 15 < 16) w2).mpr ?_
        show 15 ≤ i.val * 1 + w.val ∧ i.val * 1 + w.val - 15 < 16; omega
      | ⟨3, _⟩ =>
        refine (congrArg (fun z => 0 ≤ d.val * 1 + z ∧ d.val * 1 + z - 0 < D) w3).mpr ?_
        show 0 ≤ d.val * 1 + 0 ∧ d.val * 1 + 0 - 0 < D; omega
  · rw [dif_neg hw, dif_neg]
    intro hin
    have h2 := (congrArg (fun z => 15 ≤ i.val * 1 + z ∧ i.val * 1 + z - 15 < 16) w2).mp (hin 2)
    change 15 ≤ i.val * 1 + w.val ∧ _ at h2
    omega

/-- A number other than `⊤`, plus itself less itself, plus the difference of two such differences, is the number. -/
theorem split_add {x : EReal} (hx : x ≠ ⊤) : x + (x - x) + ((x - x) - (x - x)) = x := by
  induction x using EReal.rec with
  | bot => simp
  | coe r => norm_cast; simp
  | top => exact absurd rfl hx

/-- The running sum as the kernel takes it: the sums of a row's three parts. -/
theorem split_sum (x : Fin 16 → EReal) (hx : ∀ j, x j ≠ ⊤) (i : Fin 16) :
    (∑ j : Fin 16, if j ≤ i then x j else 0) + (∑ j : Fin 16, if j ≤ i then x j - x j else 0)
      + (∑ j : Fin 16, if j ≤ i then (x j - x j) - (x j - x j) else 0) = ∑ j : Fin 16, if j ≤ i then x j else 0 := by
  rw [← Finset.sum_add_distrib, ← Finset.sum_add_distrib]
  refine Finset.sum_congr rfl fun j _ => ?_
  split
  · exact split_add (hx j)
  · simp

/-- A sixteenth as a factor and as a divisor. -/
theorem div_sixteen (x : EReal) : Ideal.div x (Ideal.ofBits .f32 0x41800000#32) = x * Ideal.ofBits .f32 0x3D800000#32 := by
  have h1 : Ideal.ofBits .f32 0x41800000#32 = ((16 : ℝ) : EReal) := by
    simp [Ideal.ofBits, Ideal.ieee, -EReal.coe_mul]; norm_num
  have h2 : Ideal.ofBits .f32 0x3D800000#32 = ((1 / 16 : ℝ) : EReal) := by
    simp [Ideal.ofBits, Ideal.ieee, -EReal.coe_mul]; norm_num
  rw [h1, h2]
  rw [Ideal.div_coe (by norm_num)]

theorem log_one_add_nonneg {x : EReal} (hx : 0 ≤ x) : 0 ≤ Ideal.log (1 + x) := by
  induction x using EReal.rec with
  | bot => simp at hx
  | top => rw [show (1 : EReal) + ⊤ = ⊤ from EReal.coe_add_top 1]; exact le_top
  | coe r =>
    have hr : (0 : ℝ) ≤ r := by exact_mod_cast hx
    rw [show (1 : EReal) + (r : EReal) = ((1 + r : ℝ) : EReal) by norm_cast]
    show (0 : EReal) ≤ if 1 + r ≤ 0 then ⊥ else (Real.log (1 + r) : EReal)
    rw [if_neg (by linarith)]
    exact_mod_cast Real.log_nonneg (by linarith)

theorem exp_nonneg (x : EReal) : 0 ≤ Ideal.exp x := by
  induction x using EReal.rec with
  | bot => simp
  | top => simp
  | coe r => rw [Ideal.exp_coe]; exact_mod_cast (Real.exp_pos r).le

/-- A log decay is never `⊤`: it is at most zero. -/
theorem logDecay_ne_top (z : EReal) : OddSpec.logDecay z ≠ ⊤ := by
  unfold OddSpec.logDecay
  rw [div_sixteen]
  have hs : 0 ≤ max (-z) 0 + Ideal.log (1 + Ideal.exp (-(max (-z) (- -z)))) :=
    add_nonneg (le_max_right _ _) (log_one_add_nonneg (exp_nonneg _))
  generalize max (-z) 0 + Ideal.log (1 + Ideal.exp (-(max (-z) (- -z)))) = s at hs
  have h2 : Ideal.ofBits .f32 0x3D800000#32 = ((1 / 16 : ℝ) : EReal) := by
    simp [Ideal.ofBits, Ideal.ieee, -EReal.coe_mul]; norm_num
  rw [h2]
  induction s using EReal.rec with
  | bot => simp at hs
  | top => rw [EReal.neg_top, EReal.bot_mul_coe_of_pos (by norm_num)]; simp
  | coe r => exact_mod_cast EReal.coe_ne_top _

/-- A positive finite factor passes out of a sum. -/
theorem sum_mul_pos {N : Nat} (f : Fin N → EReal) {c : ℝ} (hc : 0 < c) :
    ∑ a, f a * (c : EReal) = (∑ a, f a) * (c : EReal) := by
  classical
  have key : ∀ s : Finset (Fin N), ∑ a ∈ s, f a * (c : EReal) = (∑ a ∈ s, f a) * (c : EReal) := by
    intro s
    induction s using Finset.induction_on with
    | empty => simp
    | insert a s ha ih =>
      rw [Finset.sum_insert ha, Finset.sum_insert ha, ih,
        EReal.right_distrib_of_nonneg_of_ne_top (by exact_mod_cast hc.le) (EReal.coe_ne_top c)]
  exact key _

/-- A score whose factors are decayed by finite logarithms `u` and `w` is the undecayed score times the decay between. -/
theorem score_decay {N : Nat} (q k : Fin N → EReal) (u w : ℝ) :
    ∑ a, (q a * Ideal.exp (u : EReal)) * (k a * Ideal.exp (-(w : EReal))) = (∑ a, q a * k a) * Ideal.exp ((u - w : ℝ) : EReal) := by
  rw [show -(w : EReal) = ((-w : ℝ) : EReal) by norm_cast, Ideal.exp_coe, Ideal.exp_coe, Ideal.exp_coe, ← sum_mul_pos _ (Real.exp_pos _)]
  refine Finset.sum_congr rfl fun a _ => ?_
  rw [mul_mul_mul_comm, ← EReal.coe_mul, ← Real.exp_add, sub_eq_add_neg]

end Cert.OddMath
-- ==== Proof.OddGla.lean ====
/- The gated linear attention of the odd layer kernel: its payloads read at an index are the mathematics of each head. -/
module

public import proofs.«01_k».proof.Proof.Gen.OddIdeal.Skeleton
public import proofs.«01_k».proof.Proof.OddMath
public import Idealize.ShloMosaic.Lib.Pipeline.ValueKit

set_option maxRecDepth 16384

@[expose] public section
noncomputable section

open Idealize.ShloMosaic Idealize.ShloMosaic.TcCoe Idealize.SL.Sem

namespace Cert.OddIdeal.Gla
open Cert.OddIdeal Cert.OddIdeal.Gen

/-! ## Words: the masks of the kernel -/

theorem sel_low {α : Type} (l : Fin 128) (a b : α) :
    Scalar.select (IntOp.cmpi CmpIPredicate.slt (BitVec.ofNat 32 l.val) 64#32) a b = if l.val < 64 then a else b := by
  have h : IntOp.cmpi CmpIPredicate.slt (BitVec.ofNat 32 l.val) 64#32 = if l.val < 64 then 1#1 else 0#1 :=
    (by decide +kernel : ∀ l : Fin 128, IntOp.cmpi CmpIPredicate.slt (BitVec.ofNat 32 l.val) 64#32 = if l.val < 64 then 1#1 else 0#1) l
  rw [h]; split <;> rfl

theorem sel_high {α : Type} (l : Fin 128) (a b : α) :
    Scalar.select (IntOp.xori (IntOp.cmpi CmpIPredicate.slt (BitVec.ofNat 32 l.val) 64#32) 1#1) a b = if l.val < 64 then b else a := by
  have h : IntOp.xori (IntOp.cmpi CmpIPredicate.slt (BitVec.ofNat 32 l.val) 64#32) 1#1 = if l.val < 64 then 0#1 else 1#1 :=
    (by decide +kernel : ∀ l : Fin 128, IntOp.xori (IntOp.cmpi CmpIPredicate.slt (BitVec.ofNat 32 l.val) 64#32) 1#1
      = if l.val < 64 then 0#1 else 1#1) l
  rw [h]; split <;> rfl

theorem sel_le {α : Type} (i j : Fin 16) (a b : α) :
    Scalar.select (IntOp.cmpi CmpIPredicate.sle (BitVec.ofNat 32 j.val) (BitVec.ofNat 32 i.val)) a b = if j ≤ i then a else b := by
  have h : IntOp.cmpi CmpIPredicate.sle (BitVec.ofNat 32 j.val) (BitVec.ofNat 32 i.val) = if j ≤ i then 1#1 else 0#1 :=
    (by decide +kernel : ∀ i j : Fin 16, IntOp.cmpi CmpIPredicate.sle (BitVec.ofNat 32 j.val) (BitVec.ofNat 32 i.val)
      = if j ≤ i then 1#1 else 0#1) i j
  rw [h]; split <;> rfl

/-- The triangular matrix of zeros and ones. -/
theorem tri (i j : Fin 16) :
    (FloatOps.sitofp (F := Ideal) FTy.f32 (BitVec.setWidth 32 (IntOp.andi
      (IntOp.cmpi CmpIPredicate.eq (IntOp.shrsi ArithUnit.vector (BitVec.ofNat 32 i.val) 4#32) (IntOp.shrsi ArithUnit.vector (BitVec.ofNat 32 j.val) 4#32))
      (IntOp.cmpi CmpIPredicate.sle (BitVec.ofNat 32 j.val) (BitVec.ofNat 32 i.val)))) : Ideal .f32) = if j ≤ i then (1 : EReal) else 0 := by
  have h : BitVec.setWidth 32 (IntOp.andi
      (IntOp.cmpi CmpIPredicate.eq (IntOp.shrsi ArithUnit.vector (BitVec.ofNat 32 i.val) 4#32) (IntOp.shrsi ArithUnit.vector (BitVec.ofNat 32 j.val) 4#32))
      (IntOp.cmpi CmpIPredicate.sle (BitVec.ofNat 32 j.val) (BitVec.ofNat 32 i.val))) = if j ≤ i then 1#32 else 0#32 :=
    (by decide +kernel : ∀ i j : Fin 16, BitVec.setWidth 32 (IntOp.andi
      (IntOp.cmpi CmpIPredicate.eq (IntOp.shrsi ArithUnit.vector (BitVec.ofNat 32 i.val) 4#32) (IntOp.shrsi ArithUnit.vector (BitVec.ofNat 32 j.val) 4#32))
      (IntOp.cmpi CmpIPredicate.sle (BitVec.ofNat 32 j.val) (BitVec.ofNat 32 i.val))) = if j ≤ i then 1#32 else 0#32) i j
  rw [h]
  change (((if j ≤ i then 1#32 else 0#32 : BitVec 32).toInt : ℝ) : EReal) = _
  split <;> simp

/-! ## The gate -/

/-- The log decay of a token and a feature. -/
theorem pay5_at (x2 : FVec Ideal S1x16x128 .f32) (x5 : FVec Ideal S128x256 .bf16) (x6 : FVec Ideal S1x256 .f32) (i : Fin 16) (n : Fin 256) :
    k0_pay5 (F := Ideal) x2 x5 x6 (ix2 i n)
      = OddSpec.logDecay (∑ k : Fin 128, x2 (ix3 0 i k) * x5 (ix2 k n) + x6 (ix2 0 n)) := by
  unfold OddSpec.logDecay
  rw [OddMath.div_sixteen]
  pointwise [k0_pay5]
  simp only [zero_sub]
  rfl

/-- The running sum of the log decays. -/
theorem pay11_at (L : FVec Ideal S16x256 .f32) (hL : ∀ j n, L (ix2 j n) ≠ ⊤) (i : Fin 16) (n : Fin 256) :
    k0_pay11 (F := Ideal) L (ix2 i n) = ∑ j : Fin 16, if j ≤ i then L (ix2 j n) else 0 := by
  pointwise [k0_pay11]
  simp only [tri, ite_mul, one_mul, zero_mul]
  exact OddMath.split_sum (fun j => L (ix2 j n)) (fun j => hL j n) i

theorem pay12_at (L : FVec Ideal S16x256 .f32) (i : Fin 16) (n : Fin 256) :
    k0_pay12 (F := Ideal) L (ix2 i n) = k0_pay11 (F := Ideal) L (ix2 15 n) := by
  pointwise [k0_pay12]

/-! ## A head's rows -/

/-- Head `h`'s scaled query. -/
def q (Q : FVec Ideal S16x512 .f32) (h : Fin 4) (i : Fin 16) (a : Fin 64) : EReal :=
  Q (ix2 i ⟨h.val * 64 + a.val, by omega⟩) * Ideal.ofBits .f32 0x3E000000#32

/-- Head `h`'s key. -/
def k (Q : FVec Ideal S16x512 .f32) (h : Fin 4) (i : Fin 16) (a : Fin 64) : EReal :=
  Q (ix2 i ⟨256 + (h.val * 64 + a.val), by omega⟩)

/-- Head `h`'s running log decay. -/
def c (C : FVec Ideal S16x256 .f32) (h : Fin 4) (i : Fin 16) (a : Fin 64) : EReal :=
  C (ix2 i ⟨h.val * 64 + a.val, by omega⟩)

/-- Head `h`'s value. -/
def v (V : FVec Ideal S16x512 .bf16) (h : Fin 4) (j : Fin 16) (e : Fin 128) : EReal :=
  V (ix2 j ⟨h.val * 128 + e.val, by omega⟩)

/-- The state of the pair's lower and upper head, held transposed side by side. -/
def sLo (S : FVec Ideal S1x1x128x128 .f32) (a : Fin 64) (e : Fin 128) : EReal := S (ix4 0 0 e ⟨a.val, by omega⟩)
def sHi (S : FVec Ideal S1x1x128x128 .f32) (a : Fin 64) (e : Fin 128) : EReal := S (ix4 0 0 e ⟨64 + a.val, by omega⟩)

/-- Head 0's causal scores. -/
theorem score0 (Q : FVec Ideal S16x512 .f32) (L : FVec Ideal S16x256 .f32) (i j : Fin 16) :
    k0_pay28 (F := Ideal) k0_pay9 k0_pay10 (k0_pay13 Q L) (k0_pay14 Q L) (ix2 i j)
      = OddSpec.score (q Q 0) (k Q 0) (c (k0_pay11 L) 0) i j := by
  pointwise [k0_pay28, k0_pay18, k0_pay9, k0_pay10, k0_pay13, k0_pay14, OddSpec.score, q, k, c]
  simp only [sel_low, sel_high, sel_le]
  rw [OddMath.sum_low _ (fun l h => if_neg h)]
  simp only [Fin.isLt, if_true, zero_sub, Nat.zero_mul, Nat.zero_add, ← Nat.add_assoc, Nat.reduceAdd, Nat.reduceMul]

/-- Head 0's query against the pair's state: the other head's lanes are masked away. -/
theorem inter0 (Q : FVec Ideal S16x512 .f32) (L : FVec Ideal S16x256 .f32) (S : Fin 128 → EReal) (i : Fin 16) :
    ∑ l : Fin 128, k0_pay18 (F := Ideal) k0_pay10 (k0_pay13 Q L) (ix2 i l) * S l
      = ∑ a : Fin 64, (q Q 0 i a * Ideal.exp (c (k0_pay11 L) 0 i a)) * S ⟨a.val, by omega⟩ := by
  pointwise [k0_pay28, k0_pay18, k0_pay10, k0_pay13, q, c]
  simp only [sel_low, sel_high]
  rw [OddMath.sum_low _ (fun l h => if_neg h)]
  simp only [Fin.isLt, if_true, Nat.zero_mul, Nat.zero_add, ← Nat.add_assoc, Nat.reduceAdd, Nat.reduceMul]

/-- Head 1's causal scores. -/
theorem score1 (Q : FVec Ideal S16x512 .f32) (L : FVec Ideal S16x256 .f32) (i j : Fin 16) :
    k0_pay31 (F := Ideal) k0_pay9 (k0_pay29 k0_pay10 (k0_pay13 Q L) (k0_pay14 Q L)) k0_pay30 (ix2 i j)
      = OddSpec.score (q Q 1) (k Q 1) (c (k0_pay11 L) 1) i j := by
  pointwise [k0_pay31, k0_pay29, k0_pay30, k0_pay21, k0_pay20, k0_pay9, k0_pay10, k0_pay13, k0_pay14, OddSpec.score, q, k, c]
  simp only [sel_low, sel_high, sel_le]
  rw [OddMath.sum_high _ (fun l h => if_pos h)]
  simp only [Nat.not_lt.mpr (Nat.le_add_right 64 _), if_false, zero_sub, Nat.zero_mul, Nat.zero_add, ← Nat.add_assoc, Nat.reduceAdd, Nat.reduceMul]

/-- Head 1's query against the pair's state: the other head's lanes are masked away. -/
theorem inter1 (Q : FVec Ideal S16x512 .f32) (L : FVec Ideal S16x256 .f32) (S : Fin 128 → EReal) (i : Fin 16) :
    ∑ l : Fin 128, k0_pay21 (F := Ideal) k0_pay10 (k0_pay13 Q L) (ix2 i l) * S l
      = ∑ a : Fin 64, (q Q 1 i a * Ideal.exp (c (k0_pay11 L) 1 i a)) * S ⟨64 + a.val, by omega⟩ := by
  pointwise [k0_pay31, k0_pay29, k0_pay30, k0_pay21, k0_pay20, k0_pay10, k0_pay13, q, c]
  simp only [sel_low, sel_high]
  rw [OddMath.sum_high _ (fun l h => if_pos h)]
  simp only [Nat.not_lt.mpr (Nat.le_add_right 64 _), if_false, Nat.zero_mul, Nat.zero_add, ← Nat.add_assoc, Nat.reduceAdd, Nat.reduceMul]

/-- Head 2's causal scores. -/
theorem score2 (Q : FVec Ideal S16x512 .f32) (L : FVec Ideal S16x256 .f32) (i j : Fin 16) :
    k0_pay32 (F := Ideal) k0_pay9 (k0_pay14 Q L) (k0_pay23 k0_pay10 (k0_pay13 Q L)) (ix2 i j)
      = OddSpec.score (q Q 2) (k Q 2) (c (k0_pay11 L) 2) i j := by
  pointwise [k0_pay32, k0_pay23, k0_pay9, k0_pay10, k0_pay13, k0_pay14, OddSpec.score, q, k, c]
  simp only [sel_low, sel_high, sel_le]
  rw [OddMath.sum_low _ (fun l h => if_neg h)]
  simp only [Fin.isLt, if_true, zero_sub, Nat.zero_mul, Nat.zero_add, ← Nat.add_assoc, Nat.reduceAdd, Nat.reduceMul]

/-- Head 2's query against the pair's state: the other head's lanes are masked away. -/
theorem inter2 (Q : FVec Ideal S16x512 .f32) (L : FVec Ideal S16x256 .f32) (S : Fin 128 → EReal) (i : Fin 16) :
    ∑ l : Fin 128, k0_pay23 (F := Ideal) k0_pay10 (k0_pay13 Q L) (ix2 i l) * S l
      = ∑ a : Fin 64, (q Q 2 i a * Ideal.exp (c (k0_pay11 L) 2 i a)) * S ⟨a.val, by omega⟩ := by
  pointwise [k0_pay32, k0_pay23, k0_pay10, k0_pay13, q, c]
  simp only [sel_low, sel_high]
  rw [OddMath.sum_low _ (fun l h => if_neg h)]
  simp only [Fin.isLt, if_true, Nat.zero_mul, Nat.zero_add, ← Nat.add_assoc, Nat.reduceAdd, Nat.reduceMul]

/-- Head 3's causal scores. -/
theorem score3 (Q : FVec Ideal S16x512 .f32) (L : FVec Ideal S16x256 .f32) (i j : Fin 16) :
    k0_pay33 (F := Ideal) k0_pay9 (k0_pay14 Q L) (k0_pay26 k0_pay10 (k0_pay13 Q L)) (ix2 i j)
      = OddSpec.score (q Q 3) (k Q 3) (c (k0_pay11 L) 3) i j := by
  pointwise [k0_pay33, k0_pay26, k0_pay25, k0_pay9, k0_pay10, k0_pay13, k0_pay14, OddSpec.score, q, k, c]
  simp only [sel_low, sel_high, sel_le]
  rw [OddMath.sum_high _ (fun l h => if_pos h)]
  simp only [Nat.not_lt.mpr (Nat.le_add_right 64 _), if_false, zero_sub, Nat.zero_mul, Nat.zero_add, ← Nat.add_assoc, Nat.reduceAdd, Nat.reduceMul]

/-- Head 3's query against the pair's state: the other head's lanes are masked away. -/
theorem inter3 (Q : FVec Ideal S16x512 .f32) (L : FVec Ideal S16x256 .f32) (S : Fin 128 → EReal) (i : Fin 16) :
    ∑ l : Fin 128, k0_pay26 (F := Ideal) k0_pay10 (k0_pay13 Q L) (ix2 i l) * S l
      = ∑ a : Fin 64, (q Q 3 i a * Ideal.exp (c (k0_pay11 L) 3 i a)) * S ⟨64 + a.val, by omega⟩ := by
  pointwise [k0_pay33, k0_pay26, k0_pay25, k0_pay10, k0_pay13, q, c]
  simp only [sel_low, sel_high]
  rw [OddMath.sum_high _ (fun l h => if_pos h)]
  simp only [Nat.not_lt.mpr (Nat.le_add_right 64 _), if_false, Nat.zero_mul, Nat.zero_add, ← Nat.add_assoc, Nat.reduceAdd, Nat.reduceMul]

/-- The state of the pair of heads 0 and 1 after the sequence. -/
theorem state01 (V : FVec Ideal S16x512 .bf16) (Q : FVec Ideal S16x512 .f32) (L : FVec Ideal S16x256 .f32) (S : FVec Ideal S1x1x128x128 .f32) (e l : Fin 128) :
    k0_pay39 (F := Ideal) V (k0_pay17 (k0_pay12 L)) (k0_pay19 k0_pay10 (k0_pay11 L) (k0_pay12 L) (k0_pay15 Q)) (k0_pay22 k0_pay10 (k0_pay11 L) (k0_pay12 L) (k0_pay15 Q)) S (ix4 0 0 e l)
      = if h : l.val < 64 then OddSpec.state (k Q 0) (c (k0_pay11 L) 0) (v V 0) (sLo S) ⟨l.val, h⟩ e
        else OddSpec.state (k Q 1) (c (k0_pay11 L) 1) (v V 1) (sHi S) ⟨l.val - 64, by omega⟩ e := by
  pointwise [k0_pay39, k0_pay34, k0_pay19, k0_pay22, k0_pay20, k0_pay10, k0_pay17, k0_pay16, k0_pay15, OddSpec.state, k, c, v, sLo, sHi]
  simp only [sel_low, sel_high, pay12_at]
  by_cases hl : l.val < 64
  · simp only [hl, if_true, dif_pos, Finset.sum_const_zero, add_zero, mul_comm (V _), Nat.zero_mul, Nat.zero_add, ← Nat.add_assoc, Nat.reduceAdd, Nat.reduceMul]
  · have h1 : 64 + (l.val - 64) = l.val := by omega
    have h2 : 192 + (l.val - 64) = 128 + l.val := by omega
    have h3 : 448 + (l.val - 64) = 384 + l.val := by omega
    have h4 : 320 + (l.val - 64) = 256 + l.val := by omega
    simp only [hl, if_false, dif_neg, not_false_eq_true, Finset.sum_const_zero, add_zero, mul_comm (V _), h1, h2, h3, h4, Nat.zero_mul, Nat.zero_add, ← Nat.add_assoc, Nat.reduceAdd, Nat.reduceMul]

/-- The state of the pair of heads 2 and 3 after the sequence. -/
theorem state23 (V : FVec Ideal S16x512 .bf16) (Q : FVec Ideal S16x512 .f32) (L : FVec Ideal S16x256 .f32) (S : FVec Ideal S1x1x128x128 .f32) (e l : Fin 128) :
    k0_pay40 (F := Ideal) (k0_pay38 V (k0_pay17 (k0_pay12 L)) (k0_pay24 k0_pay10 (k0_pay11 L) (k0_pay12 L) (k0_pay15 Q)) (k0_pay27 k0_pay10 (k0_pay11 L) (k0_pay12 L) (k0_pay15 Q)) S) (ix4 0 0 e l)
      = if h : l.val < 64 then OddSpec.state (k Q 2) (c (k0_pay11 L) 2) (v V 2) (sLo S) ⟨l.val, h⟩ e
        else OddSpec.state (k Q 3) (c (k0_pay11 L) 3) (v V 3) (sHi S) ⟨l.val - 64, by omega⟩ e := by
  pointwise [k0_pay40, k0_pay38, k0_pay35, k0_pay24, k0_pay27, k0_pay25, k0_pay10, k0_pay17, k0_pay16, k0_pay15, OddSpec.state, k, c, v, sLo, sHi]
  simp only [sel_low, sel_high, pay12_at]
  by_cases hl : l.val < 64
  · simp only [hl, if_true, dif_pos, Finset.sum_const_zero, add_zero, mul_comm (V _), Nat.zero_mul, Nat.zero_add, ← Nat.add_assoc, Nat.reduceAdd, Nat.reduceMul]
  · have h1 : 64 + (l.val - 64) = l.val := by omega
    have h2 : 192 + (l.val - 64) = 128 + l.val := by omega
    have h3 : 448 + (l.val - 64) = 384 + l.val := by omega
    have h4 : 320 + (l.val - 64) = 256 + l.val := by omega
    simp only [hl, if_false, dif_neg, not_false_eq_true, Finset.sum_const_zero, add_zero, mul_comm (V _), h1, h2, h3, h4, Nat.zero_mul, Nat.zero_add, ← Nat.add_assoc, Nat.reduceAdd, Nat.reduceMul]

/-- Head 0's output: the attention normalised, weighted and gated. -/
theorem out0 (V : FVec Ideal S16x512 .bf16) (G : FVec Ideal S16x512 .f32) (W : FVec Ideal S1x128 .f32) (Q : FVec Ideal S16x512 .f32) (L : FVec Ideal S16x256 .f32) (S : FVec Ideal S1x1x128x128 .f32)
    (i : Fin 16) (e : Fin 128) :
    k0_pay41 (F := Ideal) V G W (k0_pay18 k0_pay10 (k0_pay13 Q L)) (k0_pay28 k0_pay9 k0_pay10 (k0_pay13 Q L) (k0_pay14 Q L)) (k0_pay36 S) (ix3 0 i e)
      = OddSpec.headRms (OddSpec.out (q Q 0) (k Q 0) (c (k0_pay11 L) 0) (v V 0) (sLo S) i) (fun e => W (ix2 0 e)) e
          * Spec.silu (G (ix2 i ⟨0 * 128 + e.val, by omega⟩)) := by
  unfold OddSpec.headRms OddSpec.out Spec.silu
  pointwise [k0_pay41, k0_pay36, k0_pay34]
  simp only [inter0, score0, Spec.half_tanh, v, sLo, Fin.isValue, Fin.val_zero, Fin.val_one, Fin.val_two, Nat.zero_mul, Nat.zero_add, ← Nat.add_assoc, Nat.reduceAdd, Nat.reduceMul]
  first | done | rfl | trace_state

/-- Head 1's output: the attention normalised, weighted and gated. -/
theorem out1 (V : FVec Ideal S16x512 .bf16) (G : FVec Ideal S16x512 .f32) (W : FVec Ideal S1x128 .f32) (Q : FVec Ideal S16x512 .f32) (L : FVec Ideal S16x256 .f32) (S : FVec Ideal S1x1x128x128 .f32)
    (i : Fin 16) (e : Fin 128) :
    k0_pay44 (F := Ideal) G W (k0_pay42 V (k0_pay21 k0_pay10 (k0_pay13 Q L)) (k0_pay31 k0_pay9 (k0_pay29 k0_pay10 (k0_pay13 Q L) (k0_pay14 Q L)) k0_pay30) (k0_pay36 S)) (k0_pay43 V (k0_pay21 k0_pay10 (k0_pay13 Q L)) (k0_pay31 k0_pay9 (k0_pay29 k0_pay10 (k0_pay13 Q L) (k0_pay14 Q L)) k0_pay30) (k0_pay36 S)) (ix3 0 i e)
      = OddSpec.headRms (OddSpec.out (q Q 1) (k Q 1) (c (k0_pay11 L) 1) (v V 1) (sHi S) i) (fun e => W (ix2 0 e)) e
          * Spec.silu (G (ix2 i ⟨1 * 128 + e.val, by omega⟩)) := by
  unfold OddSpec.headRms OddSpec.out Spec.silu
  pointwise [k0_pay44, k0_pay43, k0_pay42, k0_pay36, k0_pay34]
  simp only [inter1, score1, Spec.half_tanh, v, sHi, Fin.isValue, Fin.val_zero, Fin.val_one, Fin.val_two, Nat.zero_mul, Nat.zero_add, ← Nat.add_assoc, Nat.reduceAdd, Nat.reduceMul]
  first | done | rfl | trace_state

/-- Head 2's output: the attention normalised, weighted and gated. -/
theorem out2 (V : FVec Ideal S16x512 .bf16) (G : FVec Ideal S16x512 .f32) (W : FVec Ideal S1x128 .f32) (Q : FVec Ideal S16x512 .f32) (L : FVec Ideal S16x256 .f32) (S : FVec Ideal S1x1x128x128 .f32)
    (i : Fin 16) (e : Fin 128) :
    k0_pay49 (F := Ideal) (k0_pay45 V W (k0_pay23 k0_pay10 (k0_pay13 Q L)) (k0_pay32 k0_pay9 (k0_pay14 Q L) (k0_pay23 k0_pay10 (k0_pay13 Q L))) (k0_pay37 S)) (k0_pay46 G) (k0_pay47 G) k0_pay48 (ix3 0 i e)
      = OddSpec.headRms (OddSpec.out (q Q 2) (k Q 2) (c (k0_pay11 L) 2) (v V 2) (sLo S) i) (fun e => W (ix2 0 e)) e
          * Spec.silu (G (ix2 i ⟨2 * 128 + e.val, by omega⟩)) := by
  unfold OddSpec.headRms OddSpec.out Spec.silu
  pointwise [k0_pay49, k0_pay45, k0_pay46, k0_pay47, k0_pay48, k0_pay37, k0_pay35]
  simp only [inter2, score2, Spec.half_tanh, v, sLo, Fin.isValue, Fin.val_zero, Fin.val_one, Fin.val_two, Nat.zero_mul, Nat.zero_add, ← Nat.add_assoc, Nat.reduceAdd, Nat.reduceMul]
  first | done | rfl | trace_state

/-- Head 3's output: the attention normalised, weighted and gated. -/
theorem out3 (V : FVec Ideal S16x512 .bf16) (G : FVec Ideal S16x512 .f32) (W : FVec Ideal S1x128 .f32) (Q : FVec Ideal S16x512 .f32) (L : FVec Ideal S16x256 .f32) (S : FVec Ideal S1x1x128x128 .f32)
    (i : Fin 16) (e : Fin 128) :
    k0_pay50 (F := Ideal) V G W (k0_pay26 k0_pay10 (k0_pay13 Q L)) (k0_pay33 k0_pay9 (k0_pay14 Q L) (k0_pay26 k0_pay10 (k0_pay13 Q L))) (k0_pay37 S) (ix3 0 i e)
      = OddSpec.headRms (OddSpec.out (q Q 3) (k Q 3) (c (k0_pay11 L) 3) (v V 3) (sHi S) i) (fun e => W (ix2 0 e)) e
          * Spec.silu (G (ix2 i ⟨3 * 128 + e.val, by omega⟩)) := by
  unfold OddSpec.headRms OddSpec.out Spec.silu
  pointwise [k0_pay50, k0_pay37, k0_pay35]
  simp only [inter3, score3, Spec.half_tanh, v, sHi, Fin.isValue, Fin.val_zero, Fin.val_one, Fin.val_two, Nat.zero_mul, Nat.zero_add, ← Nat.add_assoc, Nat.reduceAdd, Nat.reduceMul]
  first | done | rfl | trace_state

end Cert.OddIdeal.Gla
-- ==== Proof.OddRet.lean ====
/- The retention of the odd layer kernel: its payloads read at an index are the mathematics of each head. -/
module

public import proofs.«01_k».proof.Proof.Gen.OddIdeal.Skeleton
public import proofs.«01_k».proof.Proof.OddGla
public import Idealize.ShloMosaic.Lib.Pipeline.ValueKit

set_option maxRecDepth 16384

@[expose] public section
noncomputable section

open Idealize.ShloMosaic Idealize.ShloMosaic.TcCoe Idealize.SL.Sem

namespace Cert.OddIdeal.Ret
open Cert.OddIdeal Cert.OddIdeal.Gen
open Cert.OddIdeal.Gla (sel_le v)

/-! ## The decays -/

/-- The named constant is the logarithm of head 0's decay. -/
theorem log_decay0 : (Named.named (F := Ideal) κ "log_decay0" (φ := .f32) 0xBD020AEC#32 : EReal) = ((OddSpec.logGamma 0 : ℝ) : EReal) := by
  rw [show (Named.named (F := Ideal) κ "log_decay0" (φ := .f32) 0xBD020AEC#32 : EReal) = ((Real.log (31 / 32) : ℝ) : EReal) from
    IdealRules.named_const.ideal_named_scalar _ _ _ _ rfl]
  have h : (1 - 1 / 2 ^ (5 + (0 : Fin 4).val) : ℝ) = 31 / 32 := by norm_num
  rw [OddSpec.logGamma, h]

/-- The named constant is head 0's decay over sixteen tokens. -/
theorem block_decay0 : (Named.named (F := Ideal) κ "block_decay0" (φ := .f32) 0x3F1A09B0#32 : EReal) = Ideal.exp (OddSpec.retCum 0 15) := by
  rw [show (Named.named (F := Ideal) κ "block_decay0" (φ := .f32) 0x3F1A09B0#32 : EReal) = ((727423121747185263828481 / 1208925819614629174706176 : ℝ) : EReal) from
    IdealRules.named_const.ideal_named_scalar _ _ _ _ rfl]
  have h : (1 - 1 / 2 ^ (5 + (0 : Fin 4).val) : ℝ) = 31 / 32 := by norm_num
  have h15 : ((((15 : Fin 16).val + 1 : ℕ) : ℝ)) = ((16 : ℕ) : ℝ) := rfl
  rw [OddSpec.retCum, OddSpec.logGamma, h, h15, Ideal.exp_coe, Real.exp_nat_mul, Real.exp_log (by norm_num)]
  norm_num

/-- The named constant is the logarithm of head 1's decay. -/
theorem log_decay1 : (Named.named (F := Ideal) κ "log_decay1" (φ := .f32) 0xBC8102B3#32 : EReal) = ((OddSpec.logGamma 1 : ℝ) : EReal) := by
  rw [show (Named.named (F := Ideal) κ "log_decay1" (φ := .f32) 0xBC8102B3#32 : EReal) = ((Real.log (63 / 64) : ℝ) : EReal) from
    IdealRules.named_const.ideal_named_scalar _ _ _ _ rfl]
  have h : (1 - 1 / 2 ^ (5 + (1 : Fin 4).val) : ℝ) = 63 / 64 := by norm_num
  rw [OddSpec.logGamma, h]

/-- The named constant is head 1's decay over sixteen tokens. -/
theorem block_decay1 : (Named.named (F := Ideal) κ "block_decay1" (φ := .f32) 0x3F46FADA#32 : EReal) = Ideal.exp (OddSpec.retCum 1 15) := by
  rw [show (Named.named (F := Ideal) κ "block_decay1" (φ := .f32) 0x3F46FADA#32 : EReal) = ((61581291280182164914327485441 / 79228162514264337593543950336 : ℝ) : EReal) from
    IdealRules.named_const.ideal_named_scalar _ _ _ _ rfl]
  have h : (1 - 1 / 2 ^ (5 + (1 : Fin 4).val) : ℝ) = 63 / 64 := by norm_num
  have h15 : ((((15 : Fin 16).val + 1 : ℕ) : ℝ)) = ((16 : ℕ) : ℝ) := rfl
  rw [OddSpec.retCum, OddSpec.logGamma, h, h15, Ideal.exp_coe, Real.exp_nat_mul, Real.exp_log (by norm_num)]
  norm_num

/-- The named constant is the logarithm of head 2's decay. -/
theorem log_decay2 : (Named.named (F := Ideal) κ "log_decay2" (φ := .f32) 0xBC0080AC#32 : EReal) = ((OddSpec.logGamma 2 : ℝ) : EReal) := by
  rw [show (Named.named (F := Ideal) κ "log_decay2" (φ := .f32) 0xBC0080AC#32 : EReal) = ((Real.log (127 / 128) : ℝ) : EReal) from
    IdealRules.named_const.ideal_named_scalar _ _ _ _ rfl]
  have h : (1 - 1 / 2 ^ (5 + (2 : Fin 4).val) : ℝ) = 127 / 128 := by norm_num
  rw [OddSpec.logGamma, h]

/-- The named constant is head 2's decay over sixteen tokens. -/
theorem block_decay2 : (Named.named (F := Ideal) κ "block_decay2" (φ := .f32) 0x3F61CEF0#32 : EReal) = Ideal.exp (OddSpec.retCum 2 15) := by
  rw [show (Named.named (F := Ideal) κ "block_decay2" (φ := .f32) 0x3F61CEF0#32 : EReal) = ((4579937329576774398276408998492161 / 5192296858534827628530496329220096 : ℝ) : EReal) from
    IdealRules.named_const.ideal_named_scalar _ _ _ _ rfl]
  have h : (1 - 1 / 2 ^ (5 + (2 : Fin 4).val) : ℝ) = 127 / 128 := by norm_num
  have h15 : ((((15 : Fin 16).val + 1 : ℕ) : ℝ)) = ((16 : ℕ) : ℝ) := rfl
  rw [OddSpec.retCum, OddSpec.logGamma, h, h15, Ideal.exp_coe, Real.exp_nat_mul, Real.exp_log (by norm_num)]
  norm_num

/-- The named constant is the logarithm of head 3's decay. -/
theorem log_decay3 : (Named.named (F := Ideal) κ "log_decay3" (φ := .f32) 0xBB80402B#32 : EReal) = ((OddSpec.logGamma 3 : ℝ) : EReal) := by
  rw [show (Named.named (F := Ideal) κ "log_decay3" (φ := .f32) 0xBB80402B#32 : EReal) = ((Real.log (255 / 256) : ℝ) : EReal) from
    IdealRules.named_const.ideal_named_scalar _ _ _ _ rfl]
  have h : (1 - 1 / 2 ^ (5 + (3 : Fin 4).val) : ℝ) = 255 / 256 := by norm_num
  rw [OddSpec.logGamma, h]

/-- The named constant is head 3's decay over sixteen tokens. -/
theorem block_decay3 : (Named.named (F := Ideal) κ "block_decay3" (φ := .f32) 0x3F7075D7#32 : EReal) = Ideal.exp (OddSpec.retCum 3 15) := by
  rw [show (Named.named (F := Ideal) κ "block_decay3" (φ := .f32) 0x3F7075D7#32 : EReal) = ((319626579315078487616775634918212890625 / 340282366920938463463374607431768211456 : ℝ) : EReal) from
    IdealRules.named_const.ideal_named_scalar _ _ _ _ rfl]
  have h : (1 - 1 / 2 ^ (5 + (3 : Fin 4).val) : ℝ) = 255 / 256 := by norm_num
  have h15 : ((((15 : Fin 16).val + 1 : ℕ) : ℝ)) = ((16 : ℕ) : ℝ) := rfl
  rw [OddSpec.retCum, OddSpec.logGamma, h, h15, Ideal.exp_coe, Real.exp_nat_mul, Real.exp_log (by norm_num)]
  norm_num

theorem pos_real (i : Fin 16) : (FloatOps.sitofp (F := Ideal) FTy.f32 (BitVec.ofNat 32 i.val) : EReal) = ((i.val : ℝ) : EReal) := by
  change (((BitVec.ofNat 32 i.val).toInt : ℝ) : EReal) = _
  rw [(by decide +kernel : ∀ i : Fin 16, (BitVec.ofNat 32 i.val).toInt = (i.val : Int)) i]
  norm_cast

/-- The decay up to and including token `i`. -/
theorem in_decay (h : Fin 4) (i : Fin 16) :
    ((FloatOps.sitofp (F := Ideal) FTy.f32 (BitVec.ofNat 32 i.val) : EReal) + 1) * ((OddSpec.logGamma h : ℝ) : EReal) = OddSpec.retCum h i := by
  rw [pos_real, show ((i.val : ℝ) : EReal) + 1 = ((i.val + 1 : ℝ) : EReal) by norm_cast, ← EReal.coe_mul, OddSpec.retCum]
  push_cast
  rfl

theorem fifteen : Ideal.ofBits .f32 0x41700000#32 = ((15 : ℝ) : EReal) := by
  simp [Ideal.ofBits, Ideal.ieee, -EReal.coe_mul]; norm_num

/-- The decay from token `i` to the sequence's end. -/
theorem out_decay (h : Fin 4) (i : Fin 16) :
    (Ideal.ofBits .f32 0x41700000#32 - (FloatOps.sitofp (F := Ideal) FTy.f32 (BitVec.ofNat 32 i.val) : EReal)) * ((OddSpec.logGamma h : ℝ) : EReal)
      = OddSpec.retCum h 15 - OddSpec.retCum h i := by
  rw [pos_real, fifteen, ← EReal.coe_sub, ← EReal.coe_mul, OddSpec.retCum, OddSpec.retCum, ← EReal.coe_sub]
  congr 1
  have h15 : ((((15 : Fin 16).val + 1 : ℕ) : ℝ)) = ((16 : ℕ) : ℝ) := rfl
  rw [h15]
  push_cast
  ring

theorem dist_word (i j : Fin 16) (h : j ≤ i) : (IntOp.subi (BitVec.ofNat 32 i.val) (BitVec.ofNat 32 j.val)).toInt = (i.val : Int) - (j.val : Int) :=
  (by decide +kernel : ∀ i j : Fin 16, j ≤ i → (IntOp.subi (BitVec.ofNat 32 i.val) (BitVec.ofNat 32 j.val)).toInt = (i.val : Int) - (j.val : Int)) i j h

/-- A causal score is the undecayed score times the decay between the two tokens. -/
theorem score_eq (h : Fin 4) (q k : Fin 16 → Fin 128 → EReal) (i j : Fin 16) :
    (∑ a : Fin 128, q i a * k j a)
      * (if j ≤ i then Ideal.exp ((FloatOps.sitofp (F := Ideal) FTy.f32
          (if j ≤ i then IntOp.subi (BitVec.ofNat 32 i.val) (BitVec.ofNat 32 j.val) else 0#32) : EReal) * ((OddSpec.logGamma h : ℝ) : EReal)) else 0)
      = OddSpec.score q k (fun i _ => OddSpec.retCum h i) i j := by
  unfold OddSpec.score
  by_cases hij : j ≤ i
  · simp only [hij, if_true]
    change _ * Ideal.exp ((((IntOp.subi (BitVec.ofNat 32 i.val) (BitVec.ofNat 32 j.val)).toInt : ℝ) : EReal) * _) = _
    rw [dist_word i j hij, ← EReal.coe_mul]
    refine Eq.trans ?_ (OddMath.score_decay (q i) (k j) _ _).symm
    congr 3
    push_cast
    ring
  · simp only [hij, if_false, mul_zero]

/-! ## A head's rows -/

/-- Head `h`'s row turned by the tables of cosines and signed sines. -/
def r (X : FVec Ideal S1x16x512 .f32) (c s : FVec Ideal S16x128 .f32) (h : Fin 4) (i : Fin 16) (a : Fin 128) : EReal :=
  X (ix3 0 i ⟨h.val * 128 + a.val, by omega⟩) * c (ix2 i a) + X (ix3 0 i ⟨h.val * 128 + (a.val + 128 - 64) % 128, by omega⟩) * s (ix2 i a)

/-- Head `h`'s scaled key. -/
def k (X : FVec Ideal S1x16x512 .f32) (c s : FVec Ideal S16x128 .f32) (h : Fin 4) (i : Fin 16) (a : Fin 128) : EReal :=
  r X c s h i a * Ideal.ofBits .f32 0x3DB504F3#32

/-- Head `h`'s state. -/
def st (S : FVec Ideal S1x1x128x128 .f32) (a e : Fin 128) : EReal := S (ix4 0 0 a e)

/-- Head 0's query decayed from the sequence's start. -/
theorem qin0 (x12 x13 : FVec Ideal S16x128 .f32) (x8 : FVec Ideal S1x16x512 .f32) (i : Fin 16) (a : Fin 128) :
    k0_pay66 (F := Ideal) k0_pay59 (k0_pay60 (k0_pay51 x12) x13 x8) k0_pay63 (ix2 i a) = r x8 x12 x13 0 i a * Ideal.exp (OddSpec.retCum 0 i) := by
  rw [← in_decay]
  pointwise [k0_pay66, k0_pay63, k0_pay60, k0_pay51, k0_pay52, k0_pay53, k0_pay54, k0_pay57, k0_pay58, k0_pay59, r]
  simp only [log_decay0]

/-- Head 0's causal scores. -/
theorem score0 (x12 x13 : FVec Ideal S16x128 .f32) (x8 x9 : FVec Ideal S1x16x512 .f32) (i j : Fin 16) :
    k0_pay87 (F := Ideal) k0_pay62 (k0_pay64 (k0_pay60 (k0_pay51 x12) x13 x8)) (k0_pay65 (k0_pay61 (k0_pay51 x12) x13 x9)) (ix2 i j)
      = OddSpec.score (r x8 x12 x13 0) (k x9 x12 x13 0) (fun i _ => OddSpec.retCum 0 i) i j := by
  rw [← score_eq]
  pointwise [k0_pay87, k0_pay62, k0_pay64, k0_pay65, k0_pay60, k0_pay61, k0_pay51, k0_pay52, k0_pay53, k0_pay54, k0_pay57, k0_pay58, k0_pay59, r, k]
  simp only [log_decay0, sel_le, mul_ite, mul_zero]

/-- Head 0's state after the sequence. -/
theorem state0 (V : FVec Ideal S16x512 .bf16) (x12 x13 : FVec Ideal S16x128 .f32) (x9 : FVec Ideal S1x16x512 .f32) (S : FVec Ideal S1x1x128x128 .f32) (a e : Fin 128) :
    k0_pay105 (F := Ideal) (k0_pay91 V (k0_pay67 k0_pay59 (k0_pay61 (k0_pay51 x12) x13 x9))) S (ix4 0 0 a e)
      = OddSpec.state (k x9 x12 x13 0) (fun i _ => OddSpec.retCum 0 i) (v V 0) (st S) a e := by
  unfold OddSpec.state
  simp only [← out_decay, ← block_decay0, ← log_decay0]
  pointwise [k0_pay105, k0_pay91, k0_pay67, k0_pay95, k0_pay61, k0_pay51, k0_pay52, k0_pay53, k0_pay54, k0_pay57, k0_pay58, k0_pay59, r, k, v, st]

/-- Head 0's output: the retention normalised and gated. -/
theorem out0 (V : FVec Ideal S16x512 .bf16) (G : FVec Ideal S16x512 .f32) (x12 x13 : FVec Ideal S16x128 .f32) (x8 x9 : FVec Ideal S1x16x512 .f32)
    (S : FVec Ideal S1x1x128x128 .f32) (i : Fin 16) (e : Fin 128) :
    k0_pay110 (F := Ideal) (k0_pay109 V G (k0_pay66 k0_pay59 (k0_pay60 (k0_pay51 x12) x13 x8) k0_pay63) (k0_pay87 k0_pay62 (k0_pay64 (k0_pay60 (k0_pay51 x12) x13 x8)) (k0_pay65 (k0_pay61 (k0_pay51 x12) x13 x9))) (k0_pay99 S)) (ix3 0 i e)
      = OddSpec.headLn (OddSpec.out (r x8 x12 x13 0) (k x9 x12 x13 0) (fun i _ => OddSpec.retCum 0 i) (v V 0) (st S) i) e
          * Spec.silu (G (ix2 i ⟨0 * 128 + e.val, by omega⟩)) := by
  unfold OddSpec.headLn OddSpec.centre OddSpec.out Spec.silu
  pointwise [k0_pay110, k0_pay109, k0_pay99, k0_pay95]
  simp only [qin0, score0, Spec.half_tanh, v, st, Fin.isValue, Fin.val_zero, Fin.val_one, Fin.val_two, Nat.zero_mul, Nat.zero_add, ← Nat.add_assoc, Nat.reduceAdd, Nat.reduceMul]
  first | done | rfl | trace_state

/-- Head 1's query decayed from the sequence's start. -/
theorem qin1 (x12 x13 : FVec Ideal S16x128 .f32) (x8 : FVec Ideal S1x16x512 .f32) (i : Fin 16) (a : Fin 128) :
    k0_pay74 (F := Ideal) (k0_pay51 x12) (k0_pay52 x13) (k0_pay53 x8) k0_pay59 (ix2 i a) = r x8 x12 x13 1 i a * Ideal.exp (OddSpec.retCum 1 i) := by
  rw [← in_decay]
  pointwise [k0_pay74, k0_pay68, k0_pay51, k0_pay52, k0_pay53, k0_pay54, k0_pay57, k0_pay58, k0_pay59, r]
  simp only [log_decay1]

/-- Head 1's causal scores. -/
theorem score1 (x12 x13 : FVec Ideal S16x128 .f32) (x8 x9 : FVec Ideal S1x16x512 .f32) (i j : Fin 16) :
    k0_pay88 (F := Ideal) (k0_pay70 k0_pay57 k0_pay58) (k0_pay72 (k0_pay51 x12) (k0_pay52 x13) (k0_pay53 x8)) (k0_pay73 (k0_pay51 x12) (k0_pay52 x13) (k0_pay54 x9)) (ix2 i j)
      = OddSpec.score (r x8 x12 x13 1) (k x9 x12 x13 1) (fun i _ => OddSpec.retCum 1 i) i j := by
  rw [← score_eq]
  pointwise [k0_pay88, k0_pay70, k0_pay72, k0_pay73, k0_pay68, k0_pay69, k0_pay51, k0_pay52, k0_pay53, k0_pay54, k0_pay57, k0_pay58, k0_pay59, r, k]
  simp only [log_decay1, sel_le, mul_ite, mul_zero]

/-- Head 1's state after the sequence. -/
theorem state1 (V : FVec Ideal S16x512 .bf16) (x12 x13 : FVec Ideal S16x128 .f32) (x9 : FVec Ideal S1x16x512 .f32) (S : FVec Ideal S1x1x128x128 .f32) (a e : Fin 128) :
    k0_pay106 (F := Ideal) (k0_pay92 V (k0_pay75 (k0_pay69 (k0_pay51 x12) (k0_pay52 x13) (k0_pay54 x9)) (k0_pay71 k0_pay59))) S (ix4 0 0 a e)
      = OddSpec.state (k x9 x12 x13 1) (fun i _ => OddSpec.retCum 1 i) (v V 1) (st S) a e := by
  unfold OddSpec.state
  simp only [← out_decay, ← block_decay1, ← log_decay1]
  pointwise [k0_pay106, k0_pay92, k0_pay75, k0_pay71, k0_pay96, k0_pay69, k0_pay51, k0_pay52, k0_pay53, k0_pay54, k0_pay57, k0_pay58, k0_pay59, r, k, v, st]

/-- Head 1's output: the retention normalised and gated. -/
theorem out1 (V : FVec Ideal S16x512 .bf16) (G : FVec Ideal S16x512 .f32) (x12 x13 : FVec Ideal S16x128 .f32) (x8 x9 : FVec Ideal S1x16x512 .f32)
    (S : FVec Ideal S1x1x128x128 .f32) (i : Fin 16) (e : Fin 128) :
    k0_pay111 (F := Ideal) V G (k0_pay74 (k0_pay51 x12) (k0_pay52 x13) (k0_pay53 x8) k0_pay59) (k0_pay88 (k0_pay70 k0_pay57 k0_pay58) (k0_pay72 (k0_pay51 x12) (k0_pay52 x13) (k0_pay53 x8)) (k0_pay73 (k0_pay51 x12) (k0_pay52 x13) (k0_pay54 x9))) (k0_pay100 S) (ix3 0 i e)
      = OddSpec.headLn (OddSpec.out (r x8 x12 x13 1) (k x9 x12 x13 1) (fun i _ => OddSpec.retCum 1 i) (v V 1) (st S) i) e
          * Spec.silu (G (ix2 i ⟨1 * 128 + e.val, by omega⟩)) := by
  unfold OddSpec.headLn OddSpec.centre OddSpec.out Spec.silu
  pointwise [k0_pay111, k0_pay100, k0_pay96]
  simp only [qin1, score1, Spec.half_tanh, v, st, Fin.isValue, Fin.val_zero, Fin.val_one, Fin.val_two, Nat.zero_mul, Nat.zero_add, ← Nat.add_assoc, Nat.reduceAdd, Nat.reduceMul]
  first | done | rfl | trace_state

/-- Head 2's query decayed from the sequence's start. -/
theorem qin2 (x12 x13 : FVec Ideal S16x128 .f32) (x8 : FVec Ideal S1x16x512 .f32) (i : Fin 16) (a : Fin 128) :
    k0_pay81 (F := Ideal) (k0_pay51 x12) (k0_pay52 x13) (k0_pay53 x8) k0_pay59 (ix2 i a) = r x8 x12 x13 2 i a * Ideal.exp (OddSpec.retCum 2 i) := by
  rw [← in_decay]
  pointwise [k0_pay81, k0_pay76, k0_pay51, k0_pay52, k0_pay53, k0_pay54, k0_pay57, k0_pay58, k0_pay59, r]
  simp only [log_decay2]

/-- Head 2's causal scores. -/
theorem score2 (x12 x13 : FVec Ideal S16x128 .f32) (x8 x9 : FVec Ideal S1x16x512 .f32) (i j : Fin 16) :
    k0_pay89 (F := Ideal) (k0_pay78 k0_pay57 k0_pay58) (k0_pay79 (k0_pay51 x12) (k0_pay52 x13) (k0_pay53 x8)) (k0_pay80 (k0_pay51 x12) (k0_pay52 x13) (k0_pay54 x9)) (ix2 i j)
      = OddSpec.score (r x8 x12 x13 2) (k x9 x12 x13 2) (fun i _ => OddSpec.retCum 2 i) i j := by
  rw [← score_eq]
  pointwise [k0_pay89, k0_pay78, k0_pay79, k0_pay80, k0_pay76, k0_pay77, k0_pay51, k0_pay52, k0_pay53, k0_pay54, k0_pay57, k0_pay58, k0_pay59, r, k]
  simp only [log_decay2, sel_le, mul_ite, mul_zero]

/-- Head 2's state after the sequence. -/
theorem state2 (V : FVec Ideal S16x512 .bf16) (x12 x13 : FVec Ideal S16x128 .f32) (x9 : FVec Ideal S1x16x512 .f32) (S : FVec Ideal S1x1x128x128 .f32) (a e : Fin 128) :
    k0_pay107 (F := Ideal) (k0_pay102 (k0_pay93 V (k0_pay82 (k0_pay51 x12) (k0_pay52 x13) (k0_pay54 x9) k0_pay59)) S) (ix4 0 0 a e)
      = OddSpec.state (k x9 x12 x13 2) (fun i _ => OddSpec.retCum 2 i) (v V 2) (st S) a e := by
  unfold OddSpec.state
  simp only [← out_decay, ← block_decay2, ← log_decay2]
  pointwise [k0_pay107, k0_pay102, k0_pay93, k0_pay82, k0_pay97, k0_pay77, k0_pay51, k0_pay52, k0_pay53, k0_pay54, k0_pay57, k0_pay58, k0_pay59, r, k, v, st]

/-- Head 2's output: the retention normalised and gated. -/
theorem out2 (V : FVec Ideal S16x512 .bf16) (G : FVec Ideal S16x512 .f32) (x12 x13 : FVec Ideal S16x128 .f32) (x8 x9 : FVec Ideal S1x16x512 .f32)
    (S : FVec Ideal S1x1x128x128 .f32) (i : Fin 16) (e : Fin 128) :
    k0_pay114 (F := Ideal) G (k0_pay112 V (k0_pay81 (k0_pay51 x12) (k0_pay52 x13) (k0_pay53 x8) k0_pay59) (k0_pay89 (k0_pay78 k0_pay57 k0_pay58) (k0_pay79 (k0_pay51 x12) (k0_pay52 x13) (k0_pay53 x8)) (k0_pay80 (k0_pay51 x12) (k0_pay52 x13) (k0_pay54 x9))) (k0_pay101 S)) (k0_pay113 V (k0_pay81 (k0_pay51 x12) (k0_pay52 x13) (k0_pay53 x8) k0_pay59) (k0_pay89 (k0_pay78 k0_pay57 k0_pay58) (k0_pay79 (k0_pay51 x12) (k0_pay52 x13) (k0_pay53 x8)) (k0_pay80 (k0_pay51 x12) (k0_pay52 x13) (k0_pay54 x9))) (k0_pay101 S)) (Scalar.ofBits .f32 0x43000000#32) (ix3 0 i e)
      = OddSpec.headLn (OddSpec.out (r x8 x12 x13 2) (k x9 x12 x13 2) (fun i _ => OddSpec.retCum 2 i) (v V 2) (st S) i) e
          * Spec.silu (G (ix2 i ⟨2 * 128 + e.val, by omega⟩)) := by
  unfold OddSpec.headLn OddSpec.centre OddSpec.out Spec.silu
  pointwise [k0_pay114, k0_pay112, k0_pay113, k0_pay101, k0_pay97]
  simp only [qin2, score2, Spec.half_tanh, v, st, Fin.isValue, Fin.val_zero, Fin.val_one, Fin.val_two, Nat.zero_mul, Nat.zero_add, ← Nat.add_assoc, Nat.reduceAdd, Nat.reduceMul]
  first | done | rfl | trace_state

/-- Head 3's query decayed from the sequence's start. -/
theorem qin3 (x12 x13 : FVec Ideal S16x128 .f32) (x8 : FVec Ideal S1x16x512 .f32) (i : Fin 16) (a : Fin 128) :
    k0_pay86 (F := Ideal) k0_pay59 (k0_pay83 (k0_pay51 x12) (k0_pay52 x13) (k0_pay53 x8)) (ix2 i a) = r x8 x12 x13 3 i a * Ideal.exp (OddSpec.retCum 3 i) := by
  rw [← in_decay]
  pointwise [k0_pay86, k0_pay83, k0_pay51, k0_pay52, k0_pay53, k0_pay54, k0_pay57, k0_pay58, k0_pay59, r]
  simp only [log_decay3]

/-- Head 3's causal scores. -/
theorem score3 (x12 x13 : FVec Ideal S16x128 .f32) (x8 x9 : FVec Ideal S1x16x512 .f32) (i j : Fin 16) :
    k0_pay90 (F := Ideal) k0_pay57 k0_pay58 (k0_pay83 (k0_pay51 x12) (k0_pay52 x13) (k0_pay53 x8)) (k0_pay84 (k0_pay51 x12) (k0_pay52 x13) (k0_pay54 x9)) (ix2 i j)
      = OddSpec.score (r x8 x12 x13 3) (k x9 x12 x13 3) (fun i _ => OddSpec.retCum 3 i) i j := by
  rw [← score_eq]
  pointwise [k0_pay90, k0_pay83, k0_pay84, k0_pay85, k0_pay51, k0_pay52, k0_pay53, k0_pay54, k0_pay57, k0_pay58, k0_pay59, r, k]
  simp only [log_decay3, sel_le, mul_ite, mul_zero]

/-- Head 3's state after the sequence. -/
theorem state3 (V : FVec Ideal S16x512 .bf16) (x12 x13 : FVec Ideal S16x128 .f32) (x9 : FVec Ideal S1x16x512 .f32) (S : FVec Ideal S1x1x128x128 .f32) (a e : Fin 128) :
    k0_pay108 (F := Ideal) (k0_pay104 (k0_pay94 V k0_pay59 (k0_pay84 (k0_pay51 x12) (k0_pay52 x13) (k0_pay54 x9))) S) (ix4 0 0 a e)
      = OddSpec.state (k x9 x12 x13 3) (fun i _ => OddSpec.retCum 3 i) (v V 3) (st S) a e := by
  unfold OddSpec.state
  simp only [← out_decay, ← block_decay3, ← log_decay3]
  pointwise [k0_pay108, k0_pay104, k0_pay94, k0_pay98, k0_pay84, k0_pay85, k0_pay51, k0_pay52, k0_pay53, k0_pay54, k0_pay57, k0_pay58, k0_pay59, r, k, v, st]

/-- Head 3's output: the retention normalised and gated. -/
theorem out3 (V : FVec Ideal S16x512 .bf16) (G : FVec Ideal S16x512 .f32) (x12 x13 : FVec Ideal S16x128 .f32) (x8 x9 : FVec Ideal S1x16x512 .f32)
    (S : FVec Ideal S1x1x128x128 .f32) (i : Fin 16) (e : Fin 128) :
    k0_pay1 (F := Ideal) G (k0_pay115 V (k0_pay86 k0_pay59 (k0_pay83 (k0_pay51 x12) (k0_pay52 x13) (k0_pay53 x8))) (k0_pay90 k0_pay57 k0_pay58 (k0_pay83 (k0_pay51 x12) (k0_pay52 x13) (k0_pay53 x8)) (k0_pay84 (k0_pay51 x12) (k0_pay52 x13) (k0_pay54 x9))) (k0_pay103 S)) (k0_pay116 V (k0_pay86 k0_pay59 (k0_pay83 (k0_pay51 x12) (k0_pay52 x13) (k0_pay53 x8))) (k0_pay90 k0_pay57 k0_pay58 (k0_pay83 (k0_pay51 x12) (k0_pay52 x13) (k0_pay53 x8)) (k0_pay84 (k0_pay51 x12) (k0_pay52 x13) (k0_pay54 x9))) (k0_pay103 S)) (Scalar.ofBits .f32 0x358637BD#32) (ix3 0 i e)
      = OddSpec.headLn (OddSpec.out (r x8 x12 x13 3) (k x9 x12 x13 3) (fun i _ => OddSpec.retCum 3 i) (v V 3) (st S) i) e
          * Spec.silu (G (ix2 i ⟨3 * 128 + e.val, by omega⟩)) := by
  unfold OddSpec.headLn OddSpec.centre OddSpec.out Spec.silu
  pointwise [k0_pay1, k0_pay115, k0_pay116, k0_pay103, k0_pay98]
  simp only [qin3, score3, Spec.half_tanh, v, st, Fin.isValue, Fin.val_zero, Fin.val_one, Fin.val_two, Nat.zero_mul, Nat.zero_add, ← Nat.add_assoc, Nat.reduceAdd, Nat.reduceMul]
  first | done | rfl | trace_state

end Cert.OddIdeal.Ret
-- ==== Proof.OddHost.lean ====
/- The odd layer kernel's operands prepared on the host, read at an index: the padded low-rank gate weight, the biases, the
   gated linear attention's state with two heads to a row, and the rotary tables. -/
module

public import proofs.«01_k».proof.Proof.Gen.OddIdeal.Frame
public import proofs.«01_k».proof.Proof.OddSpec
public import Idealize.ShloMosaic.Lib.Pipeline.ValueKit
public import Idealize.ShloMosaic.Lib.Claim

set_option maxRecDepth 16384

@[expose] public section
noncomputable section

open Idealize.ShloMosaic Idealize.ShloMosaic.TcCoe Idealize.SL.Sem

namespace Cert.OddIdeal.Host
open Cert.OddIdeal Cert.OddIdeal.Gen

variable (m : (ℓ : Loc nD τ sig) → Buf (Elt Ideal) ℓ) (c : Dev nD)

theorem pad_at (x : FVec Ideal S16x256 .f32) (k : Fin 128) (n : Fin 256) :
    pad S128x256 ![0, 0] ![112, 0] ![0, 0] x (sitofp (F := Ideal) FTy.f32 (constantI S_ 32 0#32)) pads_S16x256_S128x256_01120_000 h_S_ (ix2 k n)
      = if h : k.val < 16 then x (ix2 ⟨k.val, h⟩ n) else (0 : EReal) := by
  have h0 : FloatOps.sitofp (F := Ideal) FTy.f32 0#32 = (0 : EReal) := by
    show (((BitVec.toInt 0#32 : ℤ) : ℝ) : EReal) = 0
    norm_num
  pointwise [hlo_ix]
  simp only [h0]

theorem a2_at (k : Fin 128) (n : Fin 256) : (V m c main_v1 : FVec Ideal S128x256 .bf16) (ix2 k n)
    = if h : k.val < 16 then (m ((c : Thread nD τ).loc main_arg5) : FVec Ideal S16x256 .f32) (ix2 ⟨k.val, h⟩ n) else (0 : EReal) := by
  unfold V V0 hostOps0 hostOps0_1 hostOps0_2
  simp only [List.flatten_cons, List.flatten_nil, List.append_nil, List.cons_append, List.nil_append]
  after_results
  exact pad_at _ k n

theorem ab_at (n : Fin 256) : (V m c main_v2 : FVec Ideal S1x256 .f32) (ix2 0 n) = (m ((c : Thread nD τ).loc main_arg6) : FVec Ideal S256 .f32) (ix1 n) := by
  unfold V V0 hostOps0 hostOps0_1 hostOps0_2
  simp only [List.flatten_cons, List.flatten_nil, List.append_nil, List.cons_append, List.nil_append]
  after_results
  pointwise [hlo_ix]

theorem nw_at (n : Fin 128) : (V m c main_v3 : FVec Ideal S1x128 .f32) (ix2 0 n) = (m ((c : Thread nD τ).loc main_arg7) : FVec Ideal S128 .f32) (ix1 n) := by
  unfold V V0 hostOps0 hostOps0_1 hostOps0_2
  simp only [List.flatten_cons, List.flatten_nil, List.append_nil, List.cons_append, List.nil_append]
  after_results
  pointwise [hlo_ix]

theorem gs_at (b : Fin 16) (p : Fin 2) (e l : Fin 128) : (V m c main_v10 : FVec Ideal S16x2x128x128 .f32) (ix4 b p e l)
    = if h : l.val < 64 then (m ((c : Thread nD τ).loc main_arg4) : FVec Ideal S16x4x64x128 .f32) (ix4 b ⟨p.val * 2, by omega⟩ ⟨l.val, h⟩ e)
      else (m ((c : Thread nD τ).loc main_arg4) : FVec Ideal S16x4x64x128 .f32) (ix4 b ⟨p.val * 2 + 1, by omega⟩ ⟨l.val - 64, by omega⟩ e) := by
  unfold V V0 hostOps0 hostOps0_1 hostOps0_2
  simp only [List.flatten_cons, List.flatten_nil, List.append_nil, List.cons_append, List.nil_append]
  after_results
  pointwise [hlo_ix]

theorem cos_at (i : Fin 16) (a : Fin 128) : (V m c main_v32 : FVec Ideal S16x128 .f32) (ix2 i a)
    = if h : a.val < 64 then Ideal.cos (OddSpec.angle i ⟨a.val, h⟩) else Ideal.cos (OddSpec.angle i ⟨a.val - 64, by omega⟩) := by
  unfold OddSpec.angle
  unfold V V0 hostOps0 hostOps0_1 hostOps0_2
  simp only [List.flatten_cons, List.flatten_nil, List.append_nil, List.cons_append, List.nil_append]
  after_results
  pointwise [hlo_ix]
  rfl

theorem sin_at (i : Fin 16) (a : Fin 128) : (V m c main_v36 : FVec Ideal S16x128 .f32) (ix2 i a)
    = if h : a.val < 64 then -Ideal.sin (OddSpec.angle i ⟨a.val, h⟩) else Ideal.sin (OddSpec.angle i ⟨a.val - 64, by omega⟩) := by
  unfold OddSpec.angle
  unfold V V0 hostOps0 hostOps0_1 hostOps0_2
  simp only [List.flatten_cons, List.flatten_nil, List.append_nil, List.cons_append, List.nil_append]
  after_results
  pointwise [hlo_ix]
  rfl

end Cert.OddIdeal.Host
-- ==== Proof.OddBlocks.lean ====
/- The odd layer kernel's blocks at a grid point, and each head's rows in them as the rows of the sequence. -/
module

public import proofs.«01_k».proof.Proof.OddGla
public import proofs.«01_k».proof.Proof.OddRet
public import proofs.«01_k».proof.Proof.OddHost
public import Idealize.ShloMosaic.Lib.Pipeline.ReadBack

set_option maxRecDepth 16384

@[expose] public section
noncomputable section

open Idealize.ShloMosaic Idealize.ShloMosaic.TcCoe Idealize.SL.Sem

namespace Cert.OddIdeal.Value
open Cert.OddIdeal Cert.OddIdeal.Gen
open Idealize.ShloMosaic.Pipeline (Dat)

variable (m : (ℓ : Loc nD τ sig) → Buf (Elt Ideal) ℓ) (c : Dev nD)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![0, 0] ∧ win0_6.index t = ![0, 0]
    ∧ win0_7.index t = ![0, 0] ∧ win0_8.index t = ![t.val, 0, 0] ∧ win0_9.index t = ![t.val, 0, 0] ∧ win0_10.index t = ![t.val, 0, 0]
    ∧ win0_11.index t = ![t.val, 0, 0] ∧ win0_12.index t = ![0, 0] ∧ win0_13.index t = ![0, 0] ∧ win0_14.index t = ![t.val, 0, 0, 0]
    ∧ win0_15.index t = ![t.val, 0, 0] ∧ win0_16.index t = ![t.val, 0, 0, 0] ∧ win0_17.index t = ![t.val, 0, 0] ∧ win0_18.index t = ![t.val, 0, 0, 0] :=
  (by decide +kernel : ∀ t : Fin grid0.N, _)

abbrev X0 : OddSpec.A3 16 16 512 .f32 := m ((c : Thread nD τ).loc main_arg0)
abbrev X1 : OddSpec.A3 16 16 512 .bf16 := m ((c : Thread nD τ).loc main_arg1)
abbrev X2 : OddSpec.A3 16 16 128 .f32 := m ((c : Thread nD τ).loc main_arg2)
abbrev X3 : OddSpec.A3 16 16 512 .f32 := m ((c : Thread nD τ).loc main_arg3)
abbrev X4 : OddSpec.A4 16 4 64 128 .f32 := m ((c : Thread nD τ).loc main_arg4)
abbrev X5 : OddSpec.A2 16 256 .f32 := m ((c : Thread nD τ).loc main_arg5)
abbrev X6 : OddSpec.A1 256 .f32 := m ((c : Thread nD τ).loc main_arg6)
abbrev X7 : OddSpec.A1 128 .f32 := m ((c : Thread nD τ).loc main_arg7)
abbrev X8 : OddSpec.A3 16 16 512 .f32 := m ((c : Thread nD τ).loc main_arg8)
abbrev X9 : OddSpec.A3 16 16 512 .f32 := m ((c : Thread nD τ).loc main_arg9)
abbrev X10 : OddSpec.A3 16 16 512 .bf16 := m ((c : Thread nD τ).loc main_arg10)
abbrev X11 : OddSpec.A3 16 16 512 .f32 := m ((c : Thread nD τ).loc main_arg11)
abbrev X12 : OddSpec.A4 16 4 128 128 .f32 := m ((c : Thread nD τ).loc main_arg12)

/-! ## The blocks at a grid point -/

variable (t : Fin cfg0.N)

abbrev bt : Fin 16 := ⟨t.val, t.isLt⟩

theorem b0 (i : Fin 16) (n : Fin 512) : (iblk m c 0 t : FVec Ideal S1x16x512 .f32) (ix3 0 i n) = X0 m c (ix3 (bt t) i n) := by
  blk_point [iblk, V, idx t]
theorem b1 (i : Fin 16) (n : Fin 512) : (iblk m c 1 t : FVec Ideal S1x16x512 .bf16) (ix3 0 i n) = X1 m c (ix3 (bt t) i n) := by
  blk_point [iblk, V, idx t]
theorem b2 (i : Fin 16) (n : Fin 128) : (iblk m c 2 t : FVec Ideal S1x16x128 .f32) (ix3 0 i n) = X2 m c (ix3 (bt t) i n) := by
  blk_point [iblk, V, idx t]
theorem b3 (i : Fin 16) (n : Fin 512) : (iblk m c 3 t : FVec Ideal S1x16x512 .f32) (ix3 0 i n) = X3 m c (ix3 (bt t) i n) := by
  blk_point [iblk, V, idx t]
theorem b4 (p : Fin 2) (e l : Fin 128) : (iblk m c 4 t : FVec Ideal S1x2x128x128 .f32) (ix4 0 p e l)
    = if h : l.val < 64 then X4 m c (ix4 (bt t) ⟨p.val * 2, by omega⟩ ⟨l.val, h⟩ e)
      else X4 m c (ix4 (bt t) ⟨p.val * 2 + 1, by omega⟩ ⟨l.val - 64, by omega⟩ e) := by
  rw [← Host.gs_at]
  blk_ext [iblk, idx t]
theorem b5 (k : Fin 128) (n : Fin 256) : (iblk m c 5 t : FVec Ideal S128x256 .bf16) (ix2 k n)
    = if h : k.val < 16 then X5 m c (ix2 ⟨k.val, h⟩ n) else 0 := by
  rw [← Host.a2_at]
  blk_ext [iblk, idx t]
theorem b6 (n : Fin 256) : (iblk m c 6 t : FVec Ideal S1x256 .f32) (ix2 0 n) = X6 m c (ix1 n) := by
  refine Eq.trans ?_ (Host.ab_at m c n)
  blk_ext [iblk, idx t]
theorem b7 (n : Fin 128) : (iblk m c 7 t : FVec Ideal S1x128 .f32) (ix2 0 n) = X7 m c (ix1 n) := by
  refine Eq.trans ?_ (Host.nw_at m c n)
  blk_ext [iblk, idx t]
theorem b8 (i : Fin 16) (n : Fin 512) : (iblk m c 8 t : FVec Ideal S1x16x512 .f32) (ix3 0 i n) = X8 m c (ix3 (bt t) i n) := by
  blk_point [iblk, V, idx t]
theorem b9 (i : Fin 16) (n : Fin 512) : (iblk m c 9 t : FVec Ideal S1x16x512 .f32) (ix3 0 i n) = X9 m c (ix3 (bt t) i n) := by
  blk_point [iblk, V, idx t]
theorem b10 (i : Fin 16) (n : Fin 512) : (iblk m c 10 t : FVec Ideal S1x16x512 .bf16) (ix3 0 i n) = X10 m c (ix3 (bt t) i n) := by
  blk_point [iblk, V, idx t]
theorem b11 (i : Fin 16) (n : Fin 512) : (iblk m c 11 t : FVec Ideal S1x16x512 .f32) (ix3 0 i n) = X11 m c (ix3 (bt t) i n) := by
  blk_point [iblk, V, idx t]
theorem b12 (i : Fin 16) (a : Fin 128) : (iblk m c 12 t : FVec Ideal S16x128 .f32) (ix2 i a)
    = if h : a.val < 64 then Ideal.cos (OddSpec.angle i ⟨a.val, h⟩) else Ideal.cos (OddSpec.angle i ⟨a.val - 64, by omega⟩) := by
  rw [← Host.cos_at m c]
  blk_ext [iblk, idx t]
theorem b13 (i : Fin 16) (a : Fin 128) : (iblk m c 13 t : FVec Ideal S16x128 .f32) (ix2 i a)
    = if h : a.val < 64 then -Ideal.sin (OddSpec.angle i ⟨a.val, h⟩) else Ideal.sin (OddSpec.angle i ⟨a.val - 64, by omega⟩) := by
  rw [← Host.sin_at m c]
  blk_ext [iblk, idx t]
theorem b14 (h : Fin 4) (a e : Fin 128) : (iblk m c 14 t : FVec Ideal S1x4x128x128 .f32) (ix4 0 h a e) = X12 m c (ix4 (bt t) h a e) := by
  blk_point [iblk, V, idx t]

/-! ## The heads' rows at a grid point -/

theorem pay4_at (x : FVec Ideal S1x16x512 .f32) (i : Fin 16) (n : Fin 512) : k0_pay4 (F := Ideal) x (ix2 i n) = x (ix3 0 i n) := by pointwise [k0_pay4]
theorem pay6_at (x : FVec Ideal S1x16x512 .bf16) (i : Fin 16) (n : Fin 512) : k0_pay6 (F := Ideal) x (ix2 i n) = x (ix3 0 i n) := by pointwise [k0_pay6]
theorem pay7_at (x : FVec Ideal S1x16x512 .f32) (i : Fin 16) (n : Fin 512) : k0_pay7 (F := Ideal) x (ix2 i n) = x (ix3 0 i n) := by pointwise [k0_pay7]
theorem pay8_at (x : FVec Ideal S1x128 .f32) (n : Fin 128) : k0_pay8 (F := Ideal) x (ix2 0 n) = x (ix2 0 n) := by pointwise [k0_pay8]
theorem pay55_at (x : FVec Ideal S1x16x512 .bf16) (i : Fin 16) (n : Fin 512) : k0_pay55 (F := Ideal) x (ix2 i n) = x (ix3 0 i n) := by pointwise [k0_pay55]
theorem pay56_at (x : FVec Ideal S1x16x512 .f32) (i : Fin 16) (n : Fin 512) : k0_pay56 (F := Ideal) x (ix2 i n) = x (ix3 0 i n) := by pointwise [k0_pay56]
theorem pay2_at (x : FVec Ideal S1x2x128x128 .f32) (p : Fin 2) (e l : Fin 128) : k0_pay2 (F := Ideal) x (ix4 0 p e l) = x (ix4 0 p e l) := by pointwise [k0_pay2]
theorem pay3_at (x : FVec Ideal S1x4x128x128 .f32) (p : Fin 4) (e l : Fin 128) : k0_pay3 (F := Ideal) x (ix4 0 p e l) = x (ix4 0 p e l) := by pointwise [k0_pay3]

variable (h : Fin 4)

theorem gq_eq : Gla.q (k0_pay4 (F := Ideal) (iblk m c 0 t)) h = OddSpec.gq (X0 m c) (bt t) h := by
  funext i a
  unfold Gla.q OddSpec.gq
  rw [pay4_at, b0]
theorem gk_eq : Gla.k (k0_pay4 (F := Ideal) (iblk m c 0 t)) h = OddSpec.gk (X0 m c) (bt t) h := by
  funext i a
  unfold Gla.k OddSpec.gk
  rw [pay4_at, b0]
theorem gv_eq : Gla.v (k0_pay6 (F := Ideal) (iblk m c 1 t)) h = OddSpec.hv (X1 m c) (bt t) h := by
  funext i a
  unfold Gla.v OddSpec.hv
  rw [pay6_at, b1]

/-- The gate's row of log decays. -/
abbrev lg : FVec Ideal S16x256 .f32 := k0_pay5 (F := Ideal) (iblk m c 2 t) (iblk m c 5 t) (iblk m c 6 t)

theorem lg_at (i : Fin 16) (n : Fin 256) : lg m c t (ix2 i n) = OddSpec.glog (X2 m c) (X5 m c) (X6 m c) (bt t) i n := by
  unfold lg OddSpec.glog
  rw [Gla.pay5_at]
  simp only [b2, b5, b6]
  congr 2
  refine (OddMath.sum_first _ fun l hl => ?_).trans (Finset.sum_congr rfl fun k _ => ?_)
  · rw [dif_neg hl, mul_zero]
  · rw [dif_pos k.isLt]

theorem gc_eq : Gla.c (k0_pay11 (F := Ideal) (lg m c t)) h = OddSpec.gc (X2 m c) (X5 m c) (X6 m c) (bt t) h := by
  funext i a
  unfold Gla.c OddSpec.gc OddSpec.cum
  rw [Gla.pay11_at _ (fun j n => by rw [lg_at]; exact OddMath.logDecay_ne_top _)]
  simp only [lg_at]

theorem rr_eq (w : Fin cfg0.W) (x : FVec Ideal S1x16x512 .f32) (X : OddSpec.A3 16 16 512 .f32) (hx : ∀ i n, x (ix3 0 i n) = X (ix3 (bt t) i n)) :
    Ret.r x (iblk m c 12 t) (iblk m c 13 t) h = OddSpec.rr X (bt t) h := by
  funext i a
  unfold Ret.r OddSpec.rr OddSpec.rot
  rw [b12, b13, hx, hx]
  split
  · have ha : h.val * 128 + (a.val + 128 - 64) % 128 = h.val * 128 + (a.val + 64) := by omega
    simp only [ha, mul_neg, sub_eq_add_neg]
  · have ha : h.val * 128 + (a.val + 128 - 64) % 128 = h.val * 128 + (a.val - 64) := by omega
    simp only [ha]
    exact add_comm _ _

theorem r8_eq : Ret.r (iblk m c 8 t) (iblk m c 12 t) (iblk m c 13 t) h = OddSpec.rr (X8 m c) (bt t) h := rr_eq m c t h 8 _ _ (b8 m c t)
theorem r9_eq : Ret.r (iblk m c 9 t) (iblk m c 12 t) (iblk m c 13 t) h = OddSpec.rr (X9 m c) (bt t) h := rr_eq m c t h 9 _ _ (b9 m c t)
theorem rk_eq : Ret.k (iblk m c 9 t) (iblk m c 12 t) (iblk m c 13 t) h = OddSpec.rk (X9 m c) (bt t) h := by
  funext i a
  unfold Ret.k OddSpec.rk
  rw [r9_eq]
theorem rv_eq : Gla.v (k0_pay55 (F := Ideal) (iblk m c 10 t)) h = OddSpec.hv (X10 m c) (bt t) h := by
  funext i a
  unfold Gla.v OddSpec.hv
  rw [pay55_at, b10]

/-! ## The states read back from the output blocks -/

abbrev w16 : Rect S1x2x128x128 := Rect.unit ![0, 0, 0, 0] ![1, 2, 128, 128] inb_S1x2x128x128_S1x2x128x128_0_0_0_0
abbrev w18 : Rect S1x4x128x128 := Rect.unit ![0, 0, 0, 0] ![1, 4, 128, 128] inb_S1x4x128x128_S1x4x128x128_0_0_0_0

abbrev r16_0 : Rect S1x2x128x128 := Rect.unit ![0, 0, 0, 0] ![1, 1, 128, 128] inb_S1x2x128x128_S1x1x128x128_0_0_0_0

theorem ld16_0 {κ : Kind} {sp : Space} (v : View sig κ sp S1x2x128x128 .f32) (Z : FVec Ideal S1x2x128x128 .f32) (e l : Fin 128) :
    v.readCov (Val := Elt Ideal) [⟨w16, Z⟩] r16_0.toLoadRect (ix4 0 0 e l : S1x1x128x128.Idx) = Z (ix4 0 0 e l) := by
  rw [View.readCov_fill _ _ _ _ _ (by decide)]
  pointwise

abbrev r16_1 : Rect S1x2x128x128 := Rect.unit ![0, 1, 0, 0] ![1, 1, 128, 128] inb_S1x2x128x128_S1x1x128x128_0_1_0_0

theorem ld16_1 {κ : Kind} {sp : Space} (v : View sig κ sp S1x2x128x128 .f32) (Z : FVec Ideal S1x2x128x128 .f32) (e l : Fin 128) :
    v.readCov (Val := Elt Ideal) [⟨w16, Z⟩] r16_1.toLoadRect (ix4 0 0 e l : S1x1x128x128.Idx) = Z (ix4 0 1 e l) := by
  rw [View.readCov_fill _ _ _ _ _ (by decide)]
  pointwise

abbrev r18_0 : Rect S1x4x128x128 := Rect.unit ![0, 0, 0, 0] ![1, 1, 128, 128] inb_S1x4x128x128_S1x1x128x128_0_0_0_0

theorem ld18_0 {κ : Kind} {sp : Space} (v : View sig κ sp S1x4x128x128 .f32) (Z : FVec Ideal S1x4x128x128 .f32) (e l : Fin 128) :
    v.readCov (Val := Elt Ideal) [⟨w18, Z⟩] r18_0.toLoadRect (ix4 0 0 e l : S1x1x128x128.Idx) = Z (ix4 0 0 e l) := by
  rw [View.readCov_fill _ _ _ _ _ (by decide)]
  pointwise

abbrev r18_1 : Rect S1x4x128x128 := Rect.unit ![0, 1, 0, 0] ![1, 1, 128, 128] inb_S1x4x128x128_S1x1x128x128_0_1_0_0

theorem ld18_1 {κ : Kind} {sp : Space} (v : View sig κ sp S1x4x128x128 .f32) (Z : FVec Ideal S1x4x128x128 .f32) (e l : Fin 128) :
    v.readCov (Val := Elt Ideal) [⟨w18, Z⟩] r18_1.toLoadRect (ix4 0 0 e l : S1x1x128x128.Idx) = Z (ix4 0 1 e l) := by
  rw [View.readCov_fill _ _ _ _ _ (by decide)]
  pointwise

abbrev r18_2 : Rect S1x4x128x128 := Rect.unit ![0, 2, 0, 0] ![1, 1, 128, 128] inb_S1x4x128x128_S1x1x128x128_0_2_0_0

theorem ld18_2 {κ : Kind} {sp : Space} (v : View sig κ sp S1x4x128x128 .f32) (Z : FVec Ideal S1x4x128x128 .f32) (e l : Fin 128) :
    v.readCov (Val := Elt Ideal) [⟨w18, Z⟩] r18_2.toLoadRect (ix4 0 0 e l : S1x1x128x128.Idx) = Z (ix4 0 2 e l) := by
  rw [View.readCov_fill _ _ _ _ _ (by decide)]
  pointwise

abbrev r18_3 : Rect S1x4x128x128 := Rect.unit ![0, 3, 0, 0] ![1, 1, 128, 128] inb_S1x4x128x128_S1x1x128x128_0_3_0_0

theorem ld18_3 {κ : Kind} {sp : Space} (v : View sig κ sp S1x4x128x128 .f32) (Z : FVec Ideal S1x4x128x128 .f32) (e l : Fin 128) :
    v.readCov (Val := Elt Ideal) [⟨w18, Z⟩] r18_3.toLoadRect (ix4 0 0 e l : S1x1x128x128.Idx) = Z (ix4 0 3 e l) := by
  rw [View.readCov_fill _ _ _ _ _ (by decide)]
  pointwise

theorem lo0_eq {κ : Kind} {sp : Space} (v : View sig κ sp S1x2x128x128 .f32) :
    Gla.sLo (v.readCov (Val := Elt Ideal) [⟨w16, k0_pay2 (F := Ideal) (iblk m c 4 t)⟩] r16_0.toLoadRect) = OddSpec.hs (X4 m c) (bt t) 0 := by
  funext a e
  unfold Gla.sLo OddSpec.hs
  refine (ld16_0 v _ _ _).trans ?_
  rw [pay2_at, b4, dif_pos (by exact a.isLt)]
  rfl

theorem hi0_eq {κ : Kind} {sp : Space} (v : View sig κ sp S1x2x128x128 .f32) :
    Gla.sHi (v.readCov (Val := Elt Ideal) [⟨w16, k0_pay2 (F := Ideal) (iblk m c 4 t)⟩] r16_0.toLoadRect) = OddSpec.hs (X4 m c) (bt t) 1 := by
  funext a e
  unfold Gla.sHi OddSpec.hs
  refine (ld16_0 v _ _ _).trans ?_
  rw [pay2_at, b4, dif_neg (by show ¬ 64 + a.val < 64; omega)]
  simp only [Nat.add_sub_cancel_left]
  rfl

theorem lo1_eq {κ : Kind} {sp : Space} (v : View sig κ sp S1x2x128x128 .f32) :
    Gla.sLo (v.readCov (Val := Elt Ideal) [⟨w16, k0_pay2 (F := Ideal) (iblk m c 4 t)⟩] r16_1.toLoadRect) = OddSpec.hs (X4 m c) (bt t) 2 := by
  funext a e
  unfold Gla.sLo OddSpec.hs
  refine (ld16_1 v _ _ _).trans ?_
  rw [pay2_at, b4, dif_pos (by exact a.isLt)]
  rfl

theorem hi1_eq {κ : Kind} {sp : Space} (v : View sig κ sp S1x2x128x128 .f32) :
    Gla.sHi (v.readCov (Val := Elt Ideal) [⟨w16, k0_pay2 (F := Ideal) (iblk m c 4 t)⟩] r16_1.toLoadRect) = OddSpec.hs (X4 m c) (bt t) 3 := by
  funext a e
  unfold Gla.sHi OddSpec.hs
  refine (ld16_1 v _ _ _).trans ?_
  rw [pay2_at, b4, dif_neg (by show ¬ 64 + a.val < 64; omega)]
  simp only [Nat.add_sub_cancel_left]
  rfl

theorem st0_eq {κ : Kind} {sp : Space} (v : View sig κ sp S1x4x128x128 .f32) :
    Ret.st (v.readCov (Val := Elt Ideal) [⟨w18, k0_pay3 (F := Ideal) (iblk m c 14 t)⟩] r18_0.toLoadRect) = OddSpec.hs (X12 m c) (bt t) 0 := by
  funext a e
  unfold Ret.st OddSpec.hs
  refine (ld18_0 v _ _ _).trans ?_
  rw [pay3_at, b14]

theorem st1_eq {κ : Kind} {sp : Space} (v : View sig κ sp S1x4x128x128 .f32) :
    Ret.st (v.readCov (Val := Elt Ideal) [⟨w18, k0_pay3 (F := Ideal) (iblk m c 14 t)⟩] r18_1.toLoadRect) = OddSpec.hs (X12 m c) (bt t) 1 := by
  funext a e
  unfold Ret.st OddSpec.hs
  refine (ld18_1 v _ _ _).trans ?_
  rw [pay3_at, b14]

theorem st2_eq {κ : Kind} {sp : Space} (v : View sig κ sp S1x4x128x128 .f32) :
    Ret.st (v.readCov (Val := Elt Ideal) [⟨w18, k0_pay3 (F := Ideal) (iblk m c 14 t)⟩] r18_2.toLoadRect) = OddSpec.hs (X12 m c) (bt t) 2 := by
  funext a e
  unfold Ret.st OddSpec.hs
  refine (ld18_2 v _ _ _).trans ?_
  rw [pay3_at, b14]

theorem st3_eq {κ : Kind} {sp : Space} (v : View sig κ sp S1x4x128x128 .f32) :
    Ret.st (v.readCov (Val := Elt Ideal) [⟨w18, k0_pay3 (F := Ideal) (iblk m c 14 t)⟩] r18_3.toLoadRect) = OddSpec.hs (X12 m c) (bt t) 3 := by
  funext a e
  unfold Ret.st OddSpec.hs
  refine (ld18_3 v _ _ _).trans ?_
  rw [pay3_at, b14]

end Cert.OddIdeal.Value
-- ==== Proof.OddValue.lean ====
/- The odd layer kernel's run: what each of the four result arrays holds, at an index. -/
module

public import proofs.«01_k».proof.Proof.OddBlocks

set_option maxRecDepth 16384

@[expose] public section
noncomputable section

open Idealize.ShloMosaic Idealize.ShloMosaic.TcCoe Idealize.SL.Sem

namespace Cert.OddIdeal.Value
open Cert.OddIdeal Cert.OddIdeal.Gen
open Idealize.ShloMosaic.Pipeline (Dat)

variable (m : (ℓ : Loc nD τ sig) → Buf (Elt Ideal) ℓ) (c : Dev nD)

/-- The gated linear attention's output array. -/
def outY : FVec Ideal S16x16x512 .bf16 := fun i =>
  OddSpec.yc (X0 m c) (X1 m c) (X2 m c) (X3 m c) (X4 m c) (X5 m c) (X6 m c) (X7 m c) (i 0) (i 1)
    ⟨(i 2).val / 128, Nat.div_lt_of_lt_mul (i 2).isLt⟩ ⟨(i 2).val % 128, Nat.mod_lt _ (by norm_num)⟩

/-- The gated linear attention's states, two heads to a row, transposed. -/
def outG : FVec Ideal S16x2x128x128 .f32 := fun i =>
  if h : (i 3).val < 64 then OddSpec.gla (X0 m c) (X1 m c) (X2 m c) (X4 m c) (X5 m c) (X6 m c) (i 0)
      ⟨(i 1).val * 2, by have : (i 1).val < 2 := (i 1).isLt; omega⟩ ⟨(i 3).val, h⟩ (i 2)
  else OddSpec.gla (X0 m c) (X1 m c) (X2 m c) (X4 m c) (X5 m c) (X6 m c) (i 0)
      ⟨(i 1).val * 2 + 1, by have : (i 1).val < 2 := (i 1).isLt; omega⟩ ⟨(i 3).val - 64, by have : (i 3).val < 128 := (i 3).isLt; omega⟩ (i 2)

/-- The retention's output array. -/
def outZ : FVec Ideal S16x16x512 .bf16 := fun i =>
  OddSpec.yd (X8 m c) (X9 m c) (X10 m c) (X11 m c) (X12 m c) (i 0) (i 1)
    ⟨(i 2).val / 128, Nat.div_lt_of_lt_mul (i 2).isLt⟩ ⟨(i 2).val % 128, Nat.mod_lt _ (by norm_num)⟩

/-- The retention's states. -/
def outR : FVec Ideal S16x4x128x128 .f32 := fun i => OddSpec.ret (X9 m c) (X10 m c) (X12 m c) (i 0) (i 1) (i 2) (i 3)

theorem outY_at (b i : Fin 16) (n : Fin 512) (h : Fin 4) (e : Fin 128) (hn : n.val = h.val * 128 + e.val) :
    outY m c (ix3 b i n) = OddSpec.yc (X0 m c) (X1 m c) (X2 m c) (X3 m c) (X4 m c) (X5 m c) (X6 m c) (X7 m c) b i h e := by
  have h1 : (⟨n.val / 128, Nat.div_lt_of_lt_mul n.isLt⟩ : Fin 4) = h := Fin.ext (by show n.val / 128 = h.val; omega)
  have h2 : (⟨n.val % 128, Nat.mod_lt _ (by norm_num)⟩ : Fin 128) = e := Fin.ext (by show n.val % 128 = e.val; omega)
  rw [← h1, ← h2]
  rfl

theorem outZ_at (b i : Fin 16) (n : Fin 512) (h : Fin 4) (e : Fin 128) (hn : n.val = h.val * 128 + e.val) :
    outZ m c (ix3 b i n) = OddSpec.yd (X8 m c) (X9 m c) (X10 m c) (X11 m c) (X12 m c) b i h e := by
  have h1 : (⟨n.val / 128, Nat.div_lt_of_lt_mul n.isLt⟩ : Fin 4) = h := Fin.ext (by show n.val / 128 = h.val; omega)
  have h2 : (⟨n.val % 128, Nat.mod_lt _ (by norm_num)⟩ : Fin 128) = e := Fin.ext (by show n.val % 128 = e.val; omega)
  rw [← h1, ← h2]
  rfl

/-- The gated linear attention's outputs after the run. -/
theorem final15 : (dats m 0 c).arrAt 15 (cfgs 0).N = outY m c := by
  refine (dats m 0 c).arrAt_eq_of_covers 15 _ (by decide +kernel) fun t _ y => ?_
  blk_simp
  rw [after0_15]
  change S1x16x512.Idx at y
  have hi : ((View.whole main_v37_0).slice (win0_15.rect t)).emb y = (ix3 (bt t) (y 1) (y 2) : S16x16x512.Idx) := by
    idx_vars y
    blk_ext [idx t]
  rw [hi]
  unfold Gen.outsAt0
  frame_out
  canon_tiles x h
  case piece3 =>
    idx_vars x
    obtain rfl : x0 = 0 := Subsingleton.elim _ _
    have e1 : y 1 = x1 := Fin.ext h1
    rw [e1, outY_at m c (bt t) x1 (y 2) 0 x2 (by show (y 2).val = 0 * 128 + x2.val; omega)]
    refine (Gla.out0 _ _ _ _ (lg m c t) _ x1 x2).trans ?_
    rw [gq_eq, gk_eq, gc_eq, gv_eq, lo0_eq, pay7_at, b3]
    simp only [pay8_at, b7]
    rfl
  case piece2 =>
    idx_vars x
    obtain rfl : x0 = 0 := Subsingleton.elim _ _
    have e1 : y 1 = x1 := Fin.ext h1
    rw [e1, outY_at m c (bt t) x1 (y 2) 1 x2 (by show (y 2).val = 1 * 128 + x2.val; omega)]
    refine (Gla.out1 _ _ _ _ (lg m c t) _ x1 x2).trans ?_
    rw [gq_eq, gk_eq, gc_eq, gv_eq, hi0_eq, pay7_at, b3]
    simp only [pay8_at, b7]
    rfl
  case piece1 =>
    idx_vars x
    obtain rfl : x0 = 0 := Subsingleton.elim _ _
    have e1 : y 1 = x1 := Fin.ext h1
    rw [e1, outY_at m c (bt t) x1 (y 2) 2 x2 (by show (y 2).val = 2 * 128 + x2.val; omega)]
    refine (Gla.out2 _ _ _ _ (lg m c t) _ x1 x2).trans ?_
    rw [gq_eq, gk_eq, gc_eq, gv_eq, lo1_eq, pay7_at, b3]
    simp only [pay8_at, b7]
    rfl
  case piece0 =>
    idx_vars x
    obtain rfl : x0 = 0 := Subsingleton.elim _ _
    have e1 : y 1 = x1 := Fin.ext h1
    rw [e1, outY_at m c (bt t) x1 (y 2) 3 x2 (by show (y 2).val = 3 * 128 + x2.val; omega)]
    refine (Gla.out3 _ _ _ _ (lg m c t) _ x1 x2).trans ?_
    rw [gq_eq, gk_eq, gc_eq, gv_eq, hi1_eq, pay7_at, b3]
    simp only [pay8_at, b7]
    rfl

/-- An index of a state block at row `h` lies in the tile of row `h`. -/
theorem mem_head {n h : Nat} {inb} (y : (⟨4, ![1, n, 128, 128]⟩ : Shape).Idx) (hy : (y 1).val = h) :
    y ∈ (Rect.unit (s := (⟨4, ![1, n, 128, 128]⟩ : Shape)) ![0, h, 0, 0] ![1, 1, 128, 128] inb).set := by
  refine Rect.mem_set_unit.2 fun a => ?_
  match a with
  | 0 => exact ⟨Nat.zero_le _, by show (y 0).val < 0 + 1; have : (y 0).val < 1 := (y 0).isLt; omega⟩
  | 1 => exact ⟨by show h ≤ (y 1).val; omega, by show (y 1).val < h + 1; omega⟩
  | 2 => exact ⟨Nat.zero_le _, by show (y 2).val < 0 + 128; have : (y 2).val < 128 := (y 2).isLt; omega⟩
  | 3 => exact ⟨Nat.zero_le _, by show (y 3).val < 0 + 128; have : (y 3).val < 128 := (y 3).isLt; omega⟩

/-- The gated linear attention's states after the run, two heads to a row. -/
theorem final16 : (dats m 0 c).arrAt 16 (cfgs 0).N = outG m c := by
  refine (dats m 0 c).arrAt_eq_of_covers 16 _ (by decide +kernel) fun t _ y => ?_
  blk_simp
  rw [after0_16]
  change S1x2x128x128.Idx at y
  have hi : ((View.whole main_v37_1).slice (win0_16.rect t)).emb y = (ix4 (bt t) (y 1) (y 2) (y 3) : S16x2x128x128.Idx) := by
    idx_vars y
    blk_ext [idx t]
  rw [hi]
  unfold Gen.outsAt0
  frame_out
  refine (View.canon_append_of_piecesOf (Val := Elt Ideal) (e := .f32) (fun y : S1x2x128x128.Idx => outG m c (ix4 (bt t) (y 1) (y 2) (y 3))) [_] [_, _] ⟨fun x => ?_, fun x => ?_, trivial⟩ y ?_)
  · change S1x1x128x128.Idx at x
    idx_vars x
    obtain rfl : x0 = 0 := Subsingleton.elim _ _
    obtain rfl : x1 = 0 := Subsingleton.elim _ _
    have hx : (Rect.unit (s := S1x2x128x128) ![0, 1, 0, 0] ![1, 1, 128, 128] inb_S1x2x128x128_S1x1x128x128_0_1_0_0).emb (ix4 0 0 x2 x3 : S1x1x128x128.Idx)
        = (ix4 0 1 x2 x3 : S1x2x128x128.Idx) := by blk_ext
    show _ = (fun y : S1x2x128x128.Idx => outG m c (ix4 (bt t) (y 1) (y 2) (y 3))) ((Rect.unit (s := S1x2x128x128) ![0, 1, 0, 0] ![1, 1, 128, 128] inb_S1x2x128x128_S1x1x128x128_0_1_0_0).emb (ix4 0 0 x2 x3 : S1x1x128x128.Idx))
    rw [hx]
    refine (Gla.state23 _ _ (lg m c t) _ x2 x3).trans ?_
    rw [gk_eq, gk_eq, gc_eq, gc_eq, gv_eq, gv_eq, lo1_eq, hi1_eq]
    rfl
  · change S1x1x128x128.Idx at x
    idx_vars x
    obtain rfl : x0 = 0 := Subsingleton.elim _ _
    obtain rfl : x1 = 0 := Subsingleton.elim _ _
    have hx : (Rect.unit (s := S1x2x128x128) ![0, 0, 0, 0] ![1, 1, 128, 128] inb_S1x2x128x128_S1x1x128x128_0_0_0_0).emb (ix4 0 0 x2 x3 : S1x1x128x128.Idx)
        = (ix4 0 0 x2 x3 : S1x2x128x128.Idx) := by blk_ext
    show _ = (fun y : S1x2x128x128.Idx => outG m c (ix4 (bt t) (y 1) (y 2) (y 3))) ((Rect.unit (s := S1x2x128x128) ![0, 0, 0, 0] ![1, 1, 128, 128] inb_S1x2x128x128_S1x1x128x128_0_0_0_0).emb (ix4 0 0 x2 x3 : S1x1x128x128.Idx))
    rw [hx]
    refine (Gla.state01 _ _ (lg m c t) _ x2 x3).trans ?_
    rw [gk_eq, gk_eq, gc_eq, gc_eq, gv_eq, gv_eq, lo0_eq, hi0_eq]
    rfl
  · have h1 : (y 1).val < 2 := (y 1).isLt
    have hc : (y 1).val = 1 ∨ (y 1).val = 0 := by omega
    rcases hc with h | h
    · exact ⟨_, List.mem_cons_self, mem_head (inb := inb_S1x2x128x128_S1x1x128x128_0_1_0_0) y h⟩
    · exact ⟨_, (List.mem_cons_of_mem _ List.mem_cons_self), mem_head (inb := inb_S1x2x128x128_S1x1x128x128_0_0_0_0) y h⟩

/-- The retention's outputs after the run. -/
theorem final17 : (dats m 0 c).arrAt 17 (cfgs 0).N = outZ m c := by
  refine (dats m 0 c).arrAt_eq_of_covers 17 _ (by decide +kernel) fun t _ y => ?_
  blk_simp
  rw [after0_17]
  change S1x16x512.Idx at y
  have hi : ((View.whole main_v37_2).slice (win0_17.rect t)).emb y = (ix3 (bt t) (y 1) (y 2) : S16x16x512.Idx) := by
    idx_vars y
    blk_ext [idx t]
  rw [hi]
  unfold Gen.outsAt0
  frame_out
  canon_tiles x h
  case piece3 =>
    idx_vars x
    obtain rfl : x0 = 0 := Subsingleton.elim _ _
    have e1 : y 1 = x1 := Fin.ext h1
    rw [e1, outZ_at m c (bt t) x1 (y 2) 0 x2 (by show (y 2).val = 0 * 128 + x2.val; omega)]
    refine (Ret.out0 _ _ _ _ _ _ _ x1 x2).trans ?_
    rw [r8_eq, rk_eq, rv_eq, st0_eq, pay56_at, b11]
    rfl
  case piece2 =>
    idx_vars x
    obtain rfl : x0 = 0 := Subsingleton.elim _ _
    have e1 : y 1 = x1 := Fin.ext h1
    rw [e1, outZ_at m c (bt t) x1 (y 2) 1 x2 (by show (y 2).val = 1 * 128 + x2.val; omega)]
    refine (Ret.out1 _ _ _ _ _ _ _ x1 x2).trans ?_
    rw [r8_eq, rk_eq, rv_eq, st1_eq, pay56_at, b11]
    rfl
  case piece1 =>
    idx_vars x
    obtain rfl : x0 = 0 := Subsingleton.elim _ _
    have e1 : y 1 = x1 := Fin.ext h1
    rw [e1, outZ_at m c (bt t) x1 (y 2) 2 x2 (by show (y 2).val = 2 * 128 + x2.val; omega)]
    refine (Ret.out2 _ _ _ _ _ _ _ x1 x2).trans ?_
    rw [r8_eq, rk_eq, rv_eq, st2_eq, pay56_at, b11]
    rfl
  case piece0 =>
    idx_vars x
    obtain rfl : x0 = 0 := Subsingleton.elim _ _
    have e1 : y 1 = x1 := Fin.ext h1
    rw [e1, outZ_at m c (bt t) x1 (y 2) 3 x2 (by show (y 2).val = 3 * 128 + x2.val; omega)]
    refine (Ret.out3 _ _ _ _ _ _ _ x1 x2).trans ?_
    rw [r8_eq, rk_eq, rv_eq, st3_eq, pay56_at, b11]
    rfl

/-- The retention's states after the run. -/
theorem final18 : (dats m 0 c).arrAt 18 (cfgs 0).N = outR m c := by
  refine (dats m 0 c).arrAt_eq_of_covers 18 _ (by decide +kernel) fun t _ y => ?_
  blk_simp
  rw [after0_18]
  change S1x4x128x128.Idx at y
  have hi : ((View.whole main_v37_3).slice (win0_18.rect t)).emb y = (ix4 (bt t) (y 1) (y 2) (y 3) : S16x4x128x128.Idx) := by
    idx_vars y
    blk_ext [idx t]
  rw [hi]
  unfold Gen.outsAt0
  frame_out
  refine (View.canon_append_of_piecesOf (Val := Elt Ideal) (e := .f32) (fun y : S1x4x128x128.Idx => outR m c (ix4 (bt t) (y 1) (y 2) (y 3))) [_] [_, _, _, _] ⟨fun x => ?_, fun x => ?_, fun x => ?_, fun x => ?_, trivial⟩ y ?_)
  · change S1x1x128x128.Idx at x
    idx_vars x
    obtain rfl : x0 = 0 := Subsingleton.elim _ _
    obtain rfl : x1 = 0 := Subsingleton.elim _ _
    have hx : (Rect.unit (s := S1x4x128x128) ![0, 3, 0, 0] ![1, 1, 128, 128] inb_S1x4x128x128_S1x1x128x128_0_3_0_0).emb (ix4 0 0 x2 x3 : S1x1x128x128.Idx)
        = (ix4 0 3 x2 x3 : S1x4x128x128.Idx) := by blk_ext
    show _ = (fun y : S1x4x128x128.Idx => outR m c (ix4 (bt t) (y 1) (y 2) (y 3))) ((Rect.unit (s := S1x4x128x128) ![0, 3, 0, 0] ![1, 1, 128, 128] inb_S1x4x128x128_S1x1x128x128_0_3_0_0).emb (ix4 0 0 x2 x3 : S1x1x128x128.Idx))
    rw [hx]
    refine (Ret.state3 _ _ _ _ _ x2 x3).trans ?_
    rw [rk_eq, rv_eq, st3_eq]
    rfl
  · change S1x1x128x128.Idx at x
    idx_vars x
    obtain rfl : x0 = 0 := Subsingleton.elim _ _
    obtain rfl : x1 = 0 := Subsingleton.elim _ _
    have hx : (Rect.unit (s := S1x4x128x128) ![0, 2, 0, 0] ![1, 1, 128, 128] inb_S1x4x128x128_S1x1x128x128_0_2_0_0).emb (ix4 0 0 x2 x3 : S1x1x128x128.Idx)
        = (ix4 0 2 x2 x3 : S1x4x128x128.Idx) := by blk_ext
    show _ = (fun y : S1x4x128x128.Idx => outR m c (ix4 (bt t) (y 1) (y 2) (y 3))) ((Rect.unit (s := S1x4x128x128) ![0, 2, 0, 0] ![1, 1, 128, 128] inb_S1x4x128x128_S1x1x128x128_0_2_0_0).emb (ix4 0 0 x2 x3 : S1x1x128x128.Idx))
    rw [hx]
    refine (Ret.state2 _ _ _ _ _ x2 x3).trans ?_
    rw [rk_eq, rv_eq, st2_eq]
    rfl
  · change S1x1x128x128.Idx at x
    idx_vars x
    obtain rfl : x0 = 0 := Subsingleton.elim _ _
    obtain rfl : x1 = 0 := Subsingleton.elim _ _
    have hx : (Rect.unit (s := S1x4x128x128) ![0, 1, 0, 0] ![1, 1, 128, 128] inb_S1x4x128x128_S1x1x128x128_0_1_0_0).emb (ix4 0 0 x2 x3 : S1x1x128x128.Idx)
        = (ix4 0 1 x2 x3 : S1x4x128x128.Idx) := by blk_ext
    show _ = (fun y : S1x4x128x128.Idx => outR m c (ix4 (bt t) (y 1) (y 2) (y 3))) ((Rect.unit (s := S1x4x128x128) ![0, 1, 0, 0] ![1, 1, 128, 128] inb_S1x4x128x128_S1x1x128x128_0_1_0_0).emb (ix4 0 0 x2 x3 : S1x1x128x128.Idx))
    rw [hx]
    refine (Ret.state1 _ _ _ _ _ x2 x3).trans ?_
    rw [rk_eq, rv_eq, st1_eq]
    rfl
  · change S1x1x128x128.Idx at x
    idx_vars x
    obtain rfl : x0 = 0 := Subsingleton.elim _ _
    obtain rfl : x1 = 0 := Subsingleton.elim _ _
    have hx : (Rect.unit (s := S1x4x128x128) ![0, 0, 0, 0] ![1, 1, 128, 128] inb_S1x4x128x128_S1x1x128x128_0_0_0_0).emb (ix4 0 0 x2 x3 : S1x1x128x128.Idx)
        = (ix4 0 0 x2 x3 : S1x4x128x128.Idx) := by blk_ext
    show _ = (fun y : S1x4x128x128.Idx => outR m c (ix4 (bt t) (y 1) (y 2) (y 3))) ((Rect.unit (s := S1x4x128x128) ![0, 0, 0, 0] ![1, 1, 128, 128] inb_S1x4x128x128_S1x1x128x128_0_0_0_0).emb (ix4 0 0 x2 x3 : S1x1x128x128.Idx))
    rw [hx]
    refine (Ret.state0 _ _ _ _ _ x2 x3).trans ?_
    rw [rk_eq, rv_eq, st0_eq]
    rfl
  · have h1 : (y 1).val < 4 := (y 1).isLt
    have hc : (y 1).val = 3 ∨ (y 1).val = 2 ∨ (y 1).val = 1 ∨ (y 1).val = 0 := by omega
    rcases hc with h | h | h | h
    · exact ⟨_, List.mem_cons_self, mem_head (inb := inb_S1x4x128x128_S1x1x128x128_0_3_0_0) y h⟩
    · exact ⟨_, (List.mem_cons_of_mem _ List.mem_cons_self), mem_head (inb := inb_S1x4x128x128_S1x1x128x128_0_2_0_0) y h⟩
    · exact ⟨_, (List.mem_cons_of_mem _ (List.mem_cons_of_mem _ List.mem_cons_self)), mem_head (inb := inb_S1x4x128x128_S1x1x128x128_0_1_0_0) y h⟩
    · exact ⟨_, (List.mem_cons_of_mem _ (List.mem_cons_of_mem _ (List.mem_cons_of_mem _ List.mem_cons_self))), mem_head (inb := inb_S1x4x128x128_S1x1x128x128_0_0_0_0) y h⟩

end Cert.OddIdeal.Value
-- ==== Proof.OddRun.lean ====
/- The odd layer kernel's whole run: the host operations after the region take the two-heads-to-a-row states apart, and the
   four results are the outputs and states of the two mixers. -/
module

public import proofs.«01_k».proof.Proof.OddValue

set_option maxRecDepth 16384

@[expose] public section
noncomputable section

open Idealize.ShloMosaic Idealize.ShloMosaic.TcCoe Idealize.SL.Sem

namespace Cert.OddIdeal.Value
open Cert.OddIdeal Cert.OddIdeal.Gen
open Idealize.ShloMosaic.Pipeline (Dat)

variable (m : (ℓ : Loc nD τ sig) → Buf (Elt Ideal) ℓ) (ρ : Dev nD → PrngReg) (c : Dev nD)

/-- The gated linear attention's states, a head to a row. -/
def outS : FVec Ideal S16x4x64x128 .f32 := fun i =>
  OddSpec.gla (X0 m c) (X1 m c) (X2 m c) (X4 m c) (X5 m c) (X6 m c) (i 0) (i 1) (i 2) (i 3)

/-- The states taken apart on the host: head `2 p + q` is lane half `q` of row `p`, transposed. -/
theorem apart (x : FVec Ideal S16x2x128x128 .f32) (b : Fin 16) (h : Fin 4) (a : Fin 64) (e : Fin 128) :
    (transpose S16x4x64x128 [0, 1, 3, 2] (shapeCast S16x4x128x64 (concatenate S16x2x2x128x64 2
      [⟨S16x2x1x128x64, (broadcastInDim S16x2x1x128x64 ![0, 1, 3, 4] bcast_S16x2x128x64_S16x2x1x128x64_0_1_3_4
          (extractStridedSlice S16x2x128x64 ![0, 0, 0, 0] x slices_S16x2x128x128_S16x2x128x64_0_0_0_0) : FVec Ideal S16x2x1x128x64 .f32)⟩,
        ⟨S16x2x1x128x64, (broadcastInDim S16x2x1x128x64 ![0, 1, 3, 4] bcast_S16x2x128x64_S16x2x1x128x64_0_1_3_4
          (extractStridedSlice S16x2x128x64 ![0, 0, 0, 64] x slices_S16x2x128x128_S16x2x128x64_0_0_0_64) : FVec Ideal S16x2x1x128x64 .f32)⟩]
      concatenates_S16x2x1x128x64_S16x2x1x128x64_S16x2x2x128x64_d2) shapeCasts_S16x2x2x128x64_S16x4x128x64)
      transposes_S16x4x128x64_S16x4x64x128_0_1_3_2 : FVec Ideal S16x4x64x128 .f32) (ix4 b h a e)
      = x (ix4 b ⟨h.val / 2, by omega⟩ e ⟨h.val % 2 * 64 + a.val, by omega⟩) := by
  pointwise
  split
  · exact congrArg x (congrArg (ix4 b _ e) (Fin.ext (by simp only []; omega)))
  · exact congrArg x (congrArg (ix4 b _ e) (Fin.ext (by simp only []; omega)))

/-- The fold's state array, read at the row and lane half of a head, is that head's state. -/
theorem outG_at (b : Fin 16) (h : Fin 4) (a : Fin 64) (e : Fin 128) :
    outG m c (ix4 b ⟨h.val / 2, by omega⟩ e ⟨h.val % 2 * 64 + a.val, by omega⟩) = outS m c (ix4 b h a e) := by
  have h0 : ∀ (h' : Fin 4) (a' : Fin 64), h' = h → a' = a →
      OddSpec.gla (X0 m c) (X1 m c) (X2 m c) (X4 m c) (X5 m c) (X6 m c) b h' a' e = outS m c (ix4 b h a e) := by
    rintro _ _ rfl rfl; rfl
  show (if hh : h.val % 2 * 64 + a.val < 64
      then OddSpec.gla (X0 m c) (X1 m c) (X2 m c) (X4 m c) (X5 m c) (X6 m c) b ⟨h.val / 2 * 2, by omega⟩ ⟨h.val % 2 * 64 + a.val, hh⟩ e
      else OddSpec.gla (X0 m c) (X1 m c) (X2 m c) (X4 m c) (X5 m c) (X6 m c) b ⟨h.val / 2 * 2 + 1, by omega⟩ ⟨h.val % 2 * 64 + a.val - 64, by omega⟩ e) = _
  split
  · exact h0 _ _ (Fin.ext (by simp only []; omega)) (Fin.ext (by simp only []; omega))
  · exact h0 _ _ (Fin.ext (by simp only []; omega)) (Fin.ext (by simp only []; omega))

/-- The states the host's last operations leave. -/
theorem tail : Pipeline.afterTail₀ cfgs (dats m) 0 (V0 m) [hostOps1] c main_v44 = outS m c := by
  unfold Pipeline.afterTail₀ hostOps1
  simp only [List.flatten_cons, List.flatten_nil, List.append_nil, List.cons_append, List.nil_append]
  after_results
  erw [Pipeline.withArrays_arr spec0 launch0.win.arr_inj c (V0 m c) _ 16]
  rw [final16]
  funext i
  idx_vars i
  exact (apart (outG m c) _ _ _ _).trans (outG_at m c _ _ _ _)

set_option maxHeartbeats 4000000 in
/-- The kernel's run: its four results are the two mixers' outputs and states, and its arguments are kept. -/
theorem run : θ_run defs (onTc (τ := τ) (main (F := Ideal))) ⟨m, fun _ => 0, ρ⟩ fun r => ∀ c : Dev nD,
    r.2.mem ((c : Thread nD τ).loc main_v37_0) = outY m c ∧ r.2.mem ((c : Thread nD τ).loc main_v44) = outS m c
      ∧ r.2.mem ((c : Thread nD τ).loc main_v37_2) = outZ m c ∧ r.2.mem ((c : Thread nD τ).loc main_v37_3) = outR m c
    ∧ r.2.mem ((c : Thread nD τ).loc main_arg0) = X0 m c ∧ r.2.mem ((c : Thread nD τ).loc main_arg1) = X1 m c ∧ r.2.mem ((c : Thread nD τ).loc main_arg2) = X2 m c ∧ r.2.mem ((c : Thread nD τ).loc main_arg3) = X3 m c ∧ r.2.mem ((c : Thread nD τ).loc main_arg4) = X4 m c ∧ r.2.mem ((c : Thread nD τ).loc main_arg5) = X5 m c ∧ r.2.mem ((c : Thread nD τ).loc main_arg6) = X6 m c ∧ r.2.mem ((c : Thread nD τ).loc main_arg7) = X7 m c ∧ r.2.mem ((c : Thread nD τ).loc main_arg8) = X8 m c ∧ r.2.mem ((c : Thread nD τ).loc main_arg9) = X9 m c ∧ r.2.mem ((c : Thread nD τ).loc main_arg10) = X10 m c ∧ r.2.mem ((c : Thread nD τ).loc main_arg11) = X11 m c ∧ r.2.mem ((c : Thread nD τ).loc main_arg12) = X12 m c :=
  (θ_run defs _ _).mono (fun _ h c => ⟨((h c).1 15).trans (final15 m c),
      ((h c).2 main_v44 (Pipeline.mem_restRefs_of main_v44 (by decide) (by decide))).trans (tail m c),
      ((h c).1 17).trans (final17 m c), ((h c).1 18).trans (final18 m c),
    ((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).1 3).trans (((dats m 0 c).arrAt_in 3 rfl _).trans (V_main_arg3 m c)),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).1 8).trans (((dats m 0 c).arrAt_in 8 rfl _).trans (V_main_arg8 m c)),
    ((h c).1 9).trans (((dats m 0 c).arrAt_in 9 rfl _).trans (V_main_arg9 m c)),
    ((h c).1 10).trans (((dats m 0 c).arrAt_in 10 rfl _).trans (V_main_arg10 m c)),
    ((h c).1 11).trans (((dats m 0 c).arrAt_in 11 rfl _).trans (V_main_arg11 m c)),
    ((h c).1 14).trans (((dats m 0 c).arrAt_in 14 rfl _).trans (V_main_arg12 m c))⟩) (run_main m ρ)

end Cert.OddIdeal.Value
-- ==== Proof.OddRef.lean ====
/- The odd layer reference's stages read at an index: each is the mathematics of that sequence, head and token. -/
module

public import proofs.«01_k».proof.Proof.Gen.OddRefIdeal.Read
public import proofs.«01_k».proof.Proof.OddMath

set_option maxRecDepth 16384

@[expose] public section
noncomputable section

open Idealize.ShloMosaic Idealize.ShloMosaic.TcCoe Idealize.SL.Sem

namespace Cert.OddRefIdeal.At
open Cert.OddRefIdeal Cert.OddRefIdeal.Gen Cert.OddRefIdeal.Read

variable (x0 : FVec Ideal S16x16x512 .f32) (x1 : FVec Ideal S16x16x512 .bf16) (x2 : FVec Ideal S16x16x128 .f32) (x3 : FVec Ideal S16x16x512 .f32)
  (x4 : FVec Ideal S16x4x64x128 .f32) (x5 : FVec Ideal S16x256 .f32) (x6 : FVec Ideal S256 .f32) (x7 : FVec Ideal S128 .f32)
  (x8 x9 : FVec Ideal S16x16x512 .f32) (x10 : FVec Ideal S16x16x512 .bf16) (x11 : FVec Ideal S16x16x512 .f32) (x12 : FVec Ideal S16x4x128x128 .f32)

theorem sel_ge {α : Type} (i j : Fin 16) (a b : α) :
    Scalar.select (IntOp.cmpi CmpIPredicate.sge (IntOp.addi (BitVec.ofNat 32 i.val) 0#32) (BitVec.ofNat 32 j.val)) a b = if j ≤ i then a else b := by
  have h : IntOp.cmpi CmpIPredicate.sge (IntOp.addi (BitVec.ofNat 32 i.val) 0#32) (BitVec.ofNat 32 j.val) = if j ≤ i then 1#1 else 0#1 :=
    (by decide +kernel : ∀ i j : Fin 16, IntOp.cmpi CmpIPredicate.sge (IntOp.addi (BitVec.ofNat 32 i.val) 0#32) (BitVec.ofNat 32 j.val)
      = if j ≤ i then 1#1 else 0#1) i j
  rw [h]; split <;> rfl

theorem mask_if {α : Type} (p : Prop) [Decidable p] (a b : α) : Scalar.select (if p then 1#1 else 0#1) a b = if p then a else b := by
  split <;> rfl

theorem zero_at : id (constant (F := Ideal) S_ FTy.f32 0x00000000#32) ix0 = (0 : EReal) := by
  show Ideal.ofBits .f32 0x00000000#32 = 0
  simp [Ideal.ofBits, Ideal.ieee]

theorem v9_at (b i : Fin 16) (n : Fin 256) :
    val_main_v9 (F := Ideal) x2 x5 x6 (ix3 b i n) = OddSpec.glog x2 x5 x6 b i n := by
  unfold OddSpec.glog OddSpec.logDecay
  pointwise [val_main_v9, val_main_v8, val_main_v7, val_main_call0_v1, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst, val_main_call0_v0, val_main_v6, val_main_v5,
    val_main_v4, val_main_v3, val_main_v2, val_main_cst]
  rw [if_neg (fun h => h rfl)]
  rfl

theorem v20_at (b : Fin 16) (h : Fin 4) (i : Fin 16) (a : Fin 64) :
    val_main_v20 (F := Ideal) x2 x5 x6 (ix4 b h i a) = OddSpec.glog x2 x5 x6 b i ⟨h.val * 64 + a.val, by omega⟩ := by
  rw [← v9_at]
  pointwise [val_main_v20, val_main_v19]

theorem v21_at (b : Fin 16) (h : Fin 4) (i : Fin 16) (a : Fin 64) :
    val_main_v21 (F := Ideal) x2 x5 x6 (ix4 b h i a) = OddSpec.gc x2 x5 x6 b h i a := by
  unfold val_main_v21
  refine (OddMath.cumsum_at _ _ ?_ _ _ b h i a).trans ?_
  · pointwise [val_main_call1_call0_v0, val_main_call1_call0_cst]
  · simp only [v20_at]
    rfl

theorem v13_at (b : Fin 16) (h : Fin 4) (i : Fin 16) (a : Fin 64) :
    val_main_v13 (F := Ideal) x0 (ix4 b h i a) = OddSpec.gq x0 b h i a := by
  pointwise [val_main_v13, val_main_v12, val_main_v11, val_main_v10, val_main_cst_0, val_main_v0, OddSpec.gq]

theorem v15_at (b : Fin 16) (h : Fin 4) (i : Fin 16) (a : Fin 64) :
    val_main_v15 (F := Ideal) x0 (ix4 b h i a) = OddSpec.gk x0 b h i a := by
  pointwise [val_main_v15, val_main_v14, val_main_v1, OddSpec.gk]

theorem v18_at (b : Fin 16) (h : Fin 4) (j : Fin 16) (e : Fin 128) :
    val_main_v18 (F := Ideal) x1 (ix4 b h j e) = OddSpec.hv x1 b h j e := by
  pointwise [val_main_v18, val_main_v17, val_main_v16, OddSpec.hv]

theorem v35_at (b : Fin 16) (h : Fin 4) (i j : Fin 16) :
    val_main_v35 (F := Ideal) x0 x2 x5 x6 (ix4 b h i j)
      = OddSpec.score (OddSpec.gq x0 b h) (OddSpec.gk x0 b h) (OddSpec.gc x2 x5 x6 b h) i j := by
  unfold OddSpec.score
  simp only [← v13_at, ← v15_at, ← v21_at]
  pointwise [val_main_v35, val_main_call3_v2, val_main_call3_v1, val_main_call3_v0, val_main_cst_1, val_main_v34, val_main_v33, val_main_call2_v5,
    val_main_call2_c_0, val_main_call2_v4, val_main_call2_v3, val_main_call2_v2, val_main_call2_v1, val_main_call2_c, val_main_call2_v0, val_main_v32,
    val_main_c, val_main_v24, val_main_v27, val_main_v23, val_main_v26, val_main_v25]
  rw [sel_ge, mask_if]
  exact if_congr Iff.rfl rfl zero_at

theorem v38_at (b : Fin 16) (h : Fin 4) (i : Fin 16) (e : Fin 128) :
    val_main_v38 (F := Ideal) x0 x1 x2 x4 x5 x6 (ix4 b h i e)
      = OddSpec.out (OddSpec.gq x0 b h) (OddSpec.gk x0 b h) (OddSpec.gc x2 x5 x6 b h) (OddSpec.hv x1 b h) (OddSpec.hs x4 b h) i e := by
  unfold OddSpec.out OddSpec.hs
  simp only [← v35_at, ← v13_at, ← v21_at, ← v18_at]
  pointwise [val_main_v38, val_main_v37, val_main_v36, val_main_v24, val_main_v23]

theorem v44_at (b : Fin 16) (h : Fin 4) (a : Fin 64) (e : Fin 128) :
    val_main_v44 (F := Ideal) x0 x1 x2 x4 x5 x6 (ix4 b h a e) = OddSpec.gla x0 x1 x2 x4 x5 x6 b h a e := by
  unfold OddSpec.gla OddSpec.state OddSpec.hs
  simp only [← v15_at, ← v21_at, ← v18_at]
  pointwise [val_main_v44, val_main_v43, val_main_v42, val_main_v41, val_main_v40, val_main_v39, val_main_v31, val_main_v30, val_main_v29, val_main_v28, val_main_v22]

theorem v57_at (b : Fin 16) (h : Fin 4) (i : Fin 16) (e : Fin 128) :
    val_main_v57 (F := Ideal) x0 x1 x2 x4 x5 x6 x7 (ix4 b h i e)
      = OddSpec.headRms (fun e => val_main_v38 (F := Ideal) x0 x1 x2 x4 x5 x6 (ix4 b h i e)) (fun e => x7 (ix1 e)) e := by
  unfold OddSpec.headRms
  pointwise [val_main_v57, val_main_v56, val_main_v55, val_main_v54, val_main_v53, val_main_v52, val_main_v51, val_main_v50, val_main_cst_4, val_main_v49,
    val_main_v48, val_main_cst_3, val_main_v47, val_main_v46, val_main_cst_2, val_main_v45]

theorem v204_at (b i : Fin 16) (n : Fin 512) :
    val_main_v204 (F := Ideal) x0 x1 x2 x3 x4 x5 x6 x7 (ix3 b i n)
      = OddSpec.yc x0 x1 x2 x3 x4 x5 x6 x7 b i ⟨n.val / 128, by omega⟩ ⟨n.val % 128, by omega⟩ := by
  unfold OddSpec.yc Spec.silu
  simp only [← funext (v38_at x0 x1 x2 x4 x5 x6 b ⟨n.val / 128, by omega⟩ i), ← v57_at]
  have hn : n.val / 128 * 128 + n.val % 128 = n.val := Nat.div_add_mod' _ _
  simp only [hn]
  pointwise [val_main_v204, val_main_v61, val_main_v60, val_main_v59, val_main_v58, val_main_call4_v5, val_main_call4_v4, val_main_call4_v3, val_main_call4_v2,
    val_main_call4_v1, val_main_call4_v0, val_main_call4_cst, val_main_call4_cst_0]

/-! ## The retention -/

theorem v81_at (i : Fin 16) (a : Fin 64) : val_main_v81 (F := Ideal) (ix2 i a) = OddSpec.angle i a := by
  unfold OddSpec.angle
  pointwise [val_main_v81, val_main_v80, val_main_v79, val_main_v78, val_main_v77, val_main_v76, val_main_v75, val_main_v74, val_main_v73, val_main_v72,
    val_main_v71, val_main_v70, val_main_v69, val_main_v68, val_main_v67, val_main_v65, val_main_v64, val_main_v63, val_main_v62, val_main_c_5, val_main_cst_6,
    val_main_cst_7, val_main_cst_8, val_main_cst_9]
  rfl

theorem v119_at (i : Fin 16) (a : Fin 64) : val_main_v119 (F := Ideal) (ix2 i a) = OddSpec.angle i a := by
  unfold OddSpec.angle
  pointwise [val_main_v119, val_main_v118, val_main_v117, val_main_v116, val_main_v115, val_main_v114, val_main_v113, val_main_v112, val_main_v111, val_main_v110,
    val_main_v109, val_main_v108, val_main_v107, val_main_v106, val_main_v105, val_main_v65, val_main_v64, val_main_v63, val_main_v62, val_main_c_5, val_main_cst_10,
    val_main_cst_11, val_main_cst_12, val_main_cst_13]
  rfl

theorem v103_at (b : Fin 16) (h : Fin 4) (i : Fin 16) (a : Fin 128) :
    val_main_v103 (F := Ideal) x8 (ix4 b h i a) = OddSpec.rr x8 b h i a := by
  unfold OddSpec.rr OddSpec.rot
  simp only [← v81_at]
  pointwise [val_main_v103, val_main_v102, val_main_v101, val_main_v100, val_main_v99, val_main_v98, val_main_v97, val_main_v96, val_main_v95, val_main_v94,
    val_main_v93, val_main_v92, val_main_v91, val_main_v90, val_main_v89, val_main_v88, val_main_v87, val_main_v86, val_main_v85, val_main_v84, val_main_v83,
    val_main_v82, val_main_v66]
  split
  · simp only [Nat.add_comm 64 a.val]
  · have ha : h.val * 128 + (64 + (a.val - 64)) = h.val * 128 + a.val := by omega
    simp only [ha]

theorem v143_at (b : Fin 16) (h : Fin 4) (i : Fin 16) (a : Fin 128) :
    val_main_v143 (F := Ideal) x9 (ix4 b h i a) = OddSpec.rk x9 b h i a := by
  unfold OddSpec.rk OddSpec.rr OddSpec.rot
  simp only [← v119_at]
  pointwise [val_main_v143, val_main_v142, val_main_v141, val_main_cst_14, val_main_v140, val_main_v139, val_main_v138, val_main_v137, val_main_v136, val_main_v135,
    val_main_v134, val_main_v133, val_main_v132, val_main_v131, val_main_v130, val_main_v129, val_main_v128, val_main_v127, val_main_v126, val_main_v125,
    val_main_v124, val_main_v123, val_main_v122, val_main_v121, val_main_v120, val_main_v104]
  congr 1
  split
  · simp only [Nat.add_comm 64 a.val]
  · have ha : h.val * 128 + (64 + (a.val - 64)) = h.val * 128 + a.val := by omega
    simp only [ha]

theorem log_gamma (h : Fin 4) :
    Ideal.log (1 - Ideal.pow (Ideal.ofBits FTy.f32 0x40000000#32)
      (Ideal.ofBits FTy.f32 0xC0A00000#32 - FloatOps.sitofp (F := Ideal) FTy.f32 (BitVec.ofNat 32 h.val))) = ((OddSpec.logGamma h : ℝ) : EReal) := by
  have h2 : Ideal.ofBits FTy.f32 0x40000000#32 = ((2 : ℝ) : EReal) := by simp [Ideal.ofBits, Ideal.ieee, -EReal.coe_mul]; norm_num
  have h5 : Ideal.ofBits FTy.f32 0xC0A00000#32 = ((-5 : ℝ) : EReal) := by simp [Ideal.ofBits, Ideal.ieee, -EReal.coe_mul]; norm_num
  have hh : FloatOps.sitofp (F := Ideal) FTy.f32 (BitVec.ofNat 32 h.val) = ((h.val : ℝ) : EReal) := by
    fin_cases h <;> · show (((BitVec.toInt _ : ℤ) : ℝ) : EReal) = _; norm_num [BitVec.toInt]
  rw [h2, h5, hh, ← EReal.coe_sub]
  have hp : Ideal.pow ((2 : ℝ) : EReal) ((-5 - (h.val : ℝ) : ℝ) : EReal) = ((1 / 2 ^ (5 + h.val) : ℝ) : EReal) := by
    have : (2 : ℝ) ^ (-5 - (h.val : ℝ)) = 1 / 2 ^ (5 + h.val) := by
      rw [show (-5 - (h.val : ℝ) : ℝ) = -((5 + h.val : ℕ) : ℝ) by push_cast; ring, Real.rpow_neg (by norm_num), Real.rpow_natCast, one_div]
    rw [← this]
    rfl
  rw [hp, show (1 : EReal) = ((1 : ℝ) : EReal) from rfl, ← EReal.coe_sub]
  have hpos : (0 : ℝ) < 1 - 1 / 2 ^ (5 + h.val) := by fin_cases h <;> norm_num
  unfold OddSpec.logGamma
  exact if_neg (not_le.2 hpos)

theorem v153_at (b : Fin 16) (h : Fin 4) (i : Fin 16) (d : Fin 1) :
    val_main_v153 (F := Ideal) (ix4 b h i d) = ((OddSpec.logGamma h : ℝ) : EReal) := by
  rw [← log_gamma]
  pointwise [val_main_v153, val_main_v152, val_main_v151, val_main_v150, val_main_v149, val_main_cst_17, val_main_v148, val_main_v147, val_main_cst_16,
    val_main_v146, val_main_v145, val_main_cst_15, val_main_v144]

/-- The number of positions up to `i`, each with the same real `g`, make `(i + 1) g`. -/
theorem sum_const (g : ℝ) (i : Fin 16) : (∑ j : Fin 16, if j ≤ i then ((g : ℝ) : EReal) else 0) = ((((i.val + 1 : ℕ) : ℝ) * g : ℝ) : EReal) := by
  have h : ∀ j : Fin 16, (if j ≤ i then ((g : ℝ) : EReal) else 0) = (((if j ≤ i then g else 0) : ℝ) : EReal) := fun j => by split <;> simp
  simp only [h]
  have hs : (∑ j : Fin 16, (if j ≤ i then g else 0)) = ((i.val + 1 : ℕ) : ℝ) * g := by
    rw [← Finset.sum_filter, Finset.sum_const, nsmul_eq_mul]
    congr 2
    clear h; revert i; decide +kernel
  rw [← hs]
  simp only [Fin.sum_univ_succ, Fin.sum_univ_zero, EReal.coe_add, EReal.coe_zero]

theorem v157_at (b : Fin 16) (h : Fin 4) (i : Fin 16) (d : Fin 1) :
    val_main_v157 (F := Ideal) (ix4 b h i d) = OddSpec.retCum h i := by
  unfold val_main_v157
  refine (OddMath.cumsum_at _ _ ?_ _ _ b h i d).trans ?_
  · pointwise [val_main_call5_call0_v0, val_main_call5_call0_cst]
  · simp only [v153_at]
    exact sum_const _ i

theorem v156_at (b : Fin 16) (h : Fin 4) (j : Fin 16) (e : Fin 128) :
    val_main_v156 (F := Ideal) x10 (ix4 b h j e) = OddSpec.hv x10 b h j e := by
  pointwise [val_main_v156, val_main_v155, val_main_v154, OddSpec.hv]

theorem v174_at (b : Fin 16) (h : Fin 4) (i j : Fin 16) :
    val_main_v174 (F := Ideal) x8 x9 (ix4 b h i j)
      = OddSpec.score (OddSpec.rr x8 b h) (OddSpec.rk x9 b h) (fun i _ => OddSpec.retCum h i) i j := by
  unfold OddSpec.score
  simp only [← v103_at, ← v143_at, ← fun i => v157_at b h i 0]
  pointwise [val_main_v174, val_main_call7_v2, val_main_call7_v1, val_main_call7_v0, val_main_cst_19, val_main_v173, val_main_v172, val_main_call6_v5,
    val_main_call6_c_0, val_main_call6_v4, val_main_call6_v3, val_main_call6_v2, val_main_call6_v1, val_main_call6_c, val_main_call6_v0, val_main_v171,
    val_main_c_18, val_main_v159, val_main_v160, val_main_v161, val_main_v162, val_main_v163, val_main_v164, val_main_v165]
  rw [sel_ge, mask_if]
  exact if_congr Iff.rfl rfl zero_at

theorem v177_at (b : Fin 16) (h : Fin 4) (i : Fin 16) (e : Fin 128) :
    val_main_v177 (F := Ideal) x8 x9 x10 x12 (ix4 b h i e)
      = OddSpec.out (OddSpec.rr x8 b h) (OddSpec.rk x9 b h) (fun i _ => OddSpec.retCum h i) (OddSpec.hv x10 b h) (OddSpec.hs x12 b h) i e := by
  unfold OddSpec.out OddSpec.hs
  simp only [← v174_at]
  simp only [← v103_at, ← fun i => v157_at b h i 0, ← v156_at]
  pointwise [val_main_v177, val_main_v176, val_main_v175, val_main_v161, val_main_v160, val_main_v159]

theorem v183_at (b : Fin 16) (h : Fin 4) (a e : Fin 128) :
    val_main_v183 (F := Ideal) x9 x10 x12 (ix4 b h a e) = OddSpec.ret x9 x10 x12 b h a e := by
  unfold OddSpec.ret OddSpec.state OddSpec.hs
  simp only [← v143_at, ← fun i => v157_at b h i 0, ← v156_at]
  pointwise [val_main_v183, val_main_v182, val_main_v181, val_main_v180, val_main_v179, val_main_v178, val_main_v170, val_main_v169, val_main_v168,
    val_main_v167, val_main_v166, val_main_v158]

theorem v199_at (b : Fin 16) (h : Fin 4) (i : Fin 16) (e : Fin 128) :
    val_main_v199 (F := Ideal) x8 x9 x10 x12 (ix4 b h i e)
      = OddSpec.headLn (fun e => val_main_v177 (F := Ideal) x8 x9 x10 x12 (ix4 b h i e)) e := by
  unfold OddSpec.headLn OddSpec.centre
  pointwise [val_main_v199, val_main_v198, val_main_v197, val_main_v196, val_main_v195, val_main_v194, val_main_v193, val_main_cst_23, val_main_v192, val_main_v191, val_main_cst_22, val_main_v190, val_main_v189, val_main_v188, val_main_v187, val_main_v186, val_main_cst_21,
    val_main_v185, val_main_v184, val_main_cst_20, val_main_cst_24]

theorem v205_at (b i : Fin 16) (n : Fin 512) :
    val_main_v205 (F := Ideal) x8 x9 x10 x11 x12 (ix3 b i n)
      = OddSpec.yd x8 x9 x10 x11 x12 b i ⟨n.val / 128, by omega⟩ ⟨n.val % 128, by omega⟩ := by
  unfold OddSpec.yd Spec.silu
  simp only [← funext (v177_at x8 x9 x10 x12 b ⟨n.val / 128, by omega⟩ i), ← v199_at]
  have hn : n.val / 128 * 128 + n.val % 128 = n.val := Nat.div_add_mod' _ _
  simp only [hn]
  pointwise [val_main_v205, val_main_v203, val_main_v202, val_main_v201, val_main_v200, val_main_call8_v5, val_main_call8_v4, val_main_call8_v3, val_main_call8_v2,
    val_main_call8_v1, val_main_call8_v0, val_main_call8_cst, val_main_call8_cst_0]

end Cert.OddRefIdeal.At
-- ==== Proof.OddClaims.lean ====
/- The odd layer's claims: the named constants' statement, and the kernel's run and the reference's ending in the same
   arrays. -/
module

public import proofs.«01_k».proof.Defs
public import proofs.«01_k».proof.Proof.OddRun
public import proofs.«01_k».proof.Proof.OddRef

set_option maxRecDepth 16384

@[expose] public section
noncomputable section

open Idealize.ShloMosaic Idealize.ShloMosaic.TcCoe Idealize.SL.Sem

namespace Cert.OddClaims

open Cert.OddIdeal.Value (X0 X1 X2 X3 X4 X5 X6 X7 X8 X9 X10 X11 X12)

variable (m : (ℓ : Loc Cert.OddIdeal.nD Cert.OddIdeal.τ Cert.OddIdeal.sig) → Buf (Elt Ideal) ℓ) (c : Dev Cert.OddIdeal.nD)

/-- The reference's result 0 is the kernel's, as a function of the arguments. -/
theorem same0 : Cert.OddRefIdeal.Read.val_main_v204 (F := Ideal) (X0 m c) (X1 m c) (X2 m c) (X3 m c) (X4 m c) (X5 m c) (X6 m c) (X7 m c) = Cert.OddIdeal.Value.outY m c := by
  funext i
  change Cert.OddIdeal.S16x16x512.Idx at i
  idx_vars i
  exact Cert.OddRefIdeal.At.v204_at _ _ _ _ _ _ _ _ i0 i1 i2

/-- The reference's result 1 is the kernel's, as a function of the arguments. -/
theorem same1 : Cert.OddRefIdeal.Read.val_main_v44 (F := Ideal) (X0 m c) (X1 m c) (X2 m c) (X4 m c) (X5 m c) (X6 m c) = Cert.OddIdeal.Value.outS m c := by
  funext i
  change Cert.OddIdeal.S16x4x64x128.Idx at i
  idx_vars i
  exact Cert.OddRefIdeal.At.v44_at _ _ _ _ _ _ i0 i1 i2 i3

/-- The reference's result 2 is the kernel's, as a function of the arguments. -/
theorem same2 : Cert.OddRefIdeal.Read.val_main_v205 (F := Ideal) (X8 m c) (X9 m c) (X10 m c) (X11 m c) (X12 m c) = Cert.OddIdeal.Value.outZ m c := by
  funext i
  change Cert.OddIdeal.S16x16x512.Idx at i
  idx_vars i
  exact Cert.OddRefIdeal.At.v205_at _ _ _ _ _ i0 i1 i2

/-- The reference's result 3 is the kernel's, as a function of the arguments. -/
theorem same3 : Cert.OddRefIdeal.Read.val_main_v183 (F := Ideal) (X9 m c) (X10 m c) (X12 m c) = Cert.OddIdeal.Value.outR m c := by
  funext i
  change Cert.OddIdeal.S16x4x128x128.Idx at i
  idx_vars i
  exact Cert.OddRefIdeal.At.v183_at _ _ _ i0 i1 i2 i3

/-- Each named constant of the kernel is its real number in the ideal reading. -/
theorem preserves : Cert.preserves_Odd_OddIdeal :=
  ⟨IdealRules.named_const.statement Cert.OddIdeal.κ "log_decay0" .f32 0xBD020AEC#32 ((Real.log (31 / 32) : ℝ) : EReal) rfl,
    IdealRules.named_const.statement Cert.OddIdeal.κ "log_decay1" .f32 0xBC8102B3#32 ((Real.log (63 / 64) : ℝ) : EReal) rfl,
    IdealRules.named_const.statement Cert.OddIdeal.κ "log_decay2" .f32 0xBC0080AC#32 ((Real.log (127 / 128) : ℝ) : EReal) rfl,
    IdealRules.named_const.statement Cert.OddIdeal.κ "log_decay3" .f32 0xBB80402B#32 ((Real.log (255 / 256) : ℝ) : EReal) rfl,
    IdealRules.named_const.statement Cert.OddIdeal.κ "block_decay0" .f32 0x3F1A09B0#32 ((727423121747185263828481 / 1208925819614629174706176 : ℝ) : EReal) rfl,
    IdealRules.named_const.statement Cert.OddIdeal.κ "block_decay1" .f32 0x3F46FADA#32 ((61581291280182164914327485441 / 79228162514264337593543950336 : ℝ) : EReal) rfl,
    IdealRules.named_const.statement Cert.OddIdeal.κ "block_decay2" .f32 0x3F61CEF0#32 ((4579937329576774398276408998492161 / 5192296858534827628530496329220096 : ℝ) : EReal) rfl,
    IdealRules.named_const.statement Cert.OddIdeal.κ "block_decay3" .f32 0x3F7075D7#32 ((319626579315078487616775634918212890625 / 340282366920938463463374607431768211456 : ℝ) : EReal) rfl⟩

set_option maxHeartbeats 4000000 in
/-- Over the extended reals the kernel and the reference, from the same arguments, end with the same four results and keep
    their arguments. -/
theorem algebraic : @Cert.algebraic_OddIdeal_OddRefIdeal Cert.OddIdeal.Gen.facts Cert.OddRefIdeal.Gen.facts := by
  intro m ρ m' ρ' _ hag
  have h0 : ∀ c : Dev Cert.OddIdeal.nD, StableHlo.launchContents m' c (Proc.devRef .tc Cert.OddRefIdeal.main_arg0) = X0 m c := fun c => (hag c).1
  have h1 : ∀ c : Dev Cert.OddIdeal.nD, StableHlo.launchContents m' c (Proc.devRef .tc Cert.OddRefIdeal.main_arg1) = X1 m c := fun c => (hag c).2.1
  have h2 : ∀ c : Dev Cert.OddIdeal.nD, StableHlo.launchContents m' c (Proc.devRef .tc Cert.OddRefIdeal.main_arg2) = X2 m c := fun c => (hag c).2.2.1
  have h3 : ∀ c : Dev Cert.OddIdeal.nD, StableHlo.launchContents m' c (Proc.devRef .tc Cert.OddRefIdeal.main_arg3) = X3 m c := fun c => (hag c).2.2.2.1
  have h4 : ∀ c : Dev Cert.OddIdeal.nD, StableHlo.launchContents m' c (Proc.devRef .tc Cert.OddRefIdeal.main_arg4) = X4 m c := fun c => (hag c).2.2.2.2.1
  have h5 : ∀ c : Dev Cert.OddIdeal.nD, StableHlo.launchContents m' c (Proc.devRef .tc Cert.OddRefIdeal.main_arg5) = X5 m c := fun c => (hag c).2.2.2.2.2.1
  have h6 : ∀ c : Dev Cert.OddIdeal.nD, StableHlo.launchContents m' c (Proc.devRef .tc Cert.OddRefIdeal.main_arg6) = X6 m c := fun c => (hag c).2.2.2.2.2.2.1
  have h7 : ∀ c : Dev Cert.OddIdeal.nD, StableHlo.launchContents m' c (Proc.devRef .tc Cert.OddRefIdeal.main_arg7) = X7 m c := fun c => (hag c).2.2.2.2.2.2.2.1
  have h8 : ∀ c : Dev Cert.OddIdeal.nD, StableHlo.launchContents m' c (Proc.devRef .tc Cert.OddRefIdeal.main_arg8) = X8 m c := fun c => (hag c).2.2.2.2.2.2.2.2.1
  have h9 : ∀ c : Dev Cert.OddIdeal.nD, StableHlo.launchContents m' c (Proc.devRef .tc Cert.OddRefIdeal.main_arg9) = X9 m c := fun c => (hag c).2.2.2.2.2.2.2.2.2.1
  have h10 : ∀ c : Dev Cert.OddIdeal.nD, StableHlo.launchContents m' c (Proc.devRef .tc Cert.OddRefIdeal.main_arg10) = X10 m c := fun c => (hag c).2.2.2.2.2.2.2.2.2.2.1
  have h11 : ∀ c : Dev Cert.OddIdeal.nD, StableHlo.launchContents m' c (Proc.devRef .tc Cert.OddRefIdeal.main_arg11) = X11 m c := fun c => (hag c).2.2.2.2.2.2.2.2.2.2.2.1
  have h12 : ∀ c : Dev Cert.OddIdeal.nD, StableHlo.launchContents m' c (Proc.devRef .tc Cert.OddRefIdeal.main_arg12) = X12 m c := fun c => (hag c).2.2.2.2.2.2.2.2.2.2.2.2
  exact ⟨fun c => Cert.OddIdeal.Value.outY m c, fun c => Cert.OddIdeal.Value.outS m c, fun c => Cert.OddIdeal.Value.outZ m c,
    fun c => Cert.OddIdeal.Value.outR m c, Cert.OddIdeal.Value.run m ρ,
    (θ_run _ _ _).mono (fun _ h c => ⟨(h c).1.trans ((Cert.OddRefIdeal.Read.val_main_v204_eq _).trans (Eq.trans (by rw [h0 c, h1 c, h2 c, h3 c, h4 c, h5 c, h6 c, h7 c]) (same0 m c))),
      (h c).2.1.trans ((Cert.OddRefIdeal.Read.val_main_v44_eq _).trans (Eq.trans (by rw [h0 c, h1 c, h2 c, h4 c, h5 c, h6 c]) (same1 m c))),
      (h c).2.2.1.trans ((Cert.OddRefIdeal.Read.val_main_v205_eq _).trans (Eq.trans (by rw [h8 c, h9 c, h10 c, h11 c, h12 c]) (same2 m c))),
      (h c).2.2.2.1.trans ((Cert.OddRefIdeal.Read.val_main_v183_eq _).trans (Eq.trans (by rw [h9 c, h10 c, h12 c]) (same3 m c))),
      (h c).2.2.2.2⟩) (Cert.OddRefIdeal.Value.run m' ρ')⟩

end Cert.OddClaims
-- ==== Proof.OddInValue.lean ====
/- The odd layer's input projection kernel's run: each result array holds, at every token and feature, the projection of
   that token's normalised features with its range of the weight's columns. -/
module

public import proofs.«01_k».proof.Proof.Gen.OddInIdeal.Value
public import proofs.«01_k».proof.Proof.Spec
public import Idealize.ShloMosaic.Lib.Pipeline.ValueKit
public import Idealize.ShloMosaic.Lib.Claim

set_option maxRecDepth 16384

@[expose] public section
noncomputable section

open Idealize.ShloMosaic Idealize.ShloMosaic.TcCoe Idealize.SL.Sem

namespace Cert.OddInIdeal.Value
open Cert.OddInIdeal Cert.OddInIdeal.Gen
open Idealize.ShloMosaic.Pipeline (Dat)

/-- Result 0's block, from the blocks of the arguments. -/
theorem out10_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 512) :
    out0_10 (F := Ideal) x0 x1 w0 w1 w2 w3 w4 w5 w6 w7 (ix2 r d)
      = Spec.mm (Spec.rms (fun k => x0 (ix2 r k)) (fun k => x1 (ix2 0 k))) (fun k n => w0 (ix2 k n)) d := by
  unfold out0_10
  frame_out
  pointwise [k0_pay1, k0_pay2, k0_pay3, k0_pay4, k0_pay5, k0_pay6, k0_pay7, k0_pay8, k0_pay9, k0_pay10, k0_pay11, Spec.mm, Spec.rms, Spec.meanSq]

/-- Result 1's block, from the blocks of the arguments. -/
theorem out11_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 512) :
    out0_11 (F := Ideal) x0 x1 w0 w1 w2 w3 w4 w5 w6 w7 (ix2 r d)
      = Spec.mm (Spec.rms (fun k => x0 (ix2 r k)) (fun k => x1 (ix2 0 k))) (fun k n => w1 (ix2 k n)) d := by
  unfold out0_11
  frame_out
  pointwise [k0_pay1, k0_pay2, k0_pay3, k0_pay4, k0_pay5, k0_pay6, k0_pay7, k0_pay8, k0_pay9, k0_pay10, k0_pay11, Spec.mm, Spec.rms, Spec.meanSq]

/-- Result 2's block, from the blocks of the arguments. -/
theorem out12_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 128) :
    out0_12 (F := Ideal) x0 x1 w0 w1 w2 w3 w4 w5 w6 w7 (ix2 r d)
      = Spec.mm (Spec.rms (fun k => x0 (ix2 r k)) (fun k => x1 (ix2 0 k))) (fun k n => w2 (ix2 k n)) d := by
  unfold out0_12
  frame_out
  pointwise [k0_pay1, k0_pay2, k0_pay3, k0_pay4, k0_pay5, k0_pay6, k0_pay7, k0_pay8, k0_pay9, k0_pay10, k0_pay11, Spec.mm, Spec.rms, Spec.meanSq]

/-- Result 3's block, from the blocks of the arguments. -/
theorem out13_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 512) :
    out0_13 (F := Ideal) x0 x1 w0 w1 w2 w3 w4 w5 w6 w7 (ix2 r d)
      = Spec.mm (Spec.rms (fun k => x0 (ix2 r k)) (fun k => x1 (ix2 0 k))) (fun k n => w3 (ix2 k n)) d := by
  unfold out0_13
  frame_out
  pointwise [k0_pay1, k0_pay2, k0_pay3, k0_pay4, k0_pay5, k0_pay6, k0_pay7, k0_pay8, k0_pay9, k0_pay10, k0_pay11, Spec.mm, Spec.rms, Spec.meanSq]

/-- Result 4's block, from the blocks of the arguments. -/
theorem out14_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 512) :
    out0_14 (F := Ideal) x0 x1 w0 w1 w2 w3 w4 w5 w6 w7 (ix2 r d)
      = Spec.mm (Spec.rms (fun k => x0 (ix2 r k)) (fun k => x1 (ix2 0 k))) (fun k n => w4 (ix2 k n)) d := by
  unfold out0_14
  frame_out
  pointwise [k0_pay1, k0_pay2, k0_pay3, k0_pay4, k0_pay5, k0_pay6, k0_pay7, k0_pay8, k0_pay9, k0_pay10, k0_pay11, Spec.mm, Spec.rms, Spec.meanSq]

/-- Result 5's block, from the blocks of the arguments. -/
theorem out15_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 512) :
    out0_15 (F := Ideal) x0 x1 w0 w1 w2 w3 w4 w5 w6 w7 (ix2 r d)
      = Spec.mm (Spec.rms (fun k => x0 (ix2 r k)) (fun k => x1 (ix2 0 k))) (fun k n => w5 (ix2 k n)) d := by
  unfold out0_15
  frame_out
  pointwise [k0_pay1, k0_pay2, k0_pay3, k0_pay4, k0_pay5, k0_pay6, k0_pay7, k0_pay8, k0_pay9, k0_pay10, k0_pay11, Spec.mm, Spec.rms, Spec.meanSq]

/-- Result 6's block, from the blocks of the arguments. -/
theorem out16_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 512) :
    out0_16 (F := Ideal) x0 x1 w0 w1 w2 w3 w4 w5 w6 w7 (ix2 r d)
      = Spec.mm (Spec.rms (fun k => x0 (ix2 r k)) (fun k => x1 (ix2 0 k))) (fun k n => w6 (ix2 k n)) d := by
  unfold out0_16
  frame_out
  pointwise [k0_pay1, k0_pay2, k0_pay3, k0_pay4, k0_pay5, k0_pay6, k0_pay7, k0_pay8, k0_pay9, k0_pay10, k0_pay11, Spec.mm, Spec.rms, Spec.meanSq]

/-- Result 7's block, from the blocks of the arguments. -/
theorem out17_at (x0 : FVec Ideal S1024x1024 .f32) (x1 : FVec Ideal S1x1024 .f32) (w0 w1 : FVec Ideal S1024x512 .bf16) (w2 : FVec Ideal S1024x128 .bf16) (w3 w4 w5 w6 w7 : FVec Ideal S1024x512 .bf16) (r : Fin 1024) (d : Fin 512) :
    out0_17 (F := Ideal) x0 x1 w0 w1 w2 w3 w4 w5 w6 w7 (ix2 r d)
      = Spec.mm (Spec.rms (fun k => x0 (ix2 r k)) (fun k => x1 (ix2 0 k))) (fun k n => w7 (ix2 k n)) d := by
  unfold out0_17
  frame_out
  pointwise [k0_pay1, k0_pay2, k0_pay3, k0_pay4, k0_pay5, k0_pay6, k0_pay7, k0_pay8, k0_pay9, k0_pay10, k0_pay11, Spec.mm, Spec.rms, Spec.meanSq]

variable (m : (ℓ : Loc nD τ sig) → Buf (Elt Ideal) ℓ) (c : Dev nD)

abbrev X0 : FVec Ideal S8x8192x1024 .f32 := m ((c : Thread nD τ).loc main_arg0)
abbrev X1 : FVec Ideal S1024 .f32 := m ((c : Thread nD τ).loc main_arg1)
abbrev X2 : FVec Ideal S1024x3600 .f32 := m ((c : Thread nD τ).loc main_arg2)

/-! ## The operands prepared on the host -/

theorem x_at (n : Fin 65536) (k : Fin 1024) : (V m c main_v17 : FVec Ideal S65536x1024 .f32) (ix2 n k)
    = X0 m c (ix3 ⟨n.val / 8192, by omega⟩ ⟨n.val % 8192, by omega⟩ k) := by
  unfold V hostOps0 hostOps0_1 hostOps0_2
  simp only [List.flatten_cons, List.flatten_nil, List.append_nil, List.cons_append, List.nil_append]
  after_results
  pointwise [hlo_ix]

theorem nw_at (k : Fin 1024) : (V m c main_v18 : FVec Ideal S1x1024 .f32) (ix2 0 k) = X1 m c (ix1 k) := by
  unfold V hostOps0 hostOps0_1 hostOps0_2
  simp only [List.flatten_cons, List.flatten_nil, List.append_nil, List.cons_append, List.nil_append]
  after_results
  pointwise [hlo_ix]

theorem pad_at (x : FVec Ideal S1024x16 .f32) (k : Fin 1024) (e : Fin 128) :
    pad S1024x128 ![0, 0] ![0, 112] ![0, 0] x (sitofp (F := Ideal) FTy.f32 (constantI S_ 32 0#32)) pads_S1024x16_S1024x128_000_01120 h_S_ (ix2 k e)
      = if h : e.val < 16 then x (ix2 k ⟨e.val, h⟩) else (0 : EReal) := by
  have h0 : FloatOps.sitofp (F := Ideal) FTy.f32 0#32 = (0 : EReal) := by
    show (((BitVec.toInt 0#32 : ℤ) : ℝ) : EReal) = 0
    norm_num
  pointwise [hlo_ix]
  simp only [h0]

theorem cut_at (x : FVec Ideal S1024x3600 .f32) (k : Fin 1024) (e : Fin 16) :
    extractStridedSlice S1024x16 ![0, 1024] x slices_S1024x3600_S1024x16_0_1024 (ix2 k e) = x (ix2 k ⟨1024 + e.val, by omega⟩) := by
  pointwise [hlo_ix]

theorem w0_at (k : Fin 1024) (e : Fin 512) : (V m c main_v2 : FVec Ideal S1024x512 .bf16) (ix2 k e)
    = X2 m c (ix2 k ⟨0 + e.val, by omega⟩) := by
  unfold V hostOps0 hostOps0_1 hostOps0_2
  simp only [List.flatten_cons, List.flatten_nil, List.append_nil, List.cons_append, List.nil_append]
  after_results
  pointwise [hlo_ix]

theorem w1_at (k : Fin 1024) (e : Fin 512) : (V m c main_v4 : FVec Ideal S1024x512 .bf16) (ix2 k e)
    = X2 m c (ix2 k ⟨512 + e.val, by omega⟩) := by
  unfold V hostOps0 hostOps0_1 hostOps0_2
  simp only [List.flatten_cons, List.flatten_nil, List.append_nil, List.cons_append, List.nil_append]
  after_results
  pointwise [hlo_ix]

theorem w2_at (k : Fin 1024) (e : Fin 128) : (V m c main_v6 : FVec Ideal S1024x128 .bf16) (ix2 k e)
    = if h : e.val < 16 then X2 m c (ix2 k ⟨1024 + e.val, by omega⟩) else 0 := by
  unfold V hostOps0 hostOps0_1 hostOps0_2
  simp only [List.flatten_cons, List.flatten_nil, List.append_nil, List.cons_append, List.nil_append]
  after_results
  refine (pad_at _ k e).trans ?_
  split
  · exact cut_at _ k _
  · rfl

theorem w3_at (k : Fin 1024) (e : Fin 512) : (V m c main_v8 : FVec Ideal S1024x512 .bf16) (ix2 k e)
    = X2 m c (ix2 k ⟨1040 + e.val, by omega⟩) := by
  unfold V hostOps0 hostOps0_1 hostOps0_2
  simp only [List.flatten_cons, List.flatten_nil, List.append_nil, List.cons_append, List.nil_append]
  after_results
  pointwise [hlo_ix]

theorem w4_at (k : Fin 1024) (e : Fin 512) : (V m c main_v10 : FVec Ideal S1024x512 .bf16) (ix2 k e)
    = X2 m c (ix2 k ⟨1552 + e.val, by omega⟩) := by
  unfold V hostOps0 hostOps0_1 hostOps0_2
  simp only [List.flatten_cons, List.flatten_nil, List.append_nil, List.cons_append, List.nil_append]
  after_results
  pointwise [hlo_ix]

theorem w5_at (k : Fin 1024) (e : Fin 512) : (V m c main_v12 : FVec Ideal S1024x512 .bf16) (ix2 k e)
    = X2 m c (ix2 k ⟨2064 + e.val, by omega⟩) := by
  unfold V hostOps0 hostOps0_1 hostOps0_2
  simp only [List.flatten_cons, List.flatten_nil, List.append_nil, List.cons_append, List.nil_append]
  after_results
  pointwise [hlo_ix]

theorem w6_at (k : Fin 1024) (e : Fin 512) : (V m c main_v14 : FVec Ideal S1024x512 .bf16) (ix2 k e)
    = X2 m c (ix2 k ⟨2576 + e.val, by omega⟩) := by
  unfold V hostOps0 hostOps0_1 hostOps0_2
  simp only [List.flatten_cons, List.flatten_nil, List.append_nil, List.cons_append, List.nil_append]
  after_results
  pointwise [hlo_ix]

theorem w7_at (k : Fin 1024) (e : Fin 512) : (V m c main_v16 : FVec Ideal S1024x512 .bf16) (ix2 k e)
    = X2 m c (ix2 k ⟨3088 + e.val, by omega⟩) := by
  unfold V hostOps0 hostOps0_1 hostOps0_2
  simp only [List.flatten_cons, List.flatten_nil, List.append_nil, List.cons_append, List.nil_append]
  after_results
  pointwise [hlo_ix]

/-! ## The blocks and the results -/

/-- The windows' block indices at every grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

/-- A token's normalised features. -/
def row (n : Fin 65536) : Fin 1024 → EReal :=
  Spec.rms (fun k => X0 m c (ix3 ⟨n.val / 8192, by omega⟩ ⟨n.val % 8192, by omega⟩ k)) (fun k => X1 m c (ix1 k))

variable (t : Fin cfg0.N)

theorem lt (r : Fin 1024) : t.val * 1024 + r.val < 65536 := by
  have hN : t.val < 64 := t.isLt
  omega

theorem b0 (r k : Fin 1024) : (iblk m c 0 t : FVec Ideal S1024x1024 .f32) (ix2 r k)
    = X0 m c (ix3 ⟨(t.val * 1024 + r.val) / 8192, by have := lt t r; omega⟩ ⟨(t.val * 1024 + r.val) % 8192, by omega⟩ k) := by
  refine Eq.trans ?_ (x_at m c ⟨t.val * 1024 + r.val, lt t r⟩ k)
  blk_ext [iblk, idx t]

theorem b1 (k : Fin 1024) : (iblk m c 1 t : FVec Ideal S1x1024 .f32) (ix2 0 k) = X1 m c (ix1 k) := by
  refine Eq.trans ?_ (nw_at m c k)
  blk_ext [iblk, idx t]

theorem row_eq (r : Fin 1024) : Spec.rms (fun k => (iblk m c 0 t : FVec Ideal S1024x1024 .f32) (ix2 r k)) (fun k => (iblk m c 1 t : FVec Ideal S1x1024 .f32) (ix2 0 k))
    = row m c ⟨t.val * 1024 + r.val, lt t r⟩ := by
  unfold row
  simp only [b0, b1]

theorem b2 (k : Fin 1024) (e : Fin 512) : (iblk m c 2 t : FVec Ideal S1024x512 .bf16) (ix2 k e)
    = X2 m c (ix2 k ⟨0 + e.val, by omega⟩) := by
  refine Eq.trans ?_ (w0_at m c k e)
  blk_ext [iblk, idx t]

/-- The queries and keys at every token. -/
def outA0 : FVec Ideal S65536x512 .f32 := fun i =>
  Spec.mm (row m c (i 0)) (fun k e => X2 m c (ix2 k e)) ⟨0 + (i 1).val, by have : (i 1).val < 512 := (i 1).isLt; omega⟩

/-- The queries and keys after the run. -/
theorem final0 : (dats m 0 c).arrAt 10 (cfgs 0).N = outA0 m c := by
  refine (dats m 0 c).arrAt_eq_of_covers 10 _ (by decide +kernel) fun t _ y => ?_
  blk_simp
  rw [after0_10]
  have hN : t.val < 64 := t.isLt
  change S1024x512.Idx at y
  idx_vars y
  have hi : ((View.whole main_v19_0).slice (win0_10.rect t)).emb (ix2 y0 y1)
      = (ix2 ⟨t.val * 1024 + y0.val, lt t y0⟩ y1 : S65536x512.Idx) := by
    blk_ext [idx t]
  rw [hi]
  refine (out10_at _ _ _ _ _ _ _ _ _ _ y0 y1).trans ?_
  rw [row_eq]
  unfold outA0 Spec.mm
  simp only [b2]
  rfl

theorem b3 (k : Fin 1024) (e : Fin 512) : (iblk m c 3 t : FVec Ideal S1024x512 .bf16) (ix2 k e)
    = X2 m c (ix2 k ⟨512 + e.val, by omega⟩) := by
  refine Eq.trans ?_ (w1_at m c k e)
  blk_ext [iblk, idx t]

/-- The values of the first mixer at every token. -/
def outA1 : FVec Ideal S65536x512 .bf16 := fun i =>
  Spec.mm (row m c (i 0)) (fun k e => X2 m c (ix2 k e)) ⟨512 + (i 1).val, by have : (i 1).val < 512 := (i 1).isLt; omega⟩

/-- The values of the first mixer after the run. -/
theorem final1 : (dats m 0 c).arrAt 11 (cfgs 0).N = outA1 m c := by
  refine (dats m 0 c).arrAt_eq_of_covers 11 _ (by decide +kernel) fun t _ y => ?_
  blk_simp
  rw [after0_11]
  have hN : t.val < 64 := t.isLt
  change S1024x512.Idx at y
  idx_vars y
  have hi : ((View.whole main_v19_1).slice (win0_11.rect t)).emb (ix2 y0 y1)
      = (ix2 ⟨t.val * 1024 + y0.val, lt t y0⟩ y1 : S65536x512.Idx) := by
    blk_ext [idx t]
  rw [hi]
  refine (out11_at _ _ _ _ _ _ _ _ _ _ y0 y1).trans ?_
  rw [row_eq]
  unfold outA1 Spec.mm
  simp only [b3]
  rfl

theorem b4 (k : Fin 1024) (e : Fin 128) : (iblk m c 4 t : FVec Ideal S1024x128 .bf16) (ix2 k e)
    = if h : e.val < 16 then X2 m c (ix2 k ⟨1024 + e.val, by omega⟩) else 0 := by
  refine Eq.trans ?_ (w2_at m c k e)
  blk_ext [iblk, idx t]

/-- The gate columns at every token. -/
def outA2 : FVec Ideal S65536x128 .f32 := fun i =>
  if h : (i 1).val < 16 then Spec.mm (row m c (i 0)) (fun k e => X2 m c (ix2 k e)) ⟨1024 + (i 1).val, by omega⟩ else 0

/-- The gate columns after the run. -/
theorem final2 : (dats m 0 c).arrAt 12 (cfgs 0).N = outA2 m c := by
  refine (dats m 0 c).arrAt_eq_of_covers 12 _ (by decide +kernel) fun t _ y => ?_
  blk_simp
  rw [after0_12]
  have hN : t.val < 64 := t.isLt
  change S1024x128.Idx at y
  idx_vars y
  have hi : ((View.whole main_v19_2).slice (win0_12.rect t)).emb (ix2 y0 y1)
      = (ix2 ⟨t.val * 1024 + y0.val, lt t y0⟩ y1 : S65536x128.Idx) := by
    blk_ext [idx t]
  rw [hi]
  refine (out12_at _ _ _ _ _ _ _ _ _ _ y0 y1).trans ?_
  rw [row_eq]
  unfold outA2
  show _ = if h : y1.val < 16 then Spec.mm (row m c ⟨t.val * 1024 + y0.val, lt t y0⟩) (fun k e => X2 m c (ix2 k e)) ⟨1024 + y1.val, by omega⟩ else 0
  unfold Spec.mm
  simp only [b4]
  split
  · rfl
  · simp only [mul_zero, Finset.sum_const_zero]

theorem b5 (k : Fin 1024) (e : Fin 512) : (iblk m c 5 t : FVec Ideal S1024x512 .bf16) (ix2 k e)
    = X2 m c (ix2 k ⟨1040 + e.val, by omega⟩) := by
  refine Eq.trans ?_ (w3_at m c k e)
  blk_ext [iblk, idx t]

/-- The output gates of the first mixer at every token. -/
def outA3 : FVec Ideal S65536x512 .f32 := fun i =>
  Spec.mm (row m c (i 0)) (fun k e => X2 m c (ix2 k e)) ⟨1040 + (i 1).val, by have : (i 1).val < 512 := (i 1).isLt; omega⟩

/-- The output gates of the first mixer after the run. -/
theorem final3 : (dats m 0 c).arrAt 13 (cfgs 0).N = outA3 m c := by
  refine (dats m 0 c).arrAt_eq_of_covers 13 _ (by decide +kernel) fun t _ y => ?_
  blk_simp
  rw [after0_13]
  have hN : t.val < 64 := t.isLt
  change S1024x512.Idx at y
  idx_vars y
  have hi : ((View.whole main_v19_3).slice (win0_13.rect t)).emb (ix2 y0 y1)
      = (ix2 ⟨t.val * 1024 + y0.val, lt t y0⟩ y1 : S65536x512.Idx) := by
    blk_ext [idx t]
  rw [hi]
  refine (out13_at _ _ _ _ _ _ _ _ _ _ y0 y1).trans ?_
  rw [row_eq]
  unfold outA3 Spec.mm
  simp only [b5]
  rfl

theorem b6 (k : Fin 1024) (e : Fin 512) : (iblk m c 6 t : FVec Ideal S1024x512 .bf16) (ix2 k e)
    = X2 m c (ix2 k ⟨1552 + e.val, by omega⟩) := by
  refine Eq.trans ?_ (w4_at m c k e)
  blk_ext [iblk, idx t]

/-- The queries at every token. -/
def outA4 : FVec Ideal S65536x512 .f32 := fun i =>
  Spec.mm (row m c (i 0)) (fun k e => X2 m c (ix2 k e)) ⟨1552 + (i 1).val, by have : (i 1).val < 512 := (i 1).isLt; omega⟩

/-- The queries after the run. -/
theorem final4 : (dats m 0 c).arrAt 14 (cfgs 0).N = outA4 m c := by
  refine (dats m 0 c).arrAt_eq_of_covers 14 _ (by decide +kernel) fun t _ y => ?_
  blk_simp
  rw [after0_14]
  have hN : t.val < 64 := t.isLt
  change S1024x512.Idx at y
  idx_vars y
  have hi : ((View.whole main_v19_4).slice (win0_14.rect t)).emb (ix2 y0 y1)
      = (ix2 ⟨t.val * 1024 + y0.val, lt t y0⟩ y1 : S65536x512.Idx) := by
    blk_ext [idx t]
  rw [hi]
  refine (out14_at _ _ _ _ _ _ _ _ _ _ y0 y1).trans ?_
  rw [row_eq]
  unfold outA4 Spec.mm
  simp only [b6]
  rfl

theorem b7 (k : Fin 1024) (e : Fin 512) : (iblk m c 7 t : FVec Ideal S1024x512 .bf16) (ix2 k e)
    = X2 m c (ix2 k ⟨2064 + e.val, by omega⟩) := by
  refine Eq.trans ?_ (w5_at m c k e)
  blk_ext [iblk, idx t]

/-- The keys at every token. -/
def outA5 : FVec Ideal S65536x512 .f32 := fun i =>
  Spec.mm (row m c (i 0)) (fun k e => X2 m c (ix2 k e)) ⟨2064 + (i 1).val, by have : (i 1).val < 512 := (i 1).isLt; omega⟩

/-- The keys after the run. -/
theorem final5 : (dats m 0 c).arrAt 15 (cfgs 0).N = outA5 m c := by
  refine (dats m 0 c).arrAt_eq_of_covers 15 _ (by decide +kernel) fun t _ y => ?_
  blk_simp
  rw [after0_15]
  have hN : t.val < 64 := t.isLt
  change S1024x512.Idx at y
  idx_vars y
  have hi : ((View.whole main_v19_5).slice (win0_15.rect t)).emb (ix2 y0 y1)
      = (ix2 ⟨t.val * 1024 + y0.val, lt t y0⟩ y1 : S65536x512.Idx) := by
    blk_ext [idx t]
  rw [hi]
  refine (out15_at _ _ _ _ _ _ _ _ _ _ y0 y1).trans ?_
  rw [row_eq]
  unfold outA5 Spec.mm
  simp only [b7]
  rfl

theorem b8 (k : Fin 1024) (e : Fin 512) : (iblk m c 8 t : FVec Ideal S1024x512 .bf16) (ix2 k e)
    = X2 m c (ix2 k ⟨2576 + e.val, by omega⟩) := by
  refine Eq.trans ?_ (w6_at m c k e)
  blk_ext [iblk, idx t]

/-- The values at every token. -/
def outA6 : FVec Ideal S65536x512 .bf16 := fun i =>
  Spec.mm (row m c (i 0)) (fun k e => X2 m c (ix2 k e)) ⟨2576 + (i 1).val, by have : (i 1).val < 512 := (i 1).isLt; omega⟩

/-- The values after the run. -/
theorem final6 : (dats m 0 c).arrAt 16 (cfgs 0).N = outA6 m c := by
  refine (dats m 0 c).arrAt_eq_of_covers 16 _ (by decide +kernel) fun t _ y => ?_
  blk_simp
  rw [after0_16]
  have hN : t.val < 64 := t.isLt
  change S1024x512.Idx at y
  idx_vars y
  have hi : ((View.whole main_v19_6).slice (win0_16.rect t)).emb (ix2 y0 y1)
      = (ix2 ⟨t.val * 1024 + y0.val, lt t y0⟩ y1 : S65536x512.Idx) := by
    blk_ext [idx t]
  rw [hi]
  refine (out16_at _ _ _ _ _ _ _ _ _ _ y0 y1).trans ?_
  rw [row_eq]
  unfold outA6 Spec.mm
  simp only [b8]
  rfl

theorem b9 (k : Fin 1024) (e : Fin 512) : (iblk m c 9 t : FVec Ideal S1024x512 .bf16) (ix2 k e)
    = X2 m c (ix2 k ⟨3088 + e.val, by omega⟩) := by
  refine Eq.trans ?_ (w7_at m c k e)
  blk_ext [iblk, idx t]

/-- The output gates at every token. -/
def outA7 : FVec Ideal S65536x512 .f32 := fun i =>
  Spec.mm (row m c (i 0)) (fun k e => X2 m c (ix2 k e)) ⟨3088 + (i 1).val, by have : (i 1).val < 512 := (i 1).isLt; omega⟩

/-- The output gates after the run. -/
theorem final7 : (dats m 0 c).arrAt 17 (cfgs 0).N = outA7 m c := by
  refine (dats m 0 c).arrAt_eq_of_covers 17 _ (by decide +kernel) fun t _ y => ?_
  blk_simp
  rw [after0_17]
  have hN : t.val < 64 := t.isLt
  change S1024x512.Idx at y
  idx_vars y
  have hi : ((View.whole main_v19_7).slice (win0_17.rect t)).emb (ix2 y0 y1)
      = (ix2 ⟨t.val * 1024 + y0.val, lt t y0⟩ y1 : S65536x512.Idx) := by
    blk_ext [idx t]
  rw [hi]
  refine (out17_at _ _ _ _ _ _ _ _ _ _ y0 y1).trans ?_
  rw [row_eq]
  unfold outA7 Spec.mm
  simp only [b9]
  rfl

end Cert.OddInIdeal.Value
-- ==== Proof.OddInRef.lean ====
/- The odd layer's input projection reference's stages read at an index: each result is a range of columns of the product
   of the normalised row with the whole weight. -/
module

public import proofs.«01_k».proof.Proof.Gen.OddInRefIdeal.Read
public import proofs.«01_k».proof.Proof.Spec

set_option maxRecDepth 16384

@[expose] public section
noncomputable section

open Idealize.ShloMosaic Idealize.ShloMosaic.TcCoe Idealize.SL.Sem

namespace Cert.OddInRefIdeal.At
open Cert.OddInRefIdeal Cert.OddInRefIdeal.Gen Cert.OddInRefIdeal.Read

variable (x0 : FVec Ideal S8x8192x1024 .f32) (x1 : FVec Ideal S1024 .f32) (x2 : FVec Ideal S1024x3600 .f32)

/-- A product's feature may be named by any index of the same value. -/
theorem mm_ext {K N : Nat} (x : Fin K → EReal) (w : Fin K → Fin N → EReal) {i j : Fin N} (h : i.val = j.val) :
    Spec.mm x w i = Spec.mm x w j := by rw [Fin.ext h]

/-- The normalised row. -/
theorem v12_at (b : Fin 8) (s : Fin 8192) (d : Fin 1024) :
    val_main_v12 (F := Ideal) x0 x1 (ix3 b s d) = Spec.rms (fun k => x0 (ix3 b s k)) (fun k => x1 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, Spec.rms, Spec.meanSq]

/-- The whole projection. -/
theorem v13_at (b : Fin 8) (s : Fin 8192) (f : Fin 3600) :
    val_main_v13 (F := Ideal) x0 x1 x2 (ix3 b s f)
      = Spec.mm (Spec.rms (fun k => x0 (ix3 b s k)) (fun k => x1 (ix1 k))) (fun k n => x2 (ix2 k n)) f := by
  simp only [← fun k => v12_at x0 x1 b s k]
  have e : Spec.rms (fun k => x0 (ix3 b s k)) (fun k => x1 (ix1 k)) = fun k => val_main_v12 (F := Ideal) x0 x1 (ix3 b s k) :=
    funext fun k => (v12_at x0 x1 b s k).symm
  rw [e]
  pointwise [val_main_v13, Spec.mm]

/-- The queries and keys. -/
theorem out0_at (n : Fin 65536) (e : Fin 512) :
    val_main_v25 (F := Ideal) x0 x1 x2 (ix2 n e)
      = Spec.mm (Spec.rms (fun k => x0 (ix3 ⟨n.val / 8192, by omega⟩ ⟨n.val % 8192, by omega⟩ k)) (fun k => x1 (ix1 k))) (fun k e => x2 (ix2 k e)) ⟨0 + e.val, by omega⟩ := by
  pointwise [val_main_v25, val_main_v16, val_main_v14]
  rw [v13_at]

/-- The values of the first mixer. -/
theorem out1_at (n : Fin 65536) (e : Fin 512) :
    val_main_v27 (F := Ideal) x0 x1 x2 (ix2 n e)
      = Spec.mm (Spec.rms (fun k => x0 (ix3 ⟨n.val / 8192, by omega⟩ ⟨n.val % 8192, by omega⟩ k)) (fun k => x1 (ix1 k))) (fun k e => x2 (ix2 k e)) ⟨512 + e.val, by omega⟩ := by
  pointwise [val_main_v27, val_main_v26, val_main_v17, val_main_v14]
  rw [v13_at]

/-- The padding's value. -/
theorem zero : FloatOps.sitofp (F := Ideal) FTy.f32 0#32 = (0 : EReal) := by
  show (((BitVec.toInt 0#32 : ℤ) : ℝ) : EReal) = 0
  norm_num

theorem v24_at (b : Fin 8) (s : Fin 8192) (e : Fin 128) :
    val_main_v24 (F := Ideal) x0 x1 x2 (ix3 b s e) = if h : e.val < 16 then val_main_v18 (F := Ideal) x0 x1 x2 (ix3 b s ⟨e.val, h⟩) else 0 := by
  pointwise [val_main_v24, val_main_call0_v0, val_main_c]
  simp only [zero]

/-- The gate columns, padded with zeros to a whole row of lanes. -/
theorem out2_at (n : Fin 65536) (e : Fin 128) :
    val_main_v28 (F := Ideal) x0 x1 x2 (ix2 n e)
      = if h : e.val < 16 then Spec.mm (Spec.rms (fun k => x0 (ix3 ⟨n.val / 8192, by omega⟩ ⟨n.val % 8192, by omega⟩ k)) (fun k => x1 (ix1 k))) (fun k e => x2 (ix2 k e)) ⟨1024 + e.val, by omega⟩ else 0 := by
  pointwise [val_main_v28]
  rw [v24_at]
  split
  · pointwise [val_main_v18, val_main_v14]
    rw [v13_at]
  · rfl

/-- The output gates of the first mixer. -/
theorem out3_at (n : Fin 65536) (e : Fin 512) :
    val_main_v29 (F := Ideal) x0 x1 x2 (ix2 n e)
      = Spec.mm (Spec.rms (fun k => x0 (ix3 ⟨n.val / 8192, by omega⟩ ⟨n.val % 8192, by omega⟩ k)) (fun k => x1 (ix1 k))) (fun k e => x2 (ix2 k e)) ⟨1040 + e.val, by omega⟩ := by
  pointwise [val_main_v29, val_main_v19, val_main_v14]
  rw [v13_at]

/-- The queries. -/
theorem out4_at (n : Fin 65536) (e : Fin 512) :
    val_main_v30 (F := Ideal) x0 x1 x2 (ix2 n e)
      = Spec.mm (Spec.rms (fun k => x0 (ix3 ⟨n.val / 8192, by omega⟩ ⟨n.val % 8192, by omega⟩ k)) (fun k => x1 (ix1 k))) (fun k e => x2 (ix2 k e)) ⟨1552 + e.val, by omega⟩ := by
  pointwise [val_main_v30, val_main_v20, val_main_v15]
  rw [v13_at]

/-- The keys. -/
theorem out5_at (n : Fin 65536) (e : Fin 512) :
    val_main_v31 (F := Ideal) x0 x1 x2 (ix2 n e)
      = Spec.mm (Spec.rms (fun k => x0 (ix3 ⟨n.val / 8192, by omega⟩ ⟨n.val % 8192, by omega⟩ k)) (fun k => x1 (ix1 k))) (fun k e => x2 (ix2 k e)) ⟨2064 + e.val, by omega⟩ := by
  pointwise [val_main_v31, val_main_v21, val_main_v15]
  rw [v13_at]
  exact mm_ext _ _ (by show _ = _; simp only []; omega)

/-- The values. -/
theorem out6_at (n : Fin 65536) (e : Fin 512) :
    val_main_v33 (F := Ideal) x0 x1 x2 (ix2 n e)
      = Spec.mm (Spec.rms (fun k => x0 (ix3 ⟨n.val / 8192, by omega⟩ ⟨n.val % 8192, by omega⟩ k)) (fun k => x1 (ix1 k))) (fun k e => x2 (ix2 k e)) ⟨2576 + e.val, by omega⟩ := by
  pointwise [val_main_v33, val_main_v32, val_main_v22, val_main_v15]
  rw [v13_at]
  exact mm_ext _ _ (by show _ = _; simp only []; omega)

/-- The output gates. -/
theorem out7_at (n : Fin 65536) (e : Fin 512) :
    val_main_v34 (F := Ideal) x0 x1 x2 (ix2 n e)
      = Spec.mm (Spec.rms (fun k => x0 (ix3 ⟨n.val / 8192, by omega⟩ ⟨n.val % 8192, by omega⟩ k)) (fun k => x1 (ix1 k))) (fun k e => x2 (ix2 k e)) ⟨3088 + e.val, by omega⟩ := by
  pointwise [val_main_v34, val_main_v23, val_main_v15]
  rw [v13_at]
  exact mm_ext _ _ (by show _ = _; simp only []; omega)

end Cert.OddInRefIdeal.At
-- ==== Proof.OddInClaims.lean ====
/- The odd layer's input projection claims: the kernel's run and the reference's end in the same arrays. -/
module

public import proofs.«01_k».proof.Defs
public import proofs.«01_k».proof.Proof.OddInValue
public import proofs.«01_k».proof.Proof.OddInRef

set_option maxRecDepth 16384

@[expose] public section
noncomputable section

open Idealize.ShloMosaic Idealize.ShloMosaic.TcCoe Idealize.SL.Sem

namespace Cert.OddInClaims

open Cert.OddInIdeal.Value (X0 X1 X2)

variable (m : (ℓ : Loc Cert.OddInIdeal.nD Cert.OddInIdeal.τ Cert.OddInIdeal.sig) → Buf (Elt Ideal) ℓ) (c : Dev Cert.OddInIdeal.nD)

/-- The reference's result 0 is the kernel's, as a function of the arguments. -/
theorem same0 : Cert.OddInRefIdeal.Read.val_main_v25 (F := Ideal) (X0 m c) (X1 m c) (X2 m c) = Cert.OddInIdeal.Value.outA0 m c := by
  funext i
  change Cert.OddInIdeal.S65536x512.Idx at i
  idx_vars i
  exact Cert.OddInRefIdeal.At.out0_at _ _ _ i0 i1

/-- The reference's result 1 is the kernel's, as a function of the arguments. -/
theorem same1 : Cert.OddInRefIdeal.Read.val_main_v27 (F := Ideal) (X0 m c) (X1 m c) (X2 m c) = Cert.OddInIdeal.Value.outA1 m c := by
  funext i
  change Cert.OddInIdeal.S65536x512.Idx at i
  idx_vars i
  exact Cert.OddInRefIdeal.At.out1_at _ _ _ i0 i1

/-- The reference's result 2 is the kernel's, as a function of the arguments. -/
theorem same2 : Cert.OddInRefIdeal.Read.val_main_v28 (F := Ideal) (X0 m c) (X1 m c) (X2 m c) = Cert.OddInIdeal.Value.outA2 m c := by
  funext i
  change Cert.OddInIdeal.S65536x128.Idx at i
  idx_vars i
  exact Cert.OddInRefIdeal.At.out2_at _ _ _ i0 i1

/-- The reference's result 3 is the kernel's, as a function of the arguments. -/
theorem same3 : Cert.OddInRefIdeal.Read.val_main_v29 (F := Ideal) (X0 m c) (X1 m c) (X2 m c) = Cert.OddInIdeal.Value.outA3 m c := by
  funext i
  change Cert.OddInIdeal.S65536x512.Idx at i
  idx_vars i
  exact Cert.OddInRefIdeal.At.out3_at _ _ _ i0 i1

/-- The reference's result 4 is the kernel's, as a function of the arguments. -/
theorem same4 : Cert.OddInRefIdeal.Read.val_main_v30 (F := Ideal) (X0 m c) (X1 m c) (X2 m c) = Cert.OddInIdeal.Value.outA4 m c := by
  funext i
  change Cert.OddInIdeal.S65536x512.Idx at i
  idx_vars i
  exact Cert.OddInRefIdeal.At.out4_at _ _ _ i0 i1

/-- The reference's result 5 is the kernel's, as a function of the arguments. -/
theorem same5 : Cert.OddInRefIdeal.Read.val_main_v31 (F := Ideal) (X0 m c) (X1 m c) (X2 m c) = Cert.OddInIdeal.Value.outA5 m c := by
  funext i
  change Cert.OddInIdeal.S65536x512.Idx at i
  idx_vars i
  exact Cert.OddInRefIdeal.At.out5_at _ _ _ i0 i1

/-- The reference's result 6 is the kernel's, as a function of the arguments. -/
theorem same6 : Cert.OddInRefIdeal.Read.val_main_v33 (F := Ideal) (X0 m c) (X1 m c) (X2 m c) = Cert.OddInIdeal.Value.outA6 m c := by
  funext i
  change Cert.OddInIdeal.S65536x512.Idx at i
  idx_vars i
  exact Cert.OddInRefIdeal.At.out6_at _ _ _ i0 i1

/-- The reference's result 7 is the kernel's, as a function of the arguments. -/
theorem same7 : Cert.OddInRefIdeal.Read.val_main_v34 (F := Ideal) (X0 m c) (X1 m c) (X2 m c) = Cert.OddInIdeal.Value.outA7 m c := by
  funext i
  change Cert.OddInIdeal.S65536x512.Idx at i
  idx_vars i
  exact Cert.OddInRefIdeal.At.out7_at _ _ _ i0 i1

/-- Over the extended reals the kernel and the reference, from the same arguments, end with the same eight results and keep
    their arguments. -/
theorem algebraic : @Cert.algebraic_OddInIdeal_OddInRefIdeal Cert.OddInIdeal.Gen.facts Cert.OddInRefIdeal.Gen.facts :=
  fun m ρ m' ρ' _ hag => ⟨fun c => Cert.OddInIdeal.Value.outA0 m c, fun c => Cert.OddInIdeal.Value.outA1 m c, fun c => Cert.OddInIdeal.Value.outA2 m c, fun c => Cert.OddInIdeal.Value.outA3 m c, fun c => Cert.OddInIdeal.Value.outA4 m c, fun c => Cert.OddInIdeal.Value.outA5 m c, fun c => Cert.OddInIdeal.Value.outA6 m c, fun c => Cert.OddInIdeal.Value.outA7 m c,
    (θ_run _ _ _).mono (fun _ h c => ⟨(h c).1.trans (Cert.OddInIdeal.Value.final0 m c), (h c).2.1.trans (Cert.OddInIdeal.Value.final1 m c), (h c).2.2.1.trans (Cert.OddInIdeal.Value.final2 m c), (h c).2.2.2.1.trans (Cert.OddInIdeal.Value.final3 m c), (h c).2.2.2.2.1.trans (Cert.OddInIdeal.Value.final4 m c), (h c).2.2.2.2.2.1.trans (Cert.OddInIdeal.Value.final5 m c), (h c).2.2.2.2.2.2.1.trans (Cert.OddInIdeal.Value.final6 m c), (h c).2.2.2.2.2.2.2.1.trans (Cert.OddInIdeal.Value.final7 m c), (h c).2.2.2.2.2.2.2.2⟩) (Cert.OddInIdeal.Value.run_blocks m ρ),
    (θ_run _ _ _).mono (fun _ h c => ⟨(h c).1.trans ((Cert.OddInRefIdeal.Read.val_main_v25_eq _ _ _).trans (Eq.trans (by rw [(hag c).1, (hag c).2.1, (hag c).2.2]) (same0 m c))),
      (h c).2.1.trans ((Cert.OddInRefIdeal.Read.val_main_v27_eq _ _ _).trans (Eq.trans (by rw [(hag c).1, (hag c).2.1, (hag c).2.2]) (same1 m c))),
      (h c).2.2.1.trans ((Cert.OddInRefIdeal.Read.val_main_v28_eq _ _ _).trans (Eq.trans (by rw [(hag c).1, (hag c).2.1, (hag c).2.2]) (same2 m c))),
      (h c).2.2.2.1.trans ((Cert.OddInRefIdeal.Read.val_main_v29_eq _ _ _).trans (Eq.trans (by rw [(hag c).1, (hag c).2.1, (hag c).2.2]) (same3 m c))),
      (h c).2.2.2.2.1.trans ((Cert.OddInRefIdeal.Read.val_main_v30_eq _ _ _).trans (Eq.trans (by rw [(hag c).1, (hag c).2.1, (hag c).2.2]) (same4 m c))),
      (h c).2.2.2.2.2.1.trans ((Cert.OddInRefIdeal.Read.val_main_v31_eq _ _ _).trans (Eq.trans (by rw [(hag c).1, (hag c).2.1, (hag c).2.2]) (same5 m c))),
      (h c).2.2.2.2.2.2.1.trans ((Cert.OddInRefIdeal.Read.val_main_v33_eq _ _ _).trans (Eq.trans (by rw [(hag c).1, (hag c).2.1, (hag c).2.2]) (same6 m c))),
      (h c).2.2.2.2.2.2.2.1.trans ((Cert.OddInRefIdeal.Read.val_main_v34_eq _ _ _).trans (Eq.trans (by rw [(hag c).1, (hag c).2.1, (hag c).2.2]) (same7 m c))),
      (h c).2.2.2.2.2.2.2.2⟩) (Cert.OddInRefIdeal.Value.run m' ρ')⟩

end Cert.OddInClaims
-- ==== Proof.EvenInSpec.lean ====
/- The even layer's input projection with its short convolution, as plain functions of coordinates over the extended reals:
   the convolution over the carried rows and the projected ones, and the normalisation of a head. -/
module

public import proofs.«01_k».proof.Proof.SpecMath

set_option maxRecDepth 16384

@[expose] public section
noncomputable section

open Idealize.ShloMosaic Idealize.ShloMosaic.TcCoe Idealize.SL.Sem

namespace Cert.EvenSpec

/-- The rows the convolution runs over: the three carried rows, then the projected rows. -/
def cat (C : Fin 3 → Fin 1536 → EReal) (P : Fin 8192 → Fin 1536 → EReal) (s : ℕ) (e : Fin 1536) : EReal :=
  if h : s < 3 then C ⟨s, h⟩ e else if h' : s - 3 < 8192 then P ⟨s - 3, h'⟩ e else 0

/-- The convolution of four taps whose last tap is row `t + 3` of the rows `R`, at feature `e`, through the sigmoid unit. -/
def conv (R : ℕ → Fin 1536 → EReal) (W : Fin 4 → Fin 1536 → EReal) (t : ℕ) (e : Fin 1536) : EReal :=
  Spec.silu (R t e * W 0 e + R (t + 1) e * W 1 e + R (t + 2) e * W 2 e + R (t + 3) e * W 3 e)

/-- A head's 128 features over the square root of the sum of their squares. -/
def l2 (z : Fin 128 → EReal) (e : Fin 128) : EReal :=
  z e * Ideal.rsqrt (∑ k : Fin 128, z k * z k + Ideal.ofBits .f32 0x358637BD#32)

/-- A carried row of the convolution. -/
theorem cat_lo (C : Fin 3 → Fin 1536 → EReal) (P : Fin 8192 → Fin 1536 → EReal) (s : ℕ) (e : Fin 1536) (q : Fin 3) (h : s = q.val) :
    cat C P s e = C q e := by
  subst h
  unfold cat
  rw [dif_pos q.isLt]

/-- A projected row of the convolution. -/
theorem cat_hi (C : Fin 3 → Fin 1536 → EReal) (P : Fin 8192 → Fin 1536 → EReal) (s : ℕ) (e : Fin 1536) (t : Fin 8192) (h : s = t.val + 3) :
    cat C P s e = P t e := by
  subst h
  unfold cat
  rw [dif_neg (by omega), dif_pos (by omega)]
  exact congrArg (fun u => P u e) (Fin.ext (by show t.val + 3 - 3 = t.val; omega))

/-- The convolution takes four rows only. -/
theorem conv_congr (R R' : ℕ → Fin 1536 → EReal) (W : Fin 4 → Fin 1536 → EReal) (t t' : ℕ) (e : Fin 1536)
    (h0 : R t e = R' t' e) (h1 : R (t + 1) e = R' (t' + 1) e) (h2 : R (t + 2) e = R' (t' + 2) e) (h3 : R (t + 3) e = R' (t' + 3) e) :
    conv R W t e = conv R' W t' e := by
  unfold conv
  rw [h0, h1, h2, h3]

/-- The convolution at the same row and feature. -/
theorem conv_ext (R : ℕ → Fin 1536 → EReal) (W : Fin 4 → Fin 1536 → EReal) {t t' : ℕ} {e e' : Fin 1536} (h : t = t') (h' : e.val = e'.val) :
    conv R W t e = conv R W t' e' := by
  rw [h, Fin.ext h']

/-- The normalised feature at the same row and head. -/
theorem l2_ext (R : ℕ → Fin 1536 → EReal) (W : Fin 4 → Fin 1536 → EReal) {t t' : ℕ} {f f' : Fin 128 → Fin 1536} {e e' : Fin 128} (h : t = t')
    (hf : ∀ k, (f k).val = (f' k).val) (h' : e.val = e'.val) :
    l2 (fun k => conv R W t (f k)) e = l2 (fun k => conv R W t' (f' k)) e' := by
  rw [h, Fin.ext h', show f = f' from funext fun k => Fin.ext (hf k)]

end Cert.EvenSpec
-- ==== Proof.EvenInTile.lean ====
/- The even layer's input projection kernel's tiles: the convolution over a tile of 136 rows and 128 columns of the rows kept
   in scratch, the three kinds of stored tile, and a load of the scratch after its two stores. -/
module

public import proofs.«01_k».proof.Proof.Gen.EvenInIdeal.Frame
public import proofs.«01_k».proof.Proof.EvenInSpec
public import Idealize.ShloMosaic.Lib.Pipeline.ValueKit
public import Idealize.ShloMosaic.Lib.Pipeline.ReadBack

set_option maxRecDepth 16384

@[expose] public section
noncomputable section

open Idealize.ShloMosaic Idealize.ShloMosaic.TcCoe Idealize.SL.Sem

namespace Cert.EvenInIdeal.Tile
open Cert.EvenInIdeal Cert.EvenInIdeal.Gen

/-- The convolution's four taps over a tile, each earlier tap rolled one row further down. -/
def taps (w0 w1 w2 w3 : FVec Ideal S1x128 .f32) (v : FVec Ideal S136x128 .f32) : FVec Ideal S136x128 .f32 :=
  addf (dynamicRotate 0 1#32 none (addf (dynamicRotate 0 1#32 none (addf (dynamicRotate 0 1#32 none
      (mulf v (broadcastTo S136x128 w0 broadcasts_S1x128_S136x128)) rotates_S136x128_d0)
      (mulf v (broadcastTo S136x128 w1 broadcasts_S1x128_S136x128))) rotates_S136x128_d0)
      (mulf v (broadcastTo S136x128 w2 broadcasts_S1x128_S136x128))) rotates_S136x128_d0)
    (mulf v (broadcastTo S136x128 w3 broadcasts_S1x128_S136x128))

/-- The tile without its first eight rows. -/
def body (a : FVec Ideal S136x128 .f32) : FVec Ideal S128x128 .f32 :=
  extractStridedSlice S128x128 ![8, 0] a slices_S136x128_o8_0_S128x128

/-- The sigmoid unit over a tile, the sigmoid written with the hyperbolic tangent. -/
def act (a : FVec Ideal S128x128 .f32) : FVec Ideal S128x128 .f32 :=
  mulf a (mulf (broadcast S128x128 (Scalar.ofBits (F := Ideal) .f32 0x3F000000#32))
    (addf (tanh (mulf (broadcast S128x128 (Scalar.ofBits (F := Ideal) .f32 0x3F000000#32)) a)) (broadcast S128x128 (Scalar.ofBits (F := Ideal) .f32 0x3F800000#32))))

/-- Each row of a tile over the square root of the sum of its squares. -/
def unit (a : FVec Ideal S128x128 .f32) : FVec Ideal S128x128 .f32 :=
  mulf a (broadcastTo S128x128 (rsqrt (addf
    (shapeCast S128x1 (multiReduction .add [1] S128 (mulf a a) 0x00000000#32 reduces_S128x128_S128 (.inl rfl) rfl) shapeCasts_S128_S128x1)
    (broadcast S128x1 (Scalar.ofBits (F := Ideal) .f32 0x358637BD#32)))) broadcasts_S128x1_S128x128)

/-- A tile as it is stored. -/
def stored (a : FVec Ideal S128x128 .f32) : FVec Ideal S1x128x128 .bf16 :=
  shapeCast S1x128x128 (truncf .bf16 a bitsLt_bf16_f32) shapeCasts_S128x128_S1x128x128

/-- A tile times the queries' scale. -/
def scaled (a : FVec Ideal S128x128 .f32) : FVec Ideal S128x128 .f32 :=
  mulf a (broadcast S128x128 (Scalar.ofBits (F := Ideal) .f32 0x3DB504F3#32))

theorem taps_at (w0 w1 w2 w3 : FVec Ideal S1x128 .f32) (v : FVec Ideal S136x128 .f32) (r e : Fin 128) :
    body (taps w0 w1 w2 w3 v) (ix2 r e)
      = v (ix2 ⟨r.val + 5, by omega⟩ e) * w0 (ix2 0 e) + v (ix2 ⟨r.val + 6, by omega⟩ e) * w1 (ix2 0 e)
        + v (ix2 ⟨r.val + 7, by omega⟩ e) * w2 (ix2 0 e) + v (ix2 ⟨r.val + 8, by omega⟩ e) * w3 (ix2 0 e) := by
  have q : ∀ (n k : ℕ) (hn : n < 136) (hk : k < 136), n = k → v (ix2 ⟨n, hn⟩ e) = v (ix2 ⟨k, hk⟩ e) := by rintro n _ _ _ rfl; rfl
  pointwise [body, taps]
  rw [q _ (r.val + 5) _ (by omega) (by omega), q (((8 + r.val + 136 - 1) % 136 + 136 - 1) % 136) (r.val + 6) _ (by omega) (by omega),
    q ((8 + r.val + 136 - 1) % 136) (r.val + 7) _ (by omega) (by omega), q (8 + r.val) (r.val + 8) _ (by omega) (by omega)]

theorem act_at (a : FVec Ideal S128x128 .f32) (r e : Fin 128) : act a (ix2 r e) = Spec.silu (a (ix2 r e)) := by
  unfold Spec.silu
  rw [← Spec.half_tanh]
  pointwise [act]

theorem unit_at (a : FVec Ideal S128x128 .f32) (r e : Fin 128) : unit a (ix2 r e) = EvenSpec.l2 (fun k => a (ix2 r k)) e := by
  pointwise [unit, EvenSpec.l2]

theorem stored_at (a : FVec Ideal S128x128 .f32) (r e : Fin 128) : stored a (ix3 0 r e) = a (ix2 r e) := by
  pointwise [stored]

theorem scaled_at (a : FVec Ideal S128x128 .f32) (r e : Fin 128) :
    scaled a (ix2 r e) = a (ix2 r e) * Ideal.ofBits .f32 0x3DB504F3#32 := by
  pointwise [scaled]

/-- A tap's weights over a tile's columns. -/
theorem tap_at (x : FVec Ideal S4x1536 .f32) (k c0 : ℕ) (hk : k < 4) (hc : c0 + 128 ≤ 1536) (h : S4x1536.Slices ![k, c0] S1x128) (e : Fin 128) :
    extractStridedSlice S1x128 ![k, c0] x h (ix2 0 e) = x (ix2 ⟨k, hk⟩ ⟨c0 + e.val, by omega⟩) :=
  extractStridedSlice_apply _ x h _ _ fun a => match a with
    | ⟨0, _⟩ => rfl
    | ⟨1, _⟩ => rfl

/-- The rows kept in scratch, by coordinates: eight rows of `lo`, then those of `hi`. -/
def rows (lo : FVec Ideal S8x1536 .f32) (hi : FVec Ideal S1024x1536 .f32) (p : ℕ) (e : Fin 1536) : EReal :=
  if h : p < 8 then lo (ix2 ⟨p, h⟩ e) else if h' : p - 8 < 1024 then hi (ix2 ⟨p - 8, h'⟩ e) else 0

/-- The two stores of the scratch, read at a row and column. -/
theorem canon_at (lo : FVec Ideal S8x1536 .f32) (hi : FVec Ideal S1024x1536 .f32) (p : Fin 1032) (e : Fin 1536) :
    View.canon (Val := Elt Ideal) (e := .f32) [⟨Rect.unit (s := S1032x1536) ![8, 0] ![1024, 1536] inb_S1032x1536_S1024x1536_8_0, hi⟩,
      ⟨Rect.unit (s := S1032x1536) ![0, 0] ![8, 1536] inb_S1032x1536_S8x1536_0_0, lo⟩] (ix2 p e) = rows lo hi p.val e := by
  refine View.canon_append_of_piecesOf (Val := Elt Ideal) (e := .f32) (fun y : S1032x1536.Idx => rows lo hi (y 0).val (y 1)) [] [_, _] ⟨fun x => ?_, fun x => ?_, trivial⟩ (ix2 p e) ?_
  · change S1024x1536.Idx at x
    idx_vars x
    show hi (ix2 x0 x1) = rows lo hi (8 + 1 * x0.val) ⟨0 + 1 * x1.val, _⟩
    unfold rows
    rw [dif_neg (by omega), dif_pos (by omega)]
    exact congrArg hi (congr (congrArg ix2 (Fin.ext (by show x0.val = 8 + 1 * x0.val - 8; omega))) (Fin.ext (by show x1.val = 0 + 1 * x1.val; omega)))
  · change S8x1536.Idx at x
    idx_vars x
    show lo (ix2 x0 x1) = rows lo hi (0 + 1 * x0.val) ⟨0 + 1 * x1.val, _⟩
    unfold rows
    rw [dif_pos (by omega)]
    exact congrArg lo (congr (congrArg ix2 (Fin.ext (by show x0.val = 0 + 1 * x0.val; omega))) (Fin.ext (by show x1.val = 0 + 1 * x1.val; omega)))
  · by_cases h : p.val < 8
    · refine ⟨_, List.mem_cons_of_mem _ List.mem_cons_self, (Rect.mem_set_unit (inb := inb_S1032x1536_S8x1536_0_0)).mpr fun a => ?_⟩
      match a with
      | ⟨0, _⟩ => show 0 ≤ p.val ∧ p.val < 0 + 8; omega
      | ⟨1, _⟩ => show 0 ≤ e.val ∧ e.val < 0 + 1536; omega
    · refine ⟨_, List.mem_cons_self, (Rect.mem_set_unit (inb := inb_S1032x1536_S1024x1536_8_0)).mpr fun a => ?_⟩
      match a with
      | ⟨0, _⟩ => show 8 ≤ p.val ∧ p.val < 8 + 1024; omega
      | ⟨1, _⟩ => show 0 ≤ e.val ∧ e.val < 0 + 1536; omega

/-- A tile loaded from the scratch after its two stores. -/
theorem load_at {κ : Kind} {sp : Space} (V : View sig κ sp S1032x1536 .f32) (lo : FVec Ideal S8x1536 .f32) (hi : FVec Ideal S1024x1536 .f32) (r0 c0 : ℕ)
    (inb : ∀ a, (![r0, c0] : Fin 2 → ℕ) a + (![136, 128] : Fin 2 → ℕ) a ≤ S1032x1536.size a) (hr : r0 + 136 ≤ 1032) (hc : c0 + 128 ≤ 1536) (a : Fin 136) (e : Fin 128) :
    V.readCov (Val := Elt Ideal) [⟨Rect.unit (s := S1032x1536) ![8, 0] ![1024, 1536] inb_S1032x1536_S1024x1536_8_0, hi⟩,
      ⟨Rect.unit (s := S1032x1536) ![0, 0] ![8, 1536] inb_S1032x1536_S8x1536_0_0, lo⟩] (Rect.unit (s := S1032x1536) ![r0, c0] ![136, 128] inb).toLoadRect (ix2 a e : S136x128.Idx)
      = rows lo hi (r0 + a.val) ⟨c0 + e.val, by omega⟩ := by
  rw [View.readCov_eq_canon']
  refine Eq.trans ?_ (canon_at lo hi ⟨r0 + a.val, by omega⟩ ⟨c0 + e.val, by omega⟩)
  refine congrArg _ (funext fun k => Fin.ext ?_)
  match k with
  | ⟨0, _⟩ => show r0 + 1 * a.val = r0 + a.val; omega
  | ⟨1, _⟩ => show c0 + 1 * e.val = c0 + e.val; omega

variable (x : FVec Ideal S4x1536 .f32) (c0 : ℕ) (hc : c0 + 128 ≤ 1536) (h0 : S4x1536.Slices ![0, c0] S1x128) (h1 : S4x1536.Slices ![1, c0] S1x128)
    (h2 : S4x1536.Slices ![2, c0] S1x128) (h3 : S4x1536.Slices ![3, c0] S1x128) (v : FVec Ideal S136x128 .f32) (R : ℕ → Fin 1536 → EReal) (r0 : ℕ)
    (hv : ∀ (a : Fin 136) (e : Fin 128), v (ix2 a e) = R (r0 + a.val) ⟨c0 + e.val, Nat.lt_of_lt_of_le (Nat.add_lt_add_left e.isLt c0) hc⟩)

/-- The convolution of a tile through the sigmoid unit. -/
def tile : FVec Ideal S128x128 .f32 :=
  act (body (taps (extractStridedSlice S1x128 ![0, c0] x h0) (extractStridedSlice S1x128 ![1, c0] x h1) (extractStridedSlice S1x128 ![2, c0] x h2)
    (extractStridedSlice S1x128 ![3, c0] x h3) v))

include hv in
theorem tile_at (r e : Fin 128) : tile x c0 h0 h1 h2 h3 v (ix2 r e)
    = EvenSpec.conv R (fun k n => x (ix2 k n)) (r0 + r.val + 5) ⟨c0 + e.val, by omega⟩ := by
  unfold tile
  rw [act_at, taps_at, tap_at x 0 c0 (by omega) hc, tap_at x 1 c0 (by omega) hc, tap_at x 2 c0 (by omega) hc, tap_at x 3 c0 (by omega) hc, hv, hv, hv, hv]
  rfl

include hv in
/-- A stored tile of values. -/
theorem v_at (r e : Fin 128) : stored (tile x c0 h0 h1 h2 h3 v) (ix3 0 r e)
    = EvenSpec.conv R (fun k n => x (ix2 k n)) (r0 + r.val + 5) ⟨c0 + e.val, by omega⟩ := by
  rw [stored_at, tile_at x c0 hc h0 h1 h2 h3 v R r0 hv]

include hv in
/-- A stored tile of keys. -/
theorem k_at (r e : Fin 128) : stored (unit (tile x c0 h0 h1 h2 h3 v)) (ix3 0 r e)
    = EvenSpec.l2 (fun e => EvenSpec.conv R (fun k n => x (ix2 k n)) (r0 + r.val + 5) ⟨c0 + e.val, by omega⟩) e := by
  rw [stored_at, unit_at]
  simp only [tile_at x c0 hc h0 h1 h2 h3 v R r0 hv]

include hv in
/-- A stored tile of queries. -/
theorem q_at (r e : Fin 128) : stored (scaled (unit (tile x c0 h0 h1 h2 h3 v))) (ix3 0 r e)
    = EvenSpec.l2 (fun e => EvenSpec.conv R (fun k n => x (ix2 k n)) (r0 + r.val + 5) ⟨c0 + e.val, by omega⟩) e * Ideal.ofBits .f32 0x3DB504F3#32 := by
  rw [stored_at, scaled_at, unit_at]
  simp only [tile_at x c0 hc h0 h1 h2 h3 v R r0 hv]

end Cert.EvenInIdeal.Tile
-- ==== Proof.EvenInV.lean ====
/- The even layer's input projection kernel's stored blocks of queries, keys and values: tile by tile, each is the convolution
   over the rows kept in scratch. -/
module

public import proofs.«01_k».proof.Proof.EvenInTile

set_option maxRecDepth 16384

@[expose] public section
noncomputable section

open Idealize.ShloMosaic Idealize.ShloMosaic.TcCoe Idealize.SL.Sem

namespace Cert.EvenInIdeal.Value
open Cert.EvenInIdeal Cert.EvenInIdeal.Gen
open Idealize.ShloMosaic.Pipeline (Dat)

variable (m : (ℓ : Loc nD τ sig) → Buf (Elt Ideal) ℓ) (c : Dev nD) (t : Fin cfg0.N)

/-- The first eight rows the kernel keeps in scratch at a grid point. -/
def lo : FVec Ideal S8x1536 .f32 := k0_pay3 (grid0.coords t) (iblk m c 3 t) (iblk m c 1 t) (iblk m c 5 t) (iblk m c 2 t)

/-- The rows it keeps after them. -/
def hi : FVec Ideal S1024x1536 .f32 := k0_pay7 (k0_pay2 (iblk m c 3 t)) (k0_pay4 (iblk m c 0 t)) (k0_pay5 (iblk m c 0 t)) (FloatOps.ofBits FTy.f32 897988541#32) (iblk m c 5 t)

/-- All the rows it keeps, by coordinates. -/
def kept : ℕ → Fin 1536 → EReal := Tile.rows (lo m c t) (hi m c t)

/-- The convolution's weights at a grid point. -/
def wts (k : Fin 4) (n : Fin 1536) : EReal := (iblk m c 8 t : FVec Ideal S4x1536 .f32) (ix2 k n)

theorem kept_at {κ : Kind} {sp : Space} (V : View sig κ sp S1032x1536 .f32) (r0 c0 : ℕ)
    (inb : ∀ a, (![r0, c0] : Fin 2 → ℕ) a + (![136, 128] : Fin 2 → ℕ) a ≤ S1032x1536.size a) (hr : r0 + 136 ≤ 1032) (hc : c0 + 128 ≤ 1536) (a : Fin 136) (e : Fin 128) :
    V.readCov (Val := Elt Ideal) [⟨Rect.unit (s := S1032x1536) ![8, 0] ![1024, 1536] inb_S1032x1536_S1024x1536_8_0, hi m c t⟩,
      ⟨Rect.unit (s := S1032x1536) ![0, 0] ![8, 1536] inb_S1032x1536_S8x1536_0_0, lo m c t⟩] (Rect.unit (s := S1032x1536) ![r0, c0] ![136, 128] inb).toLoadRect (ix2 a e : S136x128.Idx)
      = kept m c t (r0 + a.val) ⟨c0 + e.val, by omega⟩ :=
  Tile.load_at V _ _ r0 c0 inb hr hc a e

set_option maxHeartbeats 8000000 in
/-- The stored block of values. -/
theorem v_blk (r : Fin 1024) (d : Fin 512) : (outsAt0 (F := Ideal) m c t).2.2.2.1 (ix3 0 r d)
    = EvenSpec.conv (kept m c t) (wts m c t) (r.val + 5) ⟨1024 + d.val, by omega⟩ := by
  unfold Gen.outsAt0
  frame_out
  canon_tiles x h
  case piece0 =>
    idx_vars x
    obtain rfl : x0 = 0 := Subsingleton.elim _ _
    have e1 : r.val = 896 + x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 896
      (kept_at m c t (View.whole cc0_scratch0) 896 1408 inb_S1032x1536_S136x128_896_1408 (by omega) (by omega)) x1 x2).trans ?_
    exact EvenSpec.conv_ext _ _ (by omega) (by simp only []; omega)
  case piece1 =>
    idx_vars x
    obtain rfl : x0 = 0 := Subsingleton.elim _ _
    have e1 : r.val = 896 + x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 896
      (kept_at m c t (View.whole cc0_scratch0) 896 1280 inb_S1032x1536_S136x128_896_1280 (by omega) (by omega)) x1 x2).trans ?_
    exact EvenSpec.conv_ext _ _ (by omega) (by simp only []; omega)
  case piece2 =>
    idx_vars x
    obtain rfl : x0 = 0 := Subsingleton.elim _ _
    have e1 : r.val = 896 + x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 896
      (kept_at m c t (View.whole cc0_scratch0) 896 1152 inb_S1032x1536_S136x128_896_1152 (by omega) (by omega)) x1 x2).trans ?_
    exact EvenSpec.conv_ext _ _ (by omega) (by simp only []; omega)
  case piece3 =>
    idx_vars x
    obtain rfl : x0 = 0 := Subsingleton.elim _ _
    have e1 : r.val = 896 + x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 896
      (kept_at m c t (View.whole cc0_scratch0) 896 1024 inb_S1032x1536_S136x128_896_1024 (by omega) (by omega)) x1 x2).trans ?_
    exact EvenSpec.conv_ext _ _ (by omega) (by simp only []; omega)
  case piece4 =>
    idx_vars x
    obtain rfl : x0 = 0 := Subsingleton.elim _ _
    have e1 : r.val = 768 + x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 768
      (kept_at m c t (View.whole cc0_scratch0) 768 1408 inb_S1032x1536_S136x128_768_1408 (by omega) (by omega)) x1 x2).trans ?_
    exact EvenSpec.conv_ext _ _ (by omega) (by simp only []; omega)
  case piece5 =>
    idx_vars x
    obtain rfl : x0 = 0 := Subsingleton.elim _ _
    have e1 : r.val = 768 + x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 768
      (kept_at m c t (View.whole cc0_scratch0) 768 1280 inb_S1032x1536_S136x128_768_1280 (by omega) (by omega)) x1 x2).trans ?_
    exact EvenSpec.conv_ext _ _ (by omega) (by simp only []; omega)
  case piece6 =>
    idx_vars x
    obtain rfl : x0 = 0 := Subsingleton.elim _ _
    have e1 : r.val = 768 + x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 768
      (kept_at m c t (View.whole cc0_scratch0) 768 1152 inb_S1032x1536_S136x128_768_1152 (by omega) (by omega)) x1 x2).trans ?_
    exact EvenSpec.conv_ext _ _ (by omega) (by simp only []; omega)
  case piece7 =>
    idx_vars x
    obtain rfl : x0 = 0 := Subsingleton.elim _ _
    have e1 : r.val = 768 + x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 768
      (kept_at m c t (View.whole cc0_scratch0) 768 1024 inb_S1032x1536_S136x128_768_1024 (by omega) (by omega)) x1 x2).trans ?_
    exact EvenSpec.conv_ext _ _ (by omega) (by simp only []; omega)
  case piece8 =>
    idx_vars x
    obtain rfl : x0 = 0 := Subsingleton.elim _ _
    have e1 : r.val = 640 + x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 640
      (kept_at m c t (View.whole cc0_scratch0) 640 1408 inb_S1032x1536_S136x128_640_1408 (by omega) (by omega)) x1 x2).trans ?_
    exact EvenSpec.conv_ext _ _ (by omega) (by simp only []; omega)
  case piece9 =>
    idx_vars x
    obtain rfl : x0 = 0 := Subsingleton.elim _ _
    have e1 : r.val = 640 + x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 640
      (kept_at m c t (View.whole cc0_scratch0) 640 1280 inb_S1032x1536_S136x128_640_1280 (by omega) (by omega)) x1 x2).trans ?_
    exact EvenSpec.conv_ext _ _ (by omega) (by simp only []; omega)
  case piece10 =>
    idx_vars x
    obtain rfl : x0 = 0 := Subsingleton.elim _ _
    have e1 : r.val = 640 + x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 640
      (kept_at m c t (View.whole cc0_scratch0) 640 1152 inb_S1032x1536_S136x128_640_1152 (by omega) (by omega)) x1 x2).trans ?_
    exact EvenSpec.conv_ext _ _ (by omega) (by simp only []; omega)
  case piece11 =>
    idx_vars x
    obtain rfl : x0 = 0 := Subsingleton.elim _ _
    have e1 : r.val = 640 + x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 640
      (kept_at m c t (View.whole cc0_scratch0) 640 1024 inb_S1032x1536_S136x128_640_1024 (by omega) (by omega)) x1 x2).trans ?_
    exact EvenSpec.conv_ext _ _ (by omega) (by simp only []; omega)
  case piece12 =>
    idx_vars x
    obtain rfl : x0 = 0 := Subsingleton.elim _ _
    have e1 : r.val = 512 + x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 512
      (kept_at m c t (View.whole cc0_scratch0) 512 1408 inb_S1032x1536_S136x128_512_1408 (by omega) (by omega)) x1 x2).trans ?_
    exact EvenSpec.conv_ext _ _ (by omega) (by simp only []; omega)
  case piece13 =>
    idx_vars x
    obtain rfl : x0 = 0 := Subsingleton.elim _ _
    have e1 : r.val = 512 + x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 512
      (kept_at m c t (View.whole cc0_scratch0) 512 1280 inb_S1032x1536_S136x128_512_1280 (by omega) (by omega)) x1 x2).trans ?_
    exact EvenSpec.conv_ext _ _ (by omega) (by simp only []; omega)
  case piece14 =>
    idx_vars x
    obtain rfl : x0 = 0 := Subsingleton.elim _ _
    have e1 : r.val = 512 + x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 512
      (kept_at m c t (View.whole cc0_scratch0) 512 1152 inb_S1032x1536_S136x128_512_1152 (by omega) (by omega)) x1 x2).trans ?_
    exact EvenSpec.conv_ext _ _ (by omega) (by simp only []; omega)
  case piece15 =>
    idx_vars x
    obtain rfl : x0 = 0 := Subsingleton.elim _ _
    have e1 : r.val = 512 + x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 512
      (kept_at m c t (View.whole cc0_scratch0) 512 1024 inb_S1032x1536_S136x128_512_1024 (by omega) (by omega)) x1 x2).trans ?_
    exact EvenSpec.conv_ext _ _ (by omega) (by simp only []; omega)
  case piece16 =>
    idx_vars x
    obtain rfl : x0 = 0 := Subsingleton.elim _ _
    have e1 : r.val = 384 + x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 384
      (kept_at m c t (View.whole cc0_scratch0) 384 1408 inb_S1032x1536_S136x128_384_1408 (by omega) (by omega)) x1 x2).trans ?_
    exact EvenSpec.conv_ext _ _ (by omega) (by simp only []; omega)
  case piece17 =>
    idx_vars x
    obtain rfl : x0 = 0 := Subsingleton.elim _ _
    have e1 : r.val = 384 + x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 384
      (kept_at m c t (View.whole cc0_scratch0) 384 1280 inb_S1032x1536_S136x128_384_1280 (by omega) (by omega)) x1 x2).trans ?_
    exact EvenSpec.conv_ext _ _ (by omega) (by simp only []; omega)
  case piece18 =>
    idx_vars x
    obtain rfl : x0 = 0 := Subsingleton.elim _ _
    have e1 : r.val = 384 + x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 384
      (kept_at m c t (View.whole cc0_scratch0) 384 1152 inb_S1032x1536_S136x128_384_1152 (by omega) (by omega)) x1 x2).trans ?_
    exact EvenSpec.conv_ext _ _ (by omega) (by simp only []; omega)
  case piece19 =>
    idx_vars x
    obtain rfl : x0 = 0 := Subsingleton.elim _ _
    have e1 : r.val = 384 + x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 384
      (kept_at m c t (View.whole cc0_scratch0) 384 1024 inb_S1032x1536_S136x128_384_1024 (by omega) (by omega)) x1 x2).trans ?_
    exact EvenSpec.conv_ext _ _ (by omega) (by simp only []; omega)
  case piece20 =>
    idx_vars x
    obtain rfl : x0 = 0 := Subsingleton.elim _ _
    have e1 : r.val = 256 + x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 256
      (kept_at m c t (View.whole cc0_scratch0) 256 1408 inb_S1032x1536_S136x128_256_1408 (by omega) (by omega)) x1 x2).trans ?_
    exact EvenSpec.conv_ext _ _ (by omega) (by simp only []; omega)
  case piece21 =>
    idx_vars x
    obtain rfl : x0 = 0 := Subsingleton.elim _ _
    have e1 : r.val = 256 + x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 256
      (kept_at m c t (View.whole cc0_scratch0) 256 1280 inb_S1032x1536_S136x128_256_1280 (by omega) (by omega)) x1 x2).trans ?_
    exact EvenSpec.conv_ext _ _ (by omega) (by simp only []; omega)
  case piece22 =>
    idx_vars x
    obtain rfl : x0 = 0 := Subsingleton.elim _ _
    have e1 : r.val = 256 + x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 256
      (kept_at m c t (View.whole cc0_scratch0) 256 1152 inb_S1032x1536_S136x128_256_1152 (by omega) (by omega)) x1 x2).trans ?_
    exact EvenSpec.conv_ext _ _ (by omega) (by simp only []; omega)
  case piece23 =>
    idx_vars x
    obtain rfl : x0 = 0 := Subsingleton.elim _ _
    have e1 : r.val = 256 + x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 256
      (kept_at m c t (View.whole cc0_scratch0) 256 1024 inb_S1032x1536_S136x128_256_1024 (by omega) (by omega)) x1 x2).trans ?_
    exact EvenSpec.conv_ext _ _ (by omega) (by simp only []; omega)
  case piece24 =>
    idx_vars x
    obtain rfl : x0 = 0 := Subsingleton.elim _ _
    have e1 : r.val = 128 + x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 128
      (kept_at m c t (View.whole cc0_scratch0) 128 1408 inb_S1032x1536_S136x128_128_1408 (by omega) (by omega)) x1 x2).trans ?_
    exact EvenSpec.conv_ext _ _ (by omega) (by simp only []; omega)
  case piece25 =>
    idx_vars x
    obtain rfl : x0 = 0 := Subsingleton.elim _ _
    have e1 : r.val = 128 + x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 128
      (kept_at m c t (View.whole cc0_scratch0) 128 1280 inb_S1032x1536_S136x128_128_1280 (by omega) (by omega)) x1 x2).trans ?_
    exact EvenSpec.conv_ext _ _ (by omega) (by simp only []; omega)
  case piece26 =>
    idx_vars x
    obtain rfl : x0 = 0 := Subsingleton.elim _ _
    have e1 : r.val = 128 + x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 128
      (kept_at m c t (View.whole cc0_scratch0) 128 1152 inb_S1032x1536_S136x128_128_1152 (by omega) (by omega)) x1 x2).trans ?_
    exact EvenSpec.conv_ext _ _ (by omega) (by simp only []; omega)
  case piece27 =>
    idx_vars x
    obtain rfl : x0 = 0 := Subsingleton.elim _ _
    have e1 : r.val = 128 + x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 128
      (kept_at m c t (View.whole cc0_scratch0) 128 1024 inb_S1032x1536_S136x128_128_1024 (by omega) (by omega)) x1 x2).trans ?_
    exact EvenSpec.conv_ext _ _ (by omega) (by simp only []; omega)
  case piece28 =>
    idx_vars x
    obtain rfl : x0 = 0 := Subsingleton.elim _ _
    have e1 : r.val = x1.val := h1
    have e2 : d.val = 384 + x2.val := h2
    refine (Tile.v_at (iblk m c 8 t) 1408 (by omega) slices_S4x1536_o0_1408_S1x128 slices_S4x1536_o1_1408_S1x128 slices_S4x1536_o2_1408_S1x128 slices_S4x1536_o3_1408_S1x128 _ (kept m c t) 0
      (kept_at m c t (View.whole cc0_scratch0) 0 1408 inb_S1032x1536_S136x128_0_1408 (by omega) (by omega)) x1 x2).trans ?_
    exact EvenSpec.conv_ext _ _ (by omega) (by simp only []; omega)
  case piece29 =>
    idx_vars x
    obtain rfl : x0 = 0 := Subsingleton.elim _ _
    have e1 : r.val = x1.val := h1
    have e2 : d.val = 256 + x2.val := h2
    refine (Tile.v_at (iblk m c 8 t) 1280 (by omega) slices_S4x1536_o0_1280_S1x128 slices_S4x1536_o1_1280_S1x128 slices_S4x1536_o2_1280_S1x128 slices_S4x1536_o3_1280_S1x128 _ (kept m c t) 0
      (kept_at m c t (View.whole cc0_scratch0) 0 1280 inb_S1032x1536_S136x128_0_1280 (by omega) (by omega)) x1 x2).trans ?_
    exact EvenSpec.conv_ext _ _ (by omega) (by simp only []; omega)
  case piece30 =>
    idx_vars x
    obtain rfl : x0 = 0 := Subsingleton.elim _ _
    have e1 : r.val = x1.val := h1
    have e2 : d.val = 128 + x2.val := h2
    refine (Tile.v_at (iblk m c 8 t) 1152 (by omega) slices_S4x1536_o0_1152_S1x128 slices_S4x1536_o1_1152_S1x128 slices_S4x1536_o2_1152_S1x128 slices_S4x1536_o3_1152_S1x128 _ (kept m c t) 0
      (kept_at m c t (View.whole cc0_scratch0) 0 1152 inb_S1032x1536_S136x128_0_1152 (by omega) (by omega)) x1 x2).trans ?_
    exact EvenSpec.conv_ext _ _ (by omega) (by simp only []; omega)
  case piece31 =>
    idx_vars x
    obtain rfl : x0 = 0 := Subsingleton.elim _ _
    have e1 : r.val = x1.val := h1
    have e2 : d.val = x2.val := h2
    refine (Tile.v_at (iblk m c 8 t) 1024 (by omega) slices_S4x1536_o0_1024_S1x128 slices_S4x1536_o1_1024_S1x128 slices_S4x1536_o2_1024_S1x128 slices_S4x1536_o3_1024_S1x128 _ (kept m c t) 0
      (kept_at m c t (View.whole cc0_scratch0) 0 1024 inb_S1032x1536_S136x128_0_1024 (by omega) (by omega)) x1 x2).trans ?_
    exact EvenSpec.conv_ext _ _ (by omega) (by simp only []; omega)

end Cert.EvenInIdeal.Value
-- ==== Proof.EvenInQ.lean ====
/- The even layer's input projection kernel's stored blocks of queries, keys and values: tile by tile, each is the convolution
   over the rows kept in scratch. -/
module

public import proofs.«01_k».proof.Proof.EvenInV

set_option maxRecDepth 16384

@[expose] public section
noncomputable section

open Idealize.ShloMosaic Idealize.ShloMosaic.TcCoe Idealize.SL.Sem

namespace Cert.EvenInIdeal.Value
open Cert.EvenInIdeal Cert.EvenInIdeal.Gen
open Idealize.ShloMosaic.Pipeline (Dat)

variable (m : (ℓ : Loc nD τ sig) → Buf (Elt Ideal) ℓ) (c : Dev nD) (t : Fin cfg0.N)

set_option maxHeartbeats 8000000 in
/-- The stored block of queries. -/
theorem q_blk (r : Fin 1024) (d : Fin 512) : (outsAt0 (F := Ideal) m c t).2.1 (ix3 0 r d)
    = EvenSpec.l2 (fun k => EvenSpec.conv (kept m c t) (wts m c t) (r.val + 5) ⟨d.val / 128 * 128 + k.val, by omega⟩) ⟨d.val % 128, Nat.mod_lt _ (by norm_num)⟩ * Ideal.ofBits .f32 0x3DB504F3#32 := by
  unfold Gen.outsAt0
  frame_out
  canon_tiles x h
  case piece0 =>
    idx_vars x
    obtain rfl : x0 = 0 := Subsingleton.elim _ _
    have e1 : r.val = 896 + x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 896
      (kept_at m c t (View.whole cc0_scratch0) 896 384 inb_S1032x1536_S136x128_896_384 (by omega) (by omega)) x1 x2).trans ?_
    exact congrArg (· * _) (EvenSpec.l2_ext _ _ (by omega) (fun k => by simp only []; omega) (by simp only []; omega))
  case piece1 =>
    idx_vars x
    obtain rfl : x0 = 0 := Subsingleton.elim _ _
    have e1 : r.val = 896 + x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 896
      (kept_at m c t (View.whole cc0_scratch0) 896 256 inb_S1032x1536_S136x128_896_256 (by omega) (by omega)) x1 x2).trans ?_
    exact congrArg (· * _) (EvenSpec.l2_ext _ _ (by omega) (fun k => by simp only []; omega) (by simp only []; omega))
  case piece2 =>
    idx_vars x
    obtain rfl : x0 = 0 := Subsingleton.elim _ _
    have e1 : r.val = 896 + x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 896
      (kept_at m c t (View.whole cc0_scratch0) 896 128 inb_S1032x1536_S136x128_896_128 (by omega) (by omega)) x1 x2).trans ?_
    exact congrArg (· * _) (EvenSpec.l2_ext _ _ (by omega) (fun k => by simp only []; omega) (by simp only []; omega))
  case piece3 =>
    idx_vars x
    obtain rfl : x0 = 0 := Subsingleton.elim _ _
    have e1 : r.val = 896 + x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 896
      (kept_at m c t (View.whole cc0_scratch0) 896 0 inb_S1032x1536_S136x128_896_0 (by omega) (by omega)) x1 x2).trans ?_
    exact congrArg (· * _) (EvenSpec.l2_ext _ _ (by omega) (fun k => by simp only []; omega) (by simp only []; omega))
  case piece4 =>
    idx_vars x
    obtain rfl : x0 = 0 := Subsingleton.elim _ _
    have e1 : r.val = 768 + x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 768
      (kept_at m c t (View.whole cc0_scratch0) 768 384 inb_S1032x1536_S136x128_768_384 (by omega) (by omega)) x1 x2).trans ?_
    exact congrArg (· * _) (EvenSpec.l2_ext _ _ (by omega) (fun k => by simp only []; omega) (by simp only []; omega))
  case piece5 =>
    idx_vars x
    obtain rfl : x0 = 0 := Subsingleton.elim _ _
    have e1 : r.val = 768 + x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 768
      (kept_at m c t (View.whole cc0_scratch0) 768 256 inb_S1032x1536_S136x128_768_256 (by omega) (by omega)) x1 x2).trans ?_
    exact congrArg (· * _) (EvenSpec.l2_ext _ _ (by omega) (fun k => by simp only []; omega) (by simp only []; omega))
  case piece6 =>
    idx_vars x
    obtain rfl : x0 = 0 := Subsingleton.elim _ _
    have e1 : r.val = 768 + x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 768
      (kept_at m c t (View.whole cc0_scratch0) 768 128 inb_S1032x1536_S136x128_768_128 (by omega) (by omega)) x1 x2).trans ?_
    exact congrArg (· * _) (EvenSpec.l2_ext _ _ (by omega) (fun k => by simp only []; omega) (by simp only []; omega))
  case piece7 =>
    idx_vars x
    obtain rfl : x0 = 0 := Subsingleton.elim _ _
    have e1 : r.val = 768 + x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 768
      (kept_at m c t (View.whole cc0_scratch0) 768 0 inb_S1032x1536_S136x128_768_0 (by omega) (by omega)) x1 x2).trans ?_
    exact congrArg (· * _) (EvenSpec.l2_ext _ _ (by omega) (fun k => by simp only []; omega) (by simp only []; omega))
  case piece8 =>
    idx_vars x
    obtain rfl : x0 = 0 := Subsingleton.elim _ _
    have e1 : r.val = 640 + x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 640
      (kept_at m c t (View.whole cc0_scratch0) 640 384 inb_S1032x1536_S136x128_640_384 (by omega) (by omega)) x1 x2).trans ?_
    exact congrArg (· * _) (EvenSpec.l2_ext _ _ (by omega) (fun k => by simp only []; omega) (by simp only []; omega))
  case piece9 =>
    idx_vars x
    obtain rfl : x0 = 0 := Subsingleton.elim _ _
    have e1 : r.val = 640 + x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 640
      (kept_at m c t (View.whole cc0_scratch0) 640 256 inb_S1032x1536_S136x128_640_256 (by omega) (by omega)) x1 x2).trans ?_
    exact congrArg (· * _) (EvenSpec.l2_ext _ _ (by omega) (fun k => by simp only []; omega) (by simp only []; omega))
  case piece10 =>
    idx_vars x
    obtain rfl : x0 = 0 := Subsingleton.elim _ _
    have e1 : r.val = 640 + x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 640
      (kept_at m c t (View.whole cc0_scratch0) 640 128 inb_S1032x1536_S136x128_640_128 (by omega) (by omega)) x1 x2).trans ?_
    exact congrArg (· * _) (EvenSpec.l2_ext _ _ (by omega) (fun k => by simp only []; omega) (by simp only []; omega))
  case piece11 =>
    idx_vars x
    obtain rfl : x0 = 0 := Subsingleton.elim _ _
    have e1 : r.val = 640 + x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 640
      (kept_at m c t (View.whole cc0_scratch0) 640 0 inb_S1032x1536_S136x128_640_0 (by omega) (by omega)) x1 x2).trans ?_
    exact congrArg (· * _) (EvenSpec.l2_ext _ _ (by omega) (fun k => by simp only []; omega) (by simp only []; omega))
  case piece12 =>
    idx_vars x
    obtain rfl : x0 = 0 := Subsingleton.elim _ _
    have e1 : r.val = 512 + x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 512
      (kept_at m c t (View.whole cc0_scratch0) 512 384 inb_S1032x1536_S136x128_512_384 (by omega) (by omega)) x1 x2).trans ?_
    exact congrArg (· * _) (EvenSpec.l2_ext _ _ (by omega) (fun k => by simp only []; omega) (by simp only []; omega))
  case piece13 =>
    idx_vars x
    obtain rfl : x0 = 0 := Subsingleton.elim _ _
    have e1 : r.val = 512 + x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 512
      (kept_at m c t (View.whole cc0_scratch0) 512 256 inb_S1032x1536_S136x128_512_256 (by omega) (by omega)) x1 x2).trans ?_
    exact congrArg (· * _) (EvenSpec.l2_ext _ _ (by omega) (fun k => by simp only []; omega) (by simp only []; omega))
  case piece14 =>
    idx_vars x
    obtain rfl : x0 = 0 := Subsingleton.elim _ _
    have e1 : r.val = 512 + x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 512
      (kept_at m c t (View.whole cc0_scratch0) 512 128 inb_S1032x1536_S136x128_512_128 (by omega) (by omega)) x1 x2).trans ?_
    exact congrArg (· * _) (EvenSpec.l2_ext _ _ (by omega) (fun k => by simp only []; omega) (by simp only []; omega))
  case piece15 =>
    idx_vars x
    obtain rfl : x0 = 0 := Subsingleton.elim _ _
    have e1 : r.val = 512 + x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 512
      (kept_at m c t (View.whole cc0_scratch0) 512 0 inb_S1032x1536_S136x128_512_0 (by omega) (by omega)) x1 x2).trans ?_
    exact congrArg (· * _) (EvenSpec.l2_ext _ _ (by omega) (fun k => by simp only []; omega) (by simp only []; omega))
  case piece16 =>
    idx_vars x
    obtain rfl : x0 = 0 := Subsingleton.elim _ _
    have e1 : r.val = 384 + x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 384
      (kept_at m c t (View.whole cc0_scratch0) 384 384 inb_S1032x1536_S136x128_384_384 (by omega) (by omega)) x1 x2).trans ?_
    exact congrArg (· * _) (EvenSpec.l2_ext _ _ (by omega) (fun k => by simp only []; omega) (by simp only []; omega))
  case piece17 =>
    idx_vars x
    obtain rfl : x0 = 0 := Subsingleton.elim _ _
    have e1 : r.val = 384 + x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 384
      (kept_at m c t (View.whole cc0_scratch0) 384 256 inb_S1032x1536_S136x128_384_256 (by omega) (by omega)) x1 x2).trans ?_
    exact congrArg (· * _) (EvenSpec.l2_ext _ _ (by omega) (fun k => by simp only []; omega) (by simp only []; omega))
  case piece18 =>
    idx_vars x
    obtain rfl : x0 = 0 := Subsingleton.elim _ _
    have e1 : r.val = 384 + x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 384
      (kept_at m c t (View.whole cc0_scratch0) 384 128 inb_S1032x1536_S136x128_384_128 (by omega) (by omega)) x1 x2).trans ?_
    exact congrArg (· * _) (EvenSpec.l2_ext _ _ (by omega) (fun k => by simp only []; omega) (by simp only []; omega))
  case piece19 =>
    idx_vars x
    obtain rfl : x0 = 0 := Subsingleton.elim _ _
    have e1 : r.val = 384 + x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 384
      (kept_at m c t (View.whole cc0_scratch0) 384 0 inb_S1032x1536_S136x128_384_0 (by omega) (by omega)) x1 x2).trans ?_
    exact congrArg (· * _) (EvenSpec.l2_ext _ _ (by omega) (fun k => by simp only []; omega) (by simp only []; omega))
  case piece20 =>
    idx_vars x
    obtain rfl : x0 = 0 := Subsingleton.elim _ _
    have e1 : r.val = 256 + x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 256
      (kept_at m c t (View.whole cc0_scratch0) 256 384 inb_S1032x1536_S136x128_256_384 (by omega) (by omega)) x1 x2).trans ?_
    exact congrArg (· * _) (EvenSpec.l2_ext _ _ (by omega) (fun k => by simp only []; omega) (by simp only []; omega))
  case piece21 =>
    idx_vars x
    obtain rfl : x0 = 0 := Subsingleton.elim _ _
    have e1 : r.val = 256 + x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 256
      (kept_at m c t (View.whole cc0_scratch0) 256 256 inb_S1032x1536_S136x128_256_256 (by omega) (by omega)) x1 x2).trans ?_
    exact congrArg (· * _) (EvenSpec.l2_ext _ _ (by omega) (fun k => by simp only []; omega) (by simp only []; omega))
  case piece22 =>
    idx_vars x
    obtain rfl : x0 = 0 := Subsingleton.elim _ _
    have e1 : r.val = 256 + x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 256
      (kept_at m c t (View.whole cc0_scratch0) 256 128 inb_S1032x1536_S136x128_256_128 (by omega) (by omega)) x1 x2).trans ?_
    exact congrArg (· * _) (EvenSpec.l2_ext _ _ (by omega) (fun k => by simp only []; omega) (by simp only []; omega))
  case piece23 =>
    idx_vars x
    obtain rfl : x0 = 0 := Subsingleton.elim _ _
    have e1 : r.val = 256 + x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 256
      (kept_at m c t (View.whole cc0_scratch0) 256 0 inb_S1032x1536_S136x128_256_0 (by omega) (by omega)) x1 x2).trans ?_
    exact congrArg (· * _) (EvenSpec.l2_ext _ _ (by omega) (fun k => by simp only []; omega) (by simp only []; omega))
  case piece24 =>
    idx_vars x
    obtain rfl : x0 = 0 := Subsingleton.elim _ _
    have e1 : r.val = 128 + x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 128
      (kept_at m c t (View.whole cc0_scratch0) 128 384 inb_S1032x1536_S136x128_128_384 (by omega) (by omega)) x1 x2).trans ?_
    exact congrArg (· * _) (EvenSpec.l2_ext _ _ (by omega) (fun k => by simp only []; omega) (by simp only []; omega))
  case piece25 =>
    idx_vars x
    obtain rfl : x0 = 0 := Subsingleton.elim _ _
    have e1 : r.val = 128 + x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 128
      (kept_at m c t (View.whole cc0_scratch0) 128 256 inb_S1032x1536_S136x128_128_256 (by omega) (by omega)) x1 x2).trans ?_
    exact congrArg (· * _) (EvenSpec.l2_ext _ _ (by omega) (fun k => by simp only []; omega) (by simp only []; omega))
  case piece26 =>
    idx_vars x
    obtain rfl : x0 = 0 := Subsingleton.elim _ _
    have e1 : r.val = 128 + x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 128
      (kept_at m c t (View.whole cc0_scratch0) 128 128 inb_S1032x1536_S136x128_128_128 (by omega) (by omega)) x1 x2).trans ?_
    exact congrArg (· * _) (EvenSpec.l2_ext _ _ (by omega) (fun k => by simp only []; omega) (by simp only []; omega))
  case piece27 =>
    idx_vars x
    obtain rfl : x0 = 0 := Subsingleton.elim _ _
    have e1 : r.val = 128 + x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 128
      (kept_at m c t (View.whole cc0_scratch0) 128 0 inb_S1032x1536_S136x128_128_0 (by omega) (by omega)) x1 x2).trans ?_
    exact congrArg (· * _) (EvenSpec.l2_ext _ _ (by omega) (fun k => by simp only []; omega) (by simp only []; omega))
  case piece28 =>
    idx_vars x
    obtain rfl : x0 = 0 := Subsingleton.elim _ _
    have e1 : r.val = x1.val := h1
    have e2 : d.val = 384 + x2.val := h2
    refine (Tile.q_at (iblk m c 8 t) 384 (by omega) slices_S4x1536_o0_384_S1x128 slices_S4x1536_o1_384_S1x128 slices_S4x1536_o2_384_S1x128 slices_S4x1536_o3_384_S1x128 _ (kept m c t) 0
      (kept_at m c t (View.whole cc0_scratch0) 0 384 inb_S1032x1536_S136x128_0_384 (by omega) (by omega)) x1 x2).trans ?_
    exact congrArg (· * _) (EvenSpec.l2_ext _ _ (by omega) (fun k => by simp only []; omega) (by simp only []; omega))
  case piece29 =>
    idx_vars x
    obtain rfl : x0 = 0 := Subsingleton.elim _ _
    have e1 : r.val = x1.val := h1
    have e2 : d.val = 256 + x2.val := h2
    refine (Tile.q_at (iblk m c 8 t) 256 (by omega) slices_S4x1536_o0_256_S1x128 slices_S4x1536_o1_256_S1x128 slices_S4x1536_o2_256_S1x128 slices_S4x1536_o3_256_S1x128 _ (kept m c t) 0
      (kept_at m c t (View.whole cc0_scratch0) 0 256 inb_S1032x1536_S136x128_0_256 (by omega) (by omega)) x1 x2).trans ?_
    exact congrArg (· * _) (EvenSpec.l2_ext _ _ (by omega) (fun k => by simp only []; omega) (by simp only []; omega))
  case piece30 =>
    idx_vars x
    obtain rfl : x0 = 0 := Subsingleton.elim _ _
    have e1 : r.val = x1.val := h1
    have e2 : d.val = 128 + x2.val := h2
    refine (Tile.q_at (iblk m c 8 t) 128 (by omega) slices_S4x1536_o0_128_S1x128 slices_S4x1536_o1_128_S1x128 slices_S4x1536_o2_128_S1x128 slices_S4x1536_o3_128_S1x128 _ (kept m c t) 0
      (kept_at m c t (View.whole cc0_scratch0) 0 128 inb_S1032x1536_S136x128_0_128 (by omega) (by omega)) x1 x2).trans ?_
    exact congrArg (· * _) (EvenSpec.l2_ext _ _ (by omega) (fun k => by simp only []; omega) (by simp only []; omega))
  case piece31 =>
    idx_vars x
    obtain rfl : x0 = 0 := Subsingleton.elim _ _
    have e1 : r.val = x1.val := h1
    have e2 : d.val = x2.val := h2
    refine (Tile.q_at (iblk m c 8 t) 0 (by omega) slices_S4x1536_o0_0_S1x128 slices_S4x1536_o1_0_S1x128 slices_S4x1536_o2_0_S1x128 slices_S4x1536_o3_0_S1x128 _ (kept m c t) 0
      (kept_at m c t (View.whole cc0_scratch0) 0 0 inb_S1032x1536_S136x128_0_0 (by omega) (by omega)) x1 x2).trans ?_
    exact congrArg (· * _) (EvenSpec.l2_ext _ _ (by omega) (fun k => by simp only []; omega) (by simp only []; omega))

end Cert.EvenInIdeal.Value
-- ==== Proof.EvenInK.lean ====
/- The even layer's input projection kernel's stored blocks of queries, keys and values: tile by tile, each is the convolution
   over the rows kept in scratch. -/
module

public import proofs.«01_k».proof.Proof.EvenInV

set_option maxRecDepth 16384

@[expose] public section
noncomputable section

open Idealize.ShloMosaic Idealize.ShloMosaic.TcCoe Idealize.SL.Sem

namespace Cert.EvenInIdeal.Value
open Cert.EvenInIdeal Cert.EvenInIdeal.Gen
open Idealize.ShloMosaic.Pipeline (Dat)

variable (m : (ℓ : Loc nD τ sig) → Buf (Elt Ideal) ℓ) (c : Dev nD) (t : Fin cfg0.N)

set_option maxHeartbeats 8000000 in
/-- The stored block of keys. -/
theorem k_blk (r : Fin 1024) (d : Fin 512) : (outsAt0 (F := Ideal) m c t).2.2.1 (ix3 0 r d)
    = EvenSpec.l2 (fun k => EvenSpec.conv (kept m c t) (wts m c t) (r.val + 5) ⟨512 + d.val / 128 * 128 + k.val, by omega⟩) ⟨d.val % 128, Nat.mod_lt _ (by norm_num)⟩ := by
  unfold Gen.outsAt0
  frame_out
  canon_tiles x h
  case piece0 =>
    idx_vars x
    obtain rfl : x0 = 0 := Subsingleton.elim _ _
    have e1 : r.val = 896 + x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 896
      (kept_at m c t (View.whole cc0_scratch0) 896 896 inb_S1032x1536_S136x128_896_896 (by omega) (by omega)) x1 x2).trans ?_
    exact EvenSpec.l2_ext _ _ (by omega) (fun k => by simp only []; omega) (by simp only []; omega)
  case piece1 =>
    idx_vars x
    obtain rfl : x0 = 0 := Subsingleton.elim _ _
    have e1 : r.val = 896 + x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 896
      (kept_at m c t (View.whole cc0_scratch0) 896 768 inb_S1032x1536_S136x128_896_768 (by omega) (by omega)) x1 x2).trans ?_
    exact EvenSpec.l2_ext _ _ (by omega) (fun k => by simp only []; omega) (by simp only []; omega)
  case piece2 =>
    idx_vars x
    obtain rfl : x0 = 0 := Subsingleton.elim _ _
    have e1 : r.val = 896 + x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 896
      (kept_at m c t (View.whole cc0_scratch0) 896 640 inb_S1032x1536_S136x128_896_640 (by omega) (by omega)) x1 x2).trans ?_
    exact EvenSpec.l2_ext _ _ (by omega) (fun k => by simp only []; omega) (by simp only []; omega)
  case piece3 =>
    idx_vars x
    obtain rfl : x0 = 0 := Subsingleton.elim _ _
    have e1 : r.val = 896 + x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 896
      (kept_at m c t (View.whole cc0_scratch0) 896 512 inb_S1032x1536_S136x128_896_512 (by omega) (by omega)) x1 x2).trans ?_
    exact EvenSpec.l2_ext _ _ (by omega) (fun k => by simp only []; omega) (by simp only []; omega)
  case piece4 =>
    idx_vars x
    obtain rfl : x0 = 0 := Subsingleton.elim _ _
    have e1 : r.val = 768 + x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 768
      (kept_at m c t (View.whole cc0_scratch0) 768 896 inb_S1032x1536_S136x128_768_896 (by omega) (by omega)) x1 x2).trans ?_
    exact EvenSpec.l2_ext _ _ (by omega) (fun k => by simp only []; omega) (by simp only []; omega)
  case piece5 =>
    idx_vars x
    obtain rfl : x0 = 0 := Subsingleton.elim _ _
    have e1 : r.val = 768 + x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 768
      (kept_at m c t (View.whole cc0_scratch0) 768 768 inb_S1032x1536_S136x128_768_768 (by omega) (by omega)) x1 x2).trans ?_
    exact EvenSpec.l2_ext _ _ (by omega) (fun k => by simp only []; omega) (by simp only []; omega)
  case piece6 =>
    idx_vars x
    obtain rfl : x0 = 0 := Subsingleton.elim _ _
    have e1 : r.val = 768 + x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 768
      (kept_at m c t (View.whole cc0_scratch0) 768 640 inb_S1032x1536_S136x128_768_640 (by omega) (by omega)) x1 x2).trans ?_
    exact EvenSpec.l2_ext _ _ (by omega) (fun k => by simp only []; omega) (by simp only []; omega)
  case piece7 =>
    idx_vars x
    obtain rfl : x0 = 0 := Subsingleton.elim _ _
    have e1 : r.val = 768 + x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 768
      (kept_at m c t (View.whole cc0_scratch0) 768 512 inb_S1032x1536_S136x128_768_512 (by omega) (by omega)) x1 x2).trans ?_
    exact EvenSpec.l2_ext _ _ (by omega) (fun k => by simp only []; omega) (by simp only []; omega)
  case piece8 =>
    idx_vars x
    obtain rfl : x0 = 0 := Subsingleton.elim _ _
    have e1 : r.val = 640 + x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 640
      (kept_at m c t (View.whole cc0_scratch0) 640 896 inb_S1032x1536_S136x128_640_896 (by omega) (by omega)) x1 x2).trans ?_
    exact EvenSpec.l2_ext _ _ (by omega) (fun k => by simp only []; omega) (by simp only []; omega)
  case piece9 =>
    idx_vars x
    obtain rfl : x0 = 0 := Subsingleton.elim _ _
    have e1 : r.val = 640 + x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 640
      (kept_at m c t (View.whole cc0_scratch0) 640 768 inb_S1032x1536_S136x128_640_768 (by omega) (by omega)) x1 x2).trans ?_
    exact EvenSpec.l2_ext _ _ (by omega) (fun k => by simp only []; omega) (by simp only []; omega)
  case piece10 =>
    idx_vars x
    obtain rfl : x0 = 0 := Subsingleton.elim _ _
    have e1 : r.val = 640 + x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 640
      (kept_at m c t (View.whole cc0_scratch0) 640 640 inb_S1032x1536_S136x128_640_640 (by omega) (by omega)) x1 x2).trans ?_
    exact EvenSpec.l2_ext _ _ (by omega) (fun k => by simp only []; omega) (by simp only []; omega)
  case piece11 =>
    idx_vars x
    obtain rfl : x0 = 0 := Subsingleton.elim _ _
    have e1 : r.val = 640 + x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 640
      (kept_at m c t (View.whole cc0_scratch0) 640 512 inb_S1032x1536_S136x128_640_512 (by omega) (by omega)) x1 x2).trans ?_
    exact EvenSpec.l2_ext _ _ (by omega) (fun k => by simp only []; omega) (by simp only []; omega)
  case piece12 =>
    idx_vars x
    obtain rfl : x0 = 0 := Subsingleton.elim _ _
    have e1 : r.val = 512 + x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 512
      (kept_at m c t (View.whole cc0_scratch0) 512 896 inb_S1032x1536_S136x128_512_896 (by omega) (by omega)) x1 x2).trans ?_
    exact EvenSpec.l2_ext _ _ (by omega) (fun k => by simp only []; omega) (by simp only []; omega)
  case piece13 =>
    idx_vars x
    obtain rfl : x0 = 0 := Subsingleton.elim _ _
    have e1 : r.val = 512 + x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 512
      (kept_at m c t (View.whole cc0_scratch0) 512 768 inb_S1032x1536_S136x128_512_768 (by omega) (by omega)) x1 x2).trans ?_
    exact EvenSpec.l2_ext _ _ (by omega) (fun k => by simp only []; omega) (by simp only []; omega)
  case piece14 =>
    idx_vars x
    obtain rfl : x0 = 0 := Subsingleton.elim _ _
    have e1 : r.val = 512 + x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 512
      (kept_at m c t (View.whole cc0_scratch0) 512 640 inb_S1032x1536_S136x128_512_640 (by omega) (by omega)) x1 x2).trans ?_
    exact EvenSpec.l2_ext _ _ (by omega) (fun k => by simp only []; omega) (by simp only []; omega)
  case piece15 =>
    idx_vars x
    obtain rfl : x0 = 0 := Subsingleton.elim _ _
    have e1 : r.val = 512 + x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 512
      (kept_at m c t (View.whole cc0_scratch0) 512 512 inb_S1032x1536_S136x128_512_512 (by omega) (by omega)) x1 x2).trans ?_
    exact EvenSpec.l2_ext _ _ (by omega) (fun k => by simp only []; omega) (by simp only []; omega)
  case piece16 =>
    idx_vars x
    obtain rfl : x0 = 0 := Subsingleton.elim _ _
    have e1 : r.val = 384 + x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 384
      (kept_at m c t (View.whole cc0_scratch0) 384 896 inb_S1032x1536_S136x128_384_896 (by omega) (by omega)) x1 x2).trans ?_
    exact EvenSpec.l2_ext _ _ (by omega) (fun k => by simp only []; omega) (by simp only []; omega)
  case piece17 =>
    idx_vars x
    obtain rfl : x0 = 0 := Subsingleton.elim _ _
    have e1 : r.val = 384 + x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 384
      (kept_at m c t (View.whole cc0_scratch0) 384 768 inb_S1032x1536_S136x128_384_768 (by omega) (by omega)) x1 x2).trans ?_
    exact EvenSpec.l2_ext _ _ (by omega) (fun k => by simp only []; omega) (by simp only []; omega)
  case piece18 =>
    idx_vars x
    obtain rfl : x0 = 0 := Subsingleton.elim _ _
    have e1 : r.val = 384 + x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 384
      (kept_at m c t (View.whole cc0_scratch0) 384 640 inb_S1032x1536_S136x128_384_640 (by omega) (by omega)) x1 x2).trans ?_
    exact EvenSpec.l2_ext _ _ (by omega) (fun k => by simp only []; omega) (by simp only []; omega)
  case piece19 =>
    idx_vars x
    obtain rfl : x0 = 0 := Subsingleton.elim _ _
    have e1 : r.val = 384 + x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 384
      (kept_at m c t (View.whole cc0_scratch0) 384 512 inb_S1032x1536_S136x128_384_512 (by omega) (by omega)) x1 x2).trans ?_
    exact EvenSpec.l2_ext _ _ (by omega) (fun k => by simp only []; omega) (by simp only []; omega)
  case piece20 =>
    idx_vars x
    obtain rfl : x0 = 0 := Subsingleton.elim _ _
    have e1 : r.val = 256 + x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 256
      (kept_at m c t (View.whole cc0_scratch0) 256 896 inb_S1032x1536_S136x128_256_896 (by omega) (by omega)) x1 x2).trans ?_
    exact EvenSpec.l2_ext _ _ (by omega) (fun k => by simp only []; omega) (by simp only []; omega)
  case piece21 =>
    idx_vars x
    obtain rfl : x0 = 0 := Subsingleton.elim _ _
    have e1 : r.val = 256 + x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 256
      (kept_at m c t (View.whole cc0_scratch0) 256 768 inb_S1032x1536_S136x128_256_768 (by omega) (by omega)) x1 x2).trans ?_
    exact EvenSpec.l2_ext _ _ (by omega) (fun k => by simp only []; omega) (by simp only []; omega)
  case piece22 =>
    idx_vars x
    obtain rfl : x0 = 0 := Subsingleton.elim _ _
    have e1 : r.val = 256 + x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 256
      (kept_at m c t (View.whole cc0_scratch0) 256 640 inb_S1032x1536_S136x128_256_640 (by omega) (by omega)) x1 x2).trans ?_
    exact EvenSpec.l2_ext _ _ (by omega) (fun k => by simp only []; omega) (by simp only []; omega)
  case piece23 =>
    idx_vars x
    obtain rfl : x0 = 0 := Subsingleton.elim _ _
    have e1 : r.val = 256 + x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 256
      (kept_at m c t (View.whole cc0_scratch0) 256 512 inb_S1032x1536_S136x128_256_512 (by omega) (by omega)) x1 x2).trans ?_
    exact EvenSpec.l2_ext _ _ (by omega) (fun k => by simp only []; omega) (by simp only []; omega)
  case piece24 =>
    idx_vars x
    obtain rfl : x0 = 0 := Subsingleton.elim _ _
    have e1 : r.val = 128 + x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 128
      (kept_at m c t (View.whole cc0_scratch0) 128 896 inb_S1032x1536_S136x128_128_896 (by omega) (by omega)) x1 x2).trans ?_
    exact EvenSpec.l2_ext _ _ (by omega) (fun k => by simp only []; omega) (by simp only []; omega)
  case piece25 =>
    idx_vars x
    obtain rfl : x0 = 0 := Subsingleton.elim _ _
    have e1 : r.val = 128 + x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 128
      (kept_at m c t (View.whole cc0_scratch0) 128 768 inb_S1032x1536_S136x128_128_768 (by omega) (by omega)) x1 x2).trans ?_
    exact EvenSpec.l2_ext _ _ (by omega) (fun k => by simp only []; omega) (by simp only []; omega)
  case piece26 =>
    idx_vars x
    obtain rfl : x0 = 0 := Subsingleton.elim _ _
    have e1 : r.val = 128 + x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 128
      (kept_at m c t (View.whole cc0_scratch0) 128 640 inb_S1032x1536_S136x128_128_640 (by omega) (by omega)) x1 x2).trans ?_
    exact EvenSpec.l2_ext _ _ (by omega) (fun k => by simp only []; omega) (by simp only []; omega)
  case piece27 =>
    idx_vars x
    obtain rfl : x0 = 0 := Subsingleton.elim _ _
    have e1 : r.val = 128 + x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 128
      (kept_at m c t (View.whole cc0_scratch0) 128 512 inb_S1032x1536_S136x128_128_512 (by omega) (by omega)) x1 x2).trans ?_
    exact EvenSpec.l2_ext _ _ (by omega) (fun k => by simp only []; omega) (by simp only []; omega)
  case piece28 =>
    idx_vars x
    obtain rfl : x0 = 0 := Subsingleton.elim _ _
    have e1 : r.val = x1.val := h1
    have e2 : d.val = 384 + x2.val := h2
    refine (Tile.k_at (iblk m c 8 t) 896 (by omega) slices_S4x1536_o0_896_S1x128 slices_S4x1536_o1_896_S1x128 slices_S4x1536_o2_896_S1x128 slices_S4x1536_o3_896_S1x128 _ (kept m c t) 0
      (kept_at m c t (View.whole cc0_scratch0) 0 896 inb_S1032x1536_S136x128_0_896 (by omega) (by omega)) x1 x2).trans ?_
    exact EvenSpec.l2_ext _ _ (by omega) (fun k => by simp only []; omega) (by simp only []; omega)
  case piece29 =>
    idx_vars x
    obtain rfl : x0 = 0 := Subsingleton.elim _ _
    have e1 : r.val = x1.val := h1
    have e2 : d.val = 256 + x2.val := h2
    refine (Tile.k_at (iblk m c 8 t) 768 (by omega) slices_S4x1536_o0_768_S1x128 slices_S4x1536_o1_768_S1x128 slices_S4x1536_o2_768_S1x128 slices_S4x1536_o3_768_S1x128 _ (kept m c t) 0
      (kept_at m c t (View.whole cc0_scratch0) 0 768 inb_S1032x1536_S136x128_0_768 (by omega) (by omega)) x1 x2).trans ?_
    exact EvenSpec.l2_ext _ _ (by omega) (fun k => by simp only []; omega) (by simp only []; omega)
  case piece30 =>
    idx_vars x
    obtain rfl : x0 = 0 := Subsingleton.elim _ _
    have e1 : r.val = x1.val := h1
    have e2 : d.val = 128 + x2.val := h2
    refine (Tile.k_at (iblk m c 8 t) 640 (by omega) slices_S4x1536_o0_640_S1x128 slices_S4x1536_o1_640_S1x128 slices_S4x1536_o2_640_S1x128 slices_S4x1536_o3_640_S1x128 _ (kept m c t) 0
      (kept_at m c t (View.whole cc0_scratch0) 0 640 inb_S1032x1536_S136x128_0_640 (by omega) (by omega)) x1 x2).trans ?_
    exact EvenSpec.l2_ext _ _ (by omega) (fun k => by simp only []; omega) (by simp only []; omega)
  case piece31 =>
    idx_vars x
    obtain rfl : x0 = 0 := Subsingleton.elim _ _
    have e1 : r.val = x1.val := h1
    have e2 : d.val = x2.val := h2
    refine (Tile.k_at (iblk m c 8 t) 512 (by omega) slices_S4x1536_o0_512_S1x128 slices_S4x1536_o1_512_S1x128 slices_S4x1536_o2_512_S1x128 slices_S4x1536_o3_512_S1x128 _ (kept m c t) 0
      (kept_at m c t (View.whole cc0_scratch0) 0 512 inb_S1032x1536_S136x128_0_512 (by omega) (by omega)) x1 x2).trans ?_
    exact EvenSpec.l2_ext _ _ (by omega) (fun k => by simp only []; omega) (by simp only []; omega)

end Cert.EvenInIdeal.Value
-- ==== Proof.EvenInRows.lean ====
/- The even layer's input projection by coordinates: the projected features, and the rows the convolution runs over. -/
module

public import proofs.«01_k».proof.Proof.EvenInSpec
public import proofs.«01_k».proof.Proof.Spec

set_option maxRecDepth 16384

@[expose] public section
noncomputable section

open Idealize.ShloMosaic Idealize.ShloMosaic.TcCoe Idealize.SL.Sem

namespace Cert.EvenSpec

variable (x : Fin 8 → Fin 8192 → Fin 1024 → EReal) (nw : Fin 1024 → EReal) (w : Fin 1024 → Fin 3848 → EReal)
  (C : Fin 8 → Fin 3 → Fin 1536 → EReal) (W : Fin 4 → Fin 1536 → EReal)

/-- A projected feature of a token: its normalised features times the whole weight. -/
def proj (b : Fin 8) (s : Fin 8192) (f : Fin 3848) : EReal := Spec.mm (Spec.rms (x b s) nw) w f

/-- The rows of one batch the convolution runs over: the carried rows, then the projected queries, keys and values. -/
def strip (b : Fin 8) : ℕ → Fin 1536 → EReal :=
  cat (C b) (fun s e => proj x nw w b s ⟨1792 + e.val, by omega⟩)

/-- The convolved queries, keys and values of a token. -/
def mixed (b : Fin 8) (s : ℕ) (e : Fin 1536) : EReal := conv (strip x nw w C b) W s e

/-- A token's query feature: its head normalised, times the scale. -/
def query (b : Fin 8) (s : ℕ) (d : Fin 512) : EReal :=
  l2 (fun k => mixed x nw w C W b s ⟨d.val / 128 * 128 + k.val, by omega⟩) ⟨d.val % 128, by omega⟩ * Ideal.ofBits .f32 0x3DB504F3#32

/-- A token's key feature: its head normalised. -/
def key (b : Fin 8) (s : ℕ) (d : Fin 512) : EReal :=
  l2 (fun k => mixed x nw w C W b s ⟨512 + (d.val / 128 * 128 + k.val), by omega⟩) ⟨d.val % 128, by omega⟩

/-- A token's value feature. -/
def value (b : Fin 8) (s : ℕ) (d : Fin 512) : EReal := mixed x nw w C W b s ⟨1024 + d.val, by omega⟩

/-- A product's feature may be named by any index of the same value. -/
theorem proj_ext (b : Fin 8) (s : Fin 8192) {i j : Fin 3848} (h : i.val = j.val) : proj x nw w b s i = proj x nw w b s j := by
  rw [Fin.ext h]

/-- A head's normalised feature takes the head's features only. -/
theorem l2_congr {z z' : Fin 128 → EReal} (h : ∀ k, z k = z' k) (e : Fin 128) : l2 z e = l2 z' e := by
  rw [funext h]

end Cert.EvenSpec
-- ==== Proof.EvenInHost.lean ====
/- The even layer's input projection kernel's operands prepared on the host, read at an index. -/
module

public import proofs.«01_k».proof.Proof.Gen.EvenInIdeal.Frame
public import proofs.«01_k».proof.Proof.EvenInRows
public import Idealize.ShloMosaic.Lib.Pipeline.ValueKit

set_option maxRecDepth 16384

@[expose] public section
noncomputable section

open Idealize.ShloMosaic Idealize.ShloMosaic.TcCoe Idealize.SL.Sem

namespace Cert.EvenInIdeal.Value
open Cert.EvenInIdeal Cert.EvenInIdeal.Gen
open Idealize.ShloMosaic.Pipeline (Dat)

variable (m : (ℓ : Loc nD τ sig) → Buf (Elt Ideal) ℓ) (c : Dev nD)

abbrev X0 : FVec Ideal S8x8192x1024 .f32 := m ((c : Thread nD τ).loc main_arg0)
abbrev X1 : FVec Ideal S1024 .f32 := m ((c : Thread nD τ).loc main_arg1)
abbrev X2 : FVec Ideal S1024x3848 .f32 := m ((c : Thread nD τ).loc main_arg2)
abbrev X3 : FVec Ideal S8x3x1536 .f32 := m ((c : Thread nD τ).loc main_arg3)
abbrev X4 : FVec Ideal S4x1536 .f32 := m ((c : Thread nD τ).loc main_arg4)

theorem zero : FloatOps.sitofp (F := Ideal) FTy.f32 0#32 = (0 : EReal) := by
  show (((BitVec.toInt 0#32 : ℤ) : ℝ) : EReal) = 0
  norm_num

theorem pad_at (x : FVec Ideal S1024x8 .f32) (k : Fin 1024) (e : Fin 128) :
    pad S1024x128 ![0, 0] ![0, 120] ![0, 0] x (sitofp (F := Ideal) FTy.f32 (constantI S_ 32 0#32)) pads_S1024x8_S1024x128_000_01200 h_S_ (ix2 k e)
      = if h : e.val < 8 then x (ix2 k ⟨e.val, h⟩) else (0 : EReal) := by
  pointwise [hlo_ix]
  simp only [zero]

theorem cut_at (x : FVec Ideal S1024x3848 .f32) (k : Fin 1024) (e : Fin 8) :
    extractStridedSlice S1024x8 ![0, 3328] x slices_S1024x3848_S1024x8_0_3328 (ix2 k e) = x (ix2 k ⟨3328 + e.val, by omega⟩) := by
  pointwise [hlo_ix]

theorem lead_at (x : FVec Ideal S8x3x1536 .f32) (b : Fin 8) (q : Fin 3) (e : Fin 1536) :
    pad S8x8x1536 ![0, 5, 0] ![0, 0, 0] ![0, 0, 0] x (sitofp (F := Ideal) FTy.f32 (constantI S_ 32 0#32)) pads_S8x3x1536_S8x8x1536_000_500_000 h_S_ (ix3 b ⟨5 + q.val, by omega⟩ e)
      = x (ix3 b q e) := by
  pointwise [hlo_ix]

theorem nw_at (k : Fin 1024) : (V m c main_v10 : FVec Ideal S1x1024 .f32) (ix2 0 k) = X1 m c (ix1 k) := by
  unfold V V0 hostOps0 hostOps0_1 hostOps0_2
  simp only [List.flatten_cons, List.flatten_nil, List.append_nil, List.cons_append, List.nil_append]
  after_results
  pointwise [hlo_ix]

theorem wa_at (k : Fin 1024) (e : Fin 1792) : (V m c main_v2 : FVec Ideal S1024x1792 .bf16) (ix2 k e) = X2 m c (ix2 k ⟨e.val, by omega⟩) := by
  unfold V V0 hostOps0 hostOps0_1 hostOps0_2
  simp only [List.flatten_cons, List.flatten_nil, List.append_nil, List.cons_append, List.nil_append]
  after_results
  pointwise [hlo_ix]

theorem wq_at (k : Fin 1024) (e : Fin 1536) : (V m c main_v4 : FVec Ideal S1024x1536 .bf16) (ix2 k e) = X2 m c (ix2 k ⟨1792 + e.val, by omega⟩) := by
  unfold V V0 hostOps0 hostOps0_1 hostOps0_2
  simp only [List.flatten_cons, List.flatten_nil, List.append_nil, List.cons_append, List.nil_append]
  after_results
  pointwise [hlo_ix]

theorem wb_at (k : Fin 1024) (e : Fin 128) : (V m c main_v6 : FVec Ideal S1024x128 .bf16) (ix2 k e)
    = if h : e.val < 8 then X2 m c (ix2 k ⟨3328 + e.val, by omega⟩) else 0 := by
  unfold V V0 hostOps0 hostOps0_1 hostOps0_2
  simp only [List.flatten_cons, List.flatten_nil, List.append_nil, List.cons_append, List.nil_append]
  after_results
  refine (pad_at _ k e).trans ?_
  split
  · exact cut_at _ k _
  · rfl

theorem wz_at (k : Fin 1024) (e : Fin 512) : (V m c main_v8 : FVec Ideal S1024x512 .bf16) (ix2 k e) = X2 m c (ix2 k ⟨3336 + e.val, by omega⟩) := by
  unfold V V0 hostOps0 hostOps0_1 hostOps0_2
  simp only [List.flatten_cons, List.flatten_nil, List.append_nil, List.cons_append, List.nil_append]
  after_results
  pointwise [hlo_ix]

theorem c0_at (b : Fin 8) (q : Fin 3) (e : Fin 1536) : (V m c main_v9 : FVec Ideal S8x8x1536 .f32) (ix3 b ⟨5 + q.val, by omega⟩ e) = X3 m c (ix3 b q e) := by
  unfold V V0 hostOps0 hostOps0_1 hostOps0_2
  simp only [List.flatten_cons, List.flatten_nil, List.append_nil, List.cons_append, List.nil_append]
  after_results
  exact lead_at _ b q e

end Cert.EvenInIdeal.Value
-- ==== Proof.EvenInBlocks.lean ====
/- The even layer's input projection kernel's blocks at a grid point, and the rows it keeps in scratch as the rows the
   convolution runs over. -/
module

public import proofs.«01_k».proof.Proof.EvenInV
public import proofs.«01_k».proof.Proof.EvenInHost

set_option maxRecDepth 16384

@[expose] public section
noncomputable section

open Idealize.ShloMosaic Idealize.ShloMosaic.TcCoe Idealize.SL.Sem

namespace Cert.EvenInIdeal.Value
open Cert.EvenInIdeal Cert.EvenInIdeal.Gen
open Idealize.ShloMosaic.Pipeline (Dat)

variable (m : (ℓ : Loc nD τ sig) → Buf (Elt Ideal) ℓ) (c : Dev nD)

/-- The windows' block indices at every grid point. -/
theorem idx : ∀ t : Fin cfg0.N, win0_0.index t = ![t.val / 8, t.val % 8, 0] ∧ win0_1.index t = ![t.val / 8, t.val % 8 * 128 - 1, 0] ∧ win0_2.index t = ![t.val / 8, 0, 0]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![t.val / 8, t.val % 8, 0] ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0] ∧ win0_14.index t = ![t.val / 8, t.val % 8, 0]
    ∧ win0_15.index t = ![t.val / 8, 0, 0] :=
  (by decide +kernel : ∀ t : Fin grid0.N, _)

/-- The tile's number along the sequence at every grid point. -/
theorem crd : ∀ t : Fin cfg0.N, (grid0.coords t 1).val = t.val % 8 :=
  (by decide +kernel : ∀ t : Fin grid0.N, _)

/-- A projected feature of a token, from the arguments. -/
abbrev P : Fin 8 → Fin 8192 → Fin 3848 → EReal :=
  EvenSpec.proj (fun b s k => X0 m c (ix3 b s k)) (fun k => X1 m c (ix1 k)) (fun k n => X2 m c (ix2 k n))

/-- The rows the convolution runs over, from the arguments. -/
abbrev R : Fin 8 → ℕ → Fin 1536 → EReal :=
  EvenSpec.strip (fun b s k => X0 m c (ix3 b s k)) (fun k => X1 m c (ix1 k)) (fun k n => X2 m c (ix2 k n)) (fun b q e => X3 m c (ix3 b q e))

variable (t : Fin cfg0.N)

/-- The batch of a grid point. -/
abbrev bt : Fin 8 := ⟨t.val / 8, by have hN : t.val < 64 := t.isLt; omega⟩

/-- The token of a row of a grid point's tile. -/
abbrev tok (r : Fin 1024) : Fin 8192 := ⟨t.val % 8 * 1024 + r.val, by omega⟩

theorem b0 (r k : Fin 1024) : (iblk m c 0 t : FVec Ideal S1x1024x1024 .f32) (ix3 0 r k) = X0 m c (ix3 (bt t) (tok t r) k) := by
  blk_point [iblk, V, idx t]
theorem b1 (a : Fin 8) (k : Fin 1024) : (iblk m c 1 t : FVec Ideal S1x8x1024 .f32) (ix3 0 a k)
    = X0 m c (ix3 (bt t) ⟨(t.val % 8 * 128 - 1) * 8 + a.val, by omega⟩ k) := by
  blk_point [iblk, V, idx t]
theorem b2 (q : Fin 3) (e : Fin 1536) : (iblk m c 2 t : FVec Ideal S1x8x1536 .f32) (ix3 0 ⟨5 + q.val, by omega⟩ e) = X3 m c (ix3 (bt t) q e) := by
  refine Eq.trans ?_ (c0_at m c (bt t) q e)
  blk_ext [iblk, idx t]
theorem b3 (k : Fin 1024) : (iblk m c 3 t : FVec Ideal S1x1024 .f32) (ix2 0 k) = X1 m c (ix1 k) := by
  refine Eq.trans ?_ (nw_at m c k)
  blk_ext [iblk, idx t]
theorem b4 (k : Fin 1024) (e : Fin 1792) : (iblk m c 4 t : FVec Ideal S1024x1792 .bf16) (ix2 k e) = X2 m c (ix2 k ⟨e.val, by omega⟩) := by
  refine Eq.trans ?_ (wa_at m c k e)
  blk_ext [iblk, idx t]
theorem b5 (k : Fin 1024) (e : Fin 1536) : (iblk m c 5 t : FVec Ideal S1024x1536 .bf16) (ix2 k e) = X2 m c (ix2 k ⟨1792 + e.val, by omega⟩) := by
  refine Eq.trans ?_ (wq_at m c k e)
  blk_ext [iblk, idx t]
theorem b6 (k : Fin 1024) (e : Fin 128) : (iblk m c 6 t : FVec Ideal S1024x128 .bf16) (ix2 k e)
    = if h : e.val < 8 then X2 m c (ix2 k ⟨3328 + e.val, by omega⟩) else 0 := by
  refine Eq.trans ?_ (wb_at m c k e)
  blk_ext [iblk, idx t]
theorem b7 (k : Fin 1024) (e : Fin 512) : (iblk m c 7 t : FVec Ideal S1024x512 .bf16) (ix2 k e) = X2 m c (ix2 k ⟨3336 + e.val, by omega⟩) := by
  refine Eq.trans ?_ (wz_at m c k e)
  blk_ext [iblk, idx t]
theorem b8 (k : Fin 4) (e : Fin 1536) : (iblk m c 8 t : FVec Ideal S4x1536 .f32) (ix2 k e) = X4 m c (ix2 k e) := by
  blk_point [iblk, V, idx t]

/-! ## The payloads at an index -/

/-- The normalised rows of a tile. -/
abbrev norm (x0 : FVec Ideal S1x1024x1024 .f32) (x3 : FVec Ideal S1x1024 .f32) : FVec Ideal S1024x1024 .bf16 :=
  k0_pay6 (F := Ideal) (k0_pay2 x3) (k0_pay4 x0) (k0_pay5 x0) (FloatOps.ofBits FTy.f32 897988541#32)

theorem norm_at (x0 : FVec Ideal S1x1024x1024 .f32) (x3 : FVec Ideal S1x1024 .f32) (r k : Fin 1024) :
    norm x0 x3 (ix2 r k) = Spec.rms (fun k => x0 (ix3 0 r k)) (fun k => x3 (ix2 0 k)) k := by
  unfold norm
  pointwise [k0_pay6, k0_pay2, k0_pay4, k0_pay5, Spec.rms, Spec.meanSq]

theorem pay7_at (x0 : FVec Ideal S1x1024x1024 .f32) (x3 : FVec Ideal S1x1024 .f32) (w : FVec Ideal S1024x1536 .bf16) (r : Fin 1024) (e : Fin 1536) :
    k0_pay7 (F := Ideal) (k0_pay2 x3) (k0_pay4 x0) (k0_pay5 x0) (FloatOps.ofBits FTy.f32 897988541#32) w (ix2 r e)
      = Spec.mm (fun k => norm x0 x3 (ix2 r k)) (fun k n => w (ix2 k n)) e := by
  unfold norm
  pointwise [k0_pay7, Spec.mm]

theorem pay9_at (x0 : FVec Ideal S1x1024x1024 .f32) (x3 : FVec Ideal S1x1024 .f32) (w : FVec Ideal S1024x1792 .bf16) (r : Fin 1024) (e : Fin 1792) :
    k0_pay9 (F := Ideal) (k0_pay2 x3) (k0_pay4 x0) (k0_pay5 x0) (FloatOps.ofBits FTy.f32 897988541#32) w (ix3 0 r e)
      = Spec.mm (fun k => norm x0 x3 (ix2 r k)) (fun k n => w (ix2 k n)) e := by
  unfold norm
  pointwise [k0_pay9, Spec.mm]

theorem pay10_at (x0 : FVec Ideal S1x1024x1024 .f32) (x3 : FVec Ideal S1x1024 .f32) (w : FVec Ideal S1024x512 .bf16) (r : Fin 1024) (e : Fin 512) :
    k0_pay10 (F := Ideal) (k0_pay2 x3) (k0_pay4 x0) (k0_pay5 x0) (FloatOps.ofBits FTy.f32 897988541#32) w (ix3 0 r e)
      = Spec.mm (fun k => norm x0 x3 (ix2 r k)) (fun k n => w (ix2 k n)) e := by
  unfold norm
  pointwise [k0_pay10, Spec.mm]

theorem pay11_at (x0 : FVec Ideal S1x1024x1024 .f32) (x3 : FVec Ideal S1x1024 .f32) (w : FVec Ideal S1024x128 .bf16) (r : Fin 1024) (e : Fin 128) :
    k0_pay11 (F := Ideal) (norm x0 x3) w (ix3 0 r e) = Spec.mm (fun k => norm x0 x3 (ix2 r k)) (fun k n => w (ix2 k n)) e := by
  unfold norm
  pointwise [k0_pay11, Spec.mm]

theorem eq_one : ∀ j : Fin 8, j.val = 0 → Scalar.cmpi .eq (BitVec.ofNat 32 j.val) 0#32 = 1#1 := by decide
theorem eq_zero : ∀ j : Fin 8, j.val ≠ 0 → Scalar.cmpi .eq (BitVec.ofNat 32 j.val) 0#32 = 0#1 := by decide

theorem pick_one {α : Type} (a b : α) : Scalar.select 1#1 a b = a := by
  unfold Scalar.select
  exact if_pos rfl
theorem pick_zero {α : Type} (a b : α) : Scalar.select 0#1 a b = b := by
  unfold Scalar.select
  exact if_neg (by decide)

theorem pay3_first (i : grid0.Coords) (hi : (i 1).val = 0) (x3 : FVec Ideal S1x1024 .f32) (x1 : FVec Ideal S1x8x1024 .f32) (w : FVec Ideal S1024x1536 .bf16)
    (x2 : FVec Ideal S1x8x1536 .f32) (a : Fin 8) (e : Fin 1536) : k0_pay3 (F := Ideal) i x3 x1 w x2 (ix2 a e) = x2 (ix3 0 a e) := by
  have h : Scalar.cmpi .eq (BitVec.ofNat 32 (i 1).val) 0#32 = 1#1 := eq_one (i 1) hi
  unfold k0_pay3
  dsimp only
  rw [h, pick_one]
  pointwise

theorem pay3_rest (i : grid0.Coords) (hi : (i 1).val ≠ 0) (x3 : FVec Ideal S1x1024 .f32) (x1 : FVec Ideal S1x8x1024 .f32) (w : FVec Ideal S1024x1536 .bf16)
    (x2 : FVec Ideal S1x8x1536 .f32) (a : Fin 8) (e : Fin 1536) : k0_pay3 (F := Ideal) i x3 x1 w x2 (ix2 a e)
      = Spec.mm (Spec.rms (fun k => x1 (ix3 0 a k)) (fun k => x3 (ix2 0 k))) (fun k n => w (ix2 k n)) e := by
  have h : Scalar.cmpi .eq (BitVec.ofNat 32 (i 1).val) 0#32 = 0#1 := eq_zero (i 1) hi
  unfold k0_pay3
  dsimp only
  rw [h, pick_zero]
  pointwise [k0_pay2, Spec.mm, Spec.rms, Spec.meanSq]

/-! ## The rows kept in scratch -/

theorem norm_eq (r : Fin 1024) : (fun k => norm (iblk m c 0 t) (iblk m c 3 t) (ix2 r k))
    = Spec.rms (fun k => X0 m c (ix3 (bt t) (tok t r) k)) (fun k => X1 m c (ix1 k)) := by
  funext k
  rw [norm_at]
  simp only [b0, b3]

theorem hi_at (r : Fin 1024) (e : Fin 1536) : hi m c t (ix2 r e) = P m c (bt t) (tok t r) ⟨1792 + e.val, by omega⟩ := by
  unfold hi
  rw [pay7_at, norm_eq]
  unfold P EvenSpec.proj Spec.mm
  simp only [b5]

theorem lo_first (h0 : t.val % 8 = 0) (q : Fin 3) (e : Fin 1536) : lo m c t (ix2 ⟨5 + q.val, by omega⟩ e) = X3 m c (ix3 (bt t) q e) := by
  unfold lo
  rw [pay3_first _ ((crd t).trans h0), b2]

theorem lo_rest (h0 : t.val % 8 ≠ 0) (a : Fin 8) (e : Fin 1536) : lo m c t (ix2 a e)
    = P m c (bt t) ⟨t.val % 8 * 1024 - 8 + a.val, by omega⟩ ⟨1792 + e.val, by omega⟩ := by
  unfold lo
  rw [pay3_rest _ (fun h => h0 ((crd t).symm.trans h))]
  unfold P EvenSpec.proj Spec.mm
  simp only [b1, b3, b5]
  have hs : (⟨(t.val % 8 * 128 - 1) * 8 + a.val, by omega⟩ : Fin 8192) = ⟨t.val % 8 * 1024 - 8 + a.val, by omega⟩ := Fin.ext (by simp only []; omega)
  rw [hs]

/-- The rows kept in scratch from the sixth on are the rows the convolution runs over, from the tile's first tap on. -/
theorem kept_eq (p : ℕ) (h5 : 5 ≤ p) (hp : p < 1032) (e : Fin 1536) : kept m c t p e = R m c (bt t) (t.val % 8 * 1024 + (p - 5)) e := by
  unfold kept Tile.rows R EvenSpec.strip
  by_cases h8 : p < 8
  · rw [dif_pos h8]
    by_cases h0 : t.val % 8 = 0
    · have hq : (⟨p, h8⟩ : Fin 8) = ⟨5 + (⟨p - 5, by omega⟩ : Fin 3).val, by simp only []; omega⟩ := Fin.ext (by simp only []; omega)
      rw [hq, lo_first m c t h0]
      exact (EvenSpec.cat_lo (fun q e => X3 m c (ix3 (bt t) q e)) _ _ e ⟨p - 5, by omega⟩ (by simp only []; omega)).symm
    · rw [lo_rest m c t h0]
      exact (EvenSpec.cat_hi _ (fun s e => P m c (bt t) s ⟨1792 + e.val, by omega⟩) _ e ⟨t.val % 8 * 1024 - 8 + p, by omega⟩ (by simp only []; omega)).symm
  · rw [dif_neg h8, dif_pos (by omega), hi_at]
    exact (EvenSpec.cat_hi _ (fun s e => P m c (bt t) s ⟨1792 + e.val, by omega⟩) _ e ⟨t.val % 8 * 1024 + (p - 8), by omega⟩ (by simp only []; omega)).symm

theorem wts_eq : wts m c t = fun k e => X4 m c (ix2 k e) := by
  funext k e
  exact b8 m c t k e

/-- The convolution over the kept rows is that over the rows of the whole sequence. -/
theorem conv_eq (r : Fin 1024) (e : Fin 1536) : EvenSpec.conv (kept m c t) (wts m c t) (r.val + 5) e
    = EvenSpec.mixed (fun b s k => X0 m c (ix3 b s k)) (fun k => X1 m c (ix1 k)) (fun k n => X2 m c (ix2 k n)) (fun b q e => X3 m c (ix3 b q e))
        (fun k e => X4 m c (ix2 k e)) (bt t) (tok t r).val e := by
  rw [wts_eq]
  unfold EvenSpec.mixed
  have hk : ∀ a : ℕ, a < 4 → kept m c t (r.val + 5 + a) e = R m c (bt t) ((tok t r).val + a) e := fun a ha => by
    rw [kept_eq m c t _ (by omega) (by omega)]
    exact congrArg (fun s => R m c (bt t) s e) (by show _ = t.val % 8 * 1024 + r.val + a; omega)
  exact EvenSpec.conv_congr _ _ _ _ _ _ (hk 0 (by omega)) (hk 1 (by omega)) (hk 2 (by omega)) (hk 3 (by omega))

end Cert.EvenInIdeal.Value
-- ==== Proof.EvenInValue.lean ====
/- The even layer's input projection kernel's result arrays: the projected features, the convolved and normalised queries
   and keys, the convolved values, and the rows carried on. -/
module

public import proofs.«01_k».proof.Proof.EvenInQ
public import proofs.«01_k».proof.Proof.EvenInK
public import proofs.«01_k».proof.Proof.EvenInBlocks

set_option maxRecDepth 16384

@[expose] public section
noncomputable section

open Idealize.ShloMosaic Idealize.ShloMosaic.TcCoe Idealize.SL.Sem

namespace Cert.EvenInIdeal.Value
open Cert.EvenInIdeal Cert.EvenInIdeal.Gen
open Idealize.ShloMosaic.Pipeline (Dat)

variable (m : (ℓ : Loc nD τ sig) → Buf (Elt Ideal) ℓ) (c : Dev nD) (t : Fin cfg0.N)

/-! ## The blocks -/

/-- The attention's projected features of a tile. -/
theorem a_blk (r : Fin 1024) (d : Fin 1792) : (outsAt0 (F := Ideal) m c t).1 (ix3 0 r d) = P m c (bt t) (tok t r) ⟨d.val, by omega⟩ := by
  unfold Gen.outsAt0
  frame_out
  refine (pay9_at (iblk m c 0 t) (iblk m c 3 t) (iblk m c 4 t) r d).trans ?_
  rw [norm_eq]
  unfold P EvenSpec.proj Spec.mm
  simp only [b4]

/-- The output gates of a tile. -/
theorem z_blk (r : Fin 1024) (d : Fin 512) : (outsAt0 (F := Ideal) m c t).2.2.2.2.2.1 (ix3 0 r d) = P m c (bt t) (tok t r) ⟨3336 + d.val, by omega⟩ := by
  unfold Gen.outsAt0
  frame_out
  refine (pay10_at (iblk m c 0 t) (iblk m c 3 t) (iblk m c 7 t) r d).trans ?_
  rw [norm_eq]
  unfold P EvenSpec.proj Spec.mm
  simp only [b7]

/-- The gate columns of a tile, zero beyond the eighth. -/
theorem g_blk (r : Fin 1024) (d : Fin 128) : (outsAt0 (F := Ideal) m c t).2.2.2.2.1 (ix3 0 r d)
    = if h : d.val < 8 then P m c (bt t) (tok t r) ⟨3328 + d.val, by omega⟩ else 0 := by
  unfold Gen.outsAt0
  frame_out
  refine (pay11_at (iblk m c 0 t) (iblk m c 3 t) (iblk m c 6 t) r d).trans ?_
  rw [norm_eq]
  unfold P EvenSpec.proj Spec.mm
  simp only [b6]
  split
  · rfl
  · simp only [mul_zero, Finset.sum_const_zero]

theorem pay8_at (v : FVec Ideal S8x1536 .f32) (a : Fin 8) (e : Fin 1536) : k0_pay8 (F := Ideal) v (ix3 0 a e) = v (ix2 a e) := by
  pointwise [k0_pay8]

/-- The last eight rows kept in scratch, loaded after its two stores. -/
theorem last_at {κ : Kind} {sp : Space} (V : View sig κ sp S1032x1536 .f32)
    (inb : ∀ a, (![1024, 0] : Fin 2 → ℕ) a + (![8, 1536] : Fin 2 → ℕ) a ≤ S1032x1536.size a) (a : Fin 8) (e : Fin 1536) :
    V.readCov (Val := Elt Ideal) [⟨Rect.unit (s := S1032x1536) ![8, 0] ![1024, 1536] inb_S1032x1536_S1024x1536_8_0, hi m c t⟩,
      ⟨Rect.unit (s := S1032x1536) ![0, 0] ![8, 1536] inb_S1032x1536_S8x1536_0_0, lo m c t⟩] (Rect.unit (s := S1032x1536) ![1024, 0] ![8, 1536] inb).toLoadRect (ix2 a e : S8x1536.Idx)
      = kept m c t (1024 + a.val) e := by
  rw [View.readCov_eq_canon']
  refine Eq.trans ?_ (Tile.canon_at (lo m c t) (hi m c t) ⟨1024 + a.val, by omega⟩ e)
  refine congrArg _ (funext fun k => Fin.ext ?_)
  match k with
  | ⟨0, _⟩ => show 1024 + 1 * a.val = 1024 + a.val; omega
  | ⟨1, _⟩ => show 0 + 1 * e.val = e.val; omega

/-- The last eight rows of a tile. -/
theorem r_blk (a : Fin 8) (e : Fin 1536) : (outsAt0 (F := Ideal) m c t).2.2.2.2.2.2 (ix3 0 a e) = kept m c t (1024 + a.val) e := by
  unfold Gen.outsAt0
  frame_out
  refine (pay8_at _ a e).trans ?_
  exact last_at m c t (View.whole cc0_scratch0) inb_S1032x1536_S8x1536_1024_0 a e

/-! ## The results -/

/-- The attention's projected features at every token. -/
def outA0 : FVec Ideal S8x8192x1792 .f32 := fun i => P m c (i 0) (i 1) ⟨(i 2).val, by have : (i 2).val < 1792 := (i 2).isLt; omega⟩

/-- The attention's projected features after the run. -/
theorem final0 : (dats m 0 c).arrAt 9 (cfgs 0).N = outA0 m c := by
  refine (dats m 0 c).arrAt_eq_of_covers 9 _ (by decide +kernel) fun t _ y => ?_
  blk_simp
  rw [after0_9]
  have hN : t.val < 64 := t.isLt
  change S1x1024x1792.Idx at y
  idx_vars y
  obtain rfl : y0 = 0 := Subsingleton.elim _ _
  have hi : ((View.whole main_v11_0).slice (win0_9.rect t)).emb (ix3 0 y1 y2) = (ix3 (bt t) (tok t y1) y2 : S8x8192x1792.Idx) := by
    blk_ext [idx t]
  rw [hi]
  exact a_blk m c t y1 y2

/-- The queries at every token. -/
def outA1 : FVec Ideal S8x8192x512 .bf16 := fun i => EvenSpec.query (fun b s k => X0 m c (ix3 b s k)) (fun k => X1 m c (ix1 k)) (fun k n => X2 m c (ix2 k n)) (fun b q e => X3 m c (ix3 b q e)) (fun k e => X4 m c (ix2 k e)) (i 0) (i 1).val (i 2)

/-- The queries after the run. -/
theorem final1 : (dats m 0 c).arrAt 10 (cfgs 0).N = outA1 m c := by
  refine (dats m 0 c).arrAt_eq_of_covers 10 _ (by decide +kernel) fun t _ y => ?_
  blk_simp
  rw [after0_10]
  have hN : t.val < 64 := t.isLt
  change S1x1024x512.Idx at y
  idx_vars y
  obtain rfl : y0 = 0 := Subsingleton.elim _ _
  have hi : ((View.whole main_v11_1).slice (win0_10.rect t)).emb (ix3 0 y1 y2) = (ix3 (bt t) (tok t y1) y2 : S8x8192x512.Idx) := by
    blk_ext [idx t]
  rw [hi]
  refine (q_blk m c t y1 y2).trans ?_
  show _ = EvenSpec.query (fun b s k => X0 m c (ix3 b s k)) (fun k => X1 m c (ix1 k)) (fun k n => X2 m c (ix2 k n)) (fun b q e => X3 m c (ix3 b q e)) (fun k e => X4 m c (ix2 k e)) (bt t) (tok t y1).val y2
  unfold EvenSpec.query
  simp only [conv_eq]

/-- The keys at every token. -/
def outA2 : FVec Ideal S8x8192x512 .bf16 := fun i => EvenSpec.key (fun b s k => X0 m c (ix3 b s k)) (fun k => X1 m c (ix1 k)) (fun k n => X2 m c (ix2 k n)) (fun b q e => X3 m c (ix3 b q e)) (fun k e => X4 m c (ix2 k e)) (i 0) (i 1).val (i 2)

/-- The keys after the run. -/
theorem final2 : (dats m 0 c).arrAt 11 (cfgs 0).N = outA2 m c := by
  refine (dats m 0 c).arrAt_eq_of_covers 11 _ (by decide +kernel) fun t _ y => ?_
  blk_simp
  rw [after0_11]
  have hN : t.val < 64 := t.isLt
  change S1x1024x512.Idx at y
  idx_vars y
  obtain rfl : y0 = 0 := Subsingleton.elim _ _
  have hi : ((View.whole main_v11_2).slice (win0_11.rect t)).emb (ix3 0 y1 y2) = (ix3 (bt t) (tok t y1) y2 : S8x8192x512.Idx) := by
    blk_ext [idx t]
  rw [hi]
  refine (k_blk m c t y1 y2).trans ?_
  show _ = EvenSpec.key (fun b s k => X0 m c (ix3 b s k)) (fun k => X1 m c (ix1 k)) (fun k n => X2 m c (ix2 k n)) (fun b q e => X3 m c (ix3 b q e)) (fun k e => X4 m c (ix2 k e)) (bt t) (tok t y1).val y2
  unfold EvenSpec.key
  exact EvenSpec.l2_congr (fun k => (conv_eq m c t y1 _).trans (congrArg (EvenSpec.mixed (fun b s k => X0 m c (ix3 b s k)) (fun k => X1 m c (ix1 k)) (fun k n => X2 m c (ix2 k n)) (fun b q e => X3 m c (ix3 b q e)) (fun k e => X4 m c (ix2 k e)) (bt t) (tok t y1).val) (Fin.ext (by simp only []; omega)))) _

/-- The values at every token. -/
def outA3 : FVec Ideal S8x8192x512 .bf16 := fun i => EvenSpec.value (fun b s k => X0 m c (ix3 b s k)) (fun k => X1 m c (ix1 k)) (fun k n => X2 m c (ix2 k n)) (fun b q e => X3 m c (ix3 b q e)) (fun k e => X4 m c (ix2 k e)) (i 0) (i 1).val (i 2)

/-- The values after the run. -/
theorem final3 : (dats m 0 c).arrAt 12 (cfgs 0).N = outA3 m c := by
  refine (dats m 0 c).arrAt_eq_of_covers 12 _ (by decide +kernel) fun t _ y => ?_
  blk_simp
  rw [after0_12]
  have hN : t.val < 64 := t.isLt
  change S1x1024x512.Idx at y
  idx_vars y
  obtain rfl : y0 = 0 := Subsingleton.elim _ _
  have hi : ((View.whole main_v11_3).slice (win0_12.rect t)).emb (ix3 0 y1 y2) = (ix3 (bt t) (tok t y1) y2 : S8x8192x512.Idx) := by
    blk_ext [idx t]
  rw [hi]
  refine (v_blk m c t y1 y2).trans ?_
  show _ = EvenSpec.value (fun b s k => X0 m c (ix3 b s k)) (fun k => X1 m c (ix1 k)) (fun k n => X2 m c (ix2 k n)) (fun b q e => X3 m c (ix3 b q e)) (fun k e => X4 m c (ix2 k e)) (bt t) (tok t y1).val y2
  unfold EvenSpec.value
  rw [conv_eq]

/-- The gate columns at every token. -/
def outA4 : FVec Ideal S8x8192x128 .f32 := fun i => if h : (i 2).val < 8 then P m c (i 0) (i 1) ⟨3328 + (i 2).val, by omega⟩ else 0

/-- The gate columns after the run. -/
theorem final4 : (dats m 0 c).arrAt 13 (cfgs 0).N = outA4 m c := by
  refine (dats m 0 c).arrAt_eq_of_covers 13 _ (by decide +kernel) fun t _ y => ?_
  blk_simp
  rw [after0_13]
  have hN : t.val < 64 := t.isLt
  change S1x1024x128.Idx at y
  idx_vars y
  obtain rfl : y0 = 0 := Subsingleton.elim _ _
  have hi : ((View.whole main_v11_4).slice (win0_13.rect t)).emb (ix3 0 y1 y2) = (ix3 (bt t) (tok t y1) y2 : S8x8192x128.Idx) := by
    blk_ext [idx t]
  rw [hi]
  exact g_blk m c t y1 y2

/-- The output gates at every token. -/
def outA5 : FVec Ideal S8x8192x512 .f32 := fun i => P m c (i 0) (i 1) ⟨3336 + (i 2).val, by have : (i 2).val < 512 := (i 2).isLt; omega⟩

/-- The output gates after the run. -/
theorem final5 : (dats m 0 c).arrAt 14 (cfgs 0).N = outA5 m c := by
  refine (dats m 0 c).arrAt_eq_of_covers 14 _ (by decide +kernel) fun t _ y => ?_
  blk_simp
  rw [after0_14]
  have hN : t.val < 64 := t.isLt
  change S1x1024x512.Idx at y
  idx_vars y
  obtain rfl : y0 = 0 := Subsingleton.elim _ _
  have hi : ((View.whole main_v11_5).slice (win0_14.rect t)).emb (ix3 0 y1 y2) = (ix3 (bt t) (tok t y1) y2 : S8x8192x512.Idx) := by
    blk_ext [idx t]
  rw [hi]
  exact z_blk m c t y1 y2

/-- The last eight rows of every sequence. -/
def last : FVec Ideal S8x8x1536 .f32 := fun i => R m c (i 0) (8187 + (i 1).val) (i 2)

/-- The last eight rows of every sequence after the run. -/
theorem final_last : (dats m 0 c).arrAt 15 (cfgs 0).N = last m c := by
  refine (dats m 0 c).arrAt_eq_of_covers 15 _ (by decide +kernel) fun t hf y => ?_
  have h7 : t.val % 8 = 7 := (flush0_15 t).mp hf
  blk_simp
  rw [after0_15]
  have hN : t.val < 64 := t.isLt
  change S1x8x1536.Idx at y
  idx_vars y
  obtain rfl : y0 = 0 := Subsingleton.elim _ _
  have hi : ((View.whole main_v11_6).slice (win0_15.rect t)).emb (ix3 0 y1 y2) = (ix3 (bt t) y1 y2 : S8x8x1536.Idx) := by
    blk_ext [idx t]
  rw [hi]
  refine (r_blk m c t y1 y2).trans ?_
  rw [kept_eq m c t _ (by omega) (by omega)]
  show R m c (bt t) (t.val % 8 * 1024 + (1024 + y1.val - 5)) y2 = R m c (bt t) (8187 + y1.val) y2
  exact congrArg (fun s => R m c (bt t) s y2) (by omega)

end Cert.EvenInIdeal.Value
-- ==== Proof.EvenInRun.lean ====
/- The even layer's input projection kernel's whole run: the host's last operation keeps the last three of the eight rows
   the region leaves for each sequence. -/
module

public import proofs.«01_k».proof.Proof.EvenInValue

set_option maxRecDepth 16384

@[expose] public section
noncomputable section

open Idealize.ShloMosaic Idealize.ShloMosaic.TcCoe Idealize.SL.Sem

namespace Cert.EvenInIdeal.Value
open Cert.EvenInIdeal Cert.EvenInIdeal.Gen
open Idealize.ShloMosaic.Pipeline (Dat)

variable (m : (ℓ : Loc nD τ sig) → Buf (Elt Ideal) ℓ) (ρ : Dev nD → PrngReg) (c : Dev nD)

/-- The three rows carried to the next call. -/
def outA6 : FVec Ideal S8x3x1536 .f32 := fun i => R m c (i 0) (8192 + (i 1).val) (i 2)

theorem end_at (x : FVec Ideal S8x8x1536 .f32) (b : Fin 8) (q : Fin 3) (e : Fin 1536) :
    extractStridedSlice S8x3x1536 ![0, 5, 0] x slices_S8x8x1536_S8x3x1536_0_5_0 (ix3 b q e) = x (ix3 b ⟨5 + q.val, by omega⟩ e) := by
  pointwise [hlo_ix]

/-- The rows the host's last operation leaves. -/
theorem final6 : Pipeline.afterTail₀ cfgs (dats m) 0 (V0 m) [hostOps1] c main_v12 = outA6 m c := by
  unfold Pipeline.afterTail₀ hostOps1
  simp only [List.flatten_cons, List.flatten_nil, List.append_nil, List.cons_append, List.nil_append]
  after_results
  erw [(dats m 0 c).withArrays_arrAt launch₀0.sharedIn (V0 m c) (A_eq m c) 15]
  rw [final_last]
  funext i
  idx_vars i
  refine (end_at (last m c) _ _ _).trans ?_
  show R m c i0 (8187 + (5 + i1.val)) i2 = R m c i0 (8192 + i1.val) i2
  exact congrArg (fun s => R m c i0 s i2) (by omega)

set_option maxHeartbeats 4000000 in
/-- The kernel's run: its seven results, and its arguments kept. -/
theorem run : θ_run defs (onTc (τ := τ) (main (F := Ideal))) ⟨m, fun _ => 0, ρ⟩ fun r => ∀ c : Dev nD,
    r.2.mem ((c : Thread nD τ).loc main_v11_0) = outA0 m c ∧ r.2.mem ((c : Thread nD τ).loc main_v11_1) = outA1 m c
      ∧ r.2.mem ((c : Thread nD τ).loc main_v11_2) = outA2 m c ∧ r.2.mem ((c : Thread nD τ).loc main_v11_3) = outA3 m c
      ∧ r.2.mem ((c : Thread nD τ).loc main_v11_4) = outA4 m c ∧ r.2.mem ((c : Thread nD τ).loc main_v11_5) = outA5 m c
      ∧ r.2.mem ((c : Thread nD τ).loc main_v12) = outA6 m c
    ∧ r.2.mem ((c : Thread nD τ).loc main_arg0) = X0 m c ∧ r.2.mem ((c : Thread nD τ).loc main_arg1) = X1 m c ∧ r.2.mem ((c : Thread nD τ).loc main_arg2) = X2 m c
      ∧ r.2.mem ((c : Thread nD τ).loc main_arg3) = X3 m c ∧ r.2.mem ((c : Thread nD τ).loc main_arg4) = X4 m c :=
  (θ_run defs _ _).mono (fun _ h c => ⟨((h c).1 9).trans (final0 m c), ((h c).1 10).trans (final1 m c), ((h c).1 11).trans (final2 m c),
      ((h c).1 12).trans (final3 m c), ((h c).1 13).trans (final4 m c), ((h c).1 14).trans (final5 m c),
      ((h c).2 main_v12 (Pipeline.mem_restRefs_of main_v12 (by decide) (by decide))).trans (final6 m c),
    ((h c).1 0).trans (((dats m 0 c).arrAt_in 0 rfl _).trans (V_main_arg0 m c)),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 8).trans (((dats m 0 c).arrAt_in 8 rfl _).trans (V_main_arg4 m c))⟩) (run_main m ρ)

end Cert.EvenInIdeal.Value
-- ==== Proof.EvenInRef.lean ====
/- The even layer's input projection reference's stages read at an index. -/
module

public import proofs.«01_k».proof.Proof.Gen.EvenInRefIdeal.Read
public import proofs.«01_k».proof.Proof.EvenInRows

set_option maxRecDepth 16384

@[expose] public section
noncomputable section

open Idealize.ShloMosaic Idealize.ShloMosaic.TcCoe Idealize.SL.Sem

namespace Cert.EvenInRefIdeal.At
open Cert.EvenInRefIdeal Cert.EvenInRefIdeal.Gen Cert.EvenInRefIdeal.Read

variable (x0 : FVec Ideal S8x8192x1024 .f32) (x1 : FVec Ideal S1024 .f32) (x2 : FVec Ideal S1024x3848 .f32)
  (x3 : FVec Ideal S8x3x1536 .f32) (x4 : FVec Ideal S4x1536 .f32)

/-- The normalised row. -/
theorem v12_at (b : Fin 8) (s : Fin 8192) (d : Fin 1024) :
    val_main_v12 (F := Ideal) x0 x1 (ix3 b s d) = Spec.rms (fun k => x0 (ix3 b s k)) (fun k => x1 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, Spec.rms, Spec.meanSq]

/-- The whole projection. -/
theorem v13_at (b : Fin 8) (s : Fin 8192) (f : Fin 3848) :
    val_main_v13 (F := Ideal) x0 x1 x2 (ix3 b s f)
      = EvenSpec.proj (fun b s k => x0 (ix3 b s k)) (fun k => x1 (ix1 k)) (fun k n => x2 (ix2 k n)) b s f := by
  have e : Spec.rms (fun k => x0 (ix3 b s k)) (fun k => x1 (ix1 k)) = fun k => val_main_v12 (F := Ideal) x0 x1 (ix3 b s k) :=
    funext fun k => (v12_at x0 x1 b s k).symm
  unfold EvenSpec.proj
  rw [e]
  pointwise [val_main_v13, Spec.mm]

/-- The attention's projected features. -/
theorem out0_at (b : Fin 8) (s : Fin 8192) (f : Fin 1792) :
    val_main_v14 (F := Ideal) x0 x1 x2 (ix3 b s f)
      = EvenSpec.proj (fun b s k => x0 (ix3 b s k)) (fun k => x1 (ix1 k)) (fun k n => x2 (ix2 k n)) b s ⟨f.val, by omega⟩ := by
  pointwise [val_main_v14]
  exact (v13_at _ _ _ _ _ _).trans (EvenSpec.proj_ext _ _ _ _ _ (by simp))

/-- The output gates. -/
theorem out5_at (b : Fin 8) (s : Fin 8192) (f : Fin 512) :
    val_main_v18 (F := Ideal) x0 x1 x2 (ix3 b s f)
      = EvenSpec.proj (fun b s k => x0 (ix3 b s k)) (fun k => x1 (ix1 k)) (fun k n => x2 (ix2 k n)) b s ⟨3336 + f.val, by omega⟩ := by
  pointwise [val_main_v18, val_main_v15]
  exact (v13_at _ _ _ _ _ _).trans (EvenSpec.proj_ext _ _ _ _ _ (by simp only []; omega))

/-- The padding's value. -/
theorem zero : FloatOps.sitofp (F := Ideal) FTy.f32 0#32 = (0 : EReal) := by
  show (((BitVec.toInt 0#32 : ℤ) : ℝ) : EReal) = 0
  norm_num

theorem v72_at (b : Fin 8) (s : Fin 8192) (e : Fin 128) :
    val_main_v72 (F := Ideal) x0 x1 x2 (ix3 b s e) = if h : e.val < 8 then val_main_v17 (F := Ideal) x0 x1 x2 (ix3 b s ⟨e.val, h⟩) else 0 := by
  pointwise [val_main_v72, val_main_call1_v0, val_main_c]
  simp only [zero]

/-- The gate columns, padded with zeros to a whole row of lanes. -/
theorem out4_at (b : Fin 8) (s : Fin 8192) (e : Fin 128) :
    val_main_v72 (F := Ideal) x0 x1 x2 (ix3 b s e)
      = if h : e.val < 8 then EvenSpec.proj (fun b s k => x0 (ix3 b s k)) (fun k => x1 (ix1 k)) (fun k n => x2 (ix2 k n)) b s ⟨3328 + e.val, by omega⟩ else 0 := by
  rw [v72_at]
  split
  · pointwise [val_main_v17, val_main_v15]
    exact (v13_at _ _ _ _ _ _).trans (EvenSpec.proj_ext _ _ _ _ _ (by simp only []; omega))
  · rfl

theorem v16_at (b : Fin 8) (s : Fin 8192) (e : Fin 1536) :
    val_main_v16 (F := Ideal) x0 x1 x2 (ix3 b s e)
      = EvenSpec.proj (fun b s k => x0 (ix3 b s k)) (fun k => x1 (ix1 k)) (fun k n => x2 (ix2 k n)) b s ⟨1792 + e.val, by omega⟩ := by
  pointwise [val_main_v16, val_main_v15]
  exact (v13_at _ _ _ _ _ _).trans (EvenSpec.proj_ext _ _ _ _ _ (by simp only []))

/-- The rows the convolution runs over. -/
theorem v19_at (b : Fin 8) (p : Fin 8195) (e : Fin 1536) :
    val_main_v19 (F := Ideal) x0 x1 x2 x3 (ix3 b p e)
      = EvenSpec.strip (fun b s k => x0 (ix3 b s k)) (fun k => x1 (ix1 k)) (fun k n => x2 (ix2 k n)) (fun b q e => x3 (ix3 b q e)) b p.val e := by
  pointwise [val_main_v19]
  unfold EvenSpec.strip
  split
  · rename_i h
    exact (EvenSpec.cat_lo (fun q e => x3 (ix3 b q e)) _ _ e ⟨p.val, h⟩ rfl).symm
  · rename_i h
    rw [v16_at]
    exact (EvenSpec.cat_hi _ (fun s e => EvenSpec.proj (fun b s k => x0 (ix3 b s k)) (fun k => x1 (ix1 k)) (fun k n => x2 (ix2 k n)) b s ⟨1792 + e.val, by omega⟩)
      _ e ⟨p.val - 3, by omega⟩ (by simp only []; omega)).symm

/-- The convolution's four taps. -/
theorem v46_at (b : Fin 8) (s : Fin 8192) (e : Fin 1536) :
    val_main_v46 (F := Ideal) x0 x1 x2 x3 x4 (ix3 b s e)
      = val_main_v19 (F := Ideal) x0 x1 x2 x3 (ix3 b ⟨s.val, by omega⟩ e) * x4 (ix2 0 e) + val_main_v19 (F := Ideal) x0 x1 x2 x3 (ix3 b ⟨1 + s.val, by omega⟩ e) * x4 (ix2 1 e)
        + val_main_v19 (F := Ideal) x0 x1 x2 x3 (ix3 b ⟨2 + s.val, by omega⟩ e) * x4 (ix2 2 e) + val_main_v19 (F := Ideal) x0 x1 x2 x3 (ix3 b ⟨3 + s.val, by omega⟩ e) * x4 (ix2 3 e) := by
  pointwise [val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20]

theorem silu_at (b : Fin 8) (s : Fin 8192) (e : Fin 1536) :
    val_main_v48 (F := Ideal) x0 x1 x2 x3 x4 (ix3 b s e) = Spec.silu (val_main_v46 (F := Ideal) x0 x1 x2 x3 x4 (ix3 b s e)) := by
  pointwise [val_main_v48, val_main_call0_v5, val_main_call0_v4, val_main_call0_v3, val_main_call0_v2, val_main_call0_v1, val_main_call0_v0,
    val_main_call0_cst, val_main_call0_cst_0, Spec.silu]

/-- The convolution through the sigmoid unit. -/
theorem v48_at (b : Fin 8) (s : Fin 8192) (e : Fin 1536) :
    val_main_v48 (F := Ideal) x0 x1 x2 x3 x4 (ix3 b s e)
      = EvenSpec.mixed (fun b s k => x0 (ix3 b s k)) (fun k => x1 (ix1 k)) (fun k n => x2 (ix2 k n)) (fun b q e => x3 (ix3 b q e)) (fun k e => x4 (ix2 k e)) b s.val e := by
  rw [silu_at, v46_at, v19_at, v19_at, v19_at, v19_at]
  unfold EvenSpec.mixed EvenSpec.conv
  simp only [Nat.add_comm s.val]

theorem zero_bits : Ideal.ofBits .f32 0x00000000#32 = 0 := by simp [Ideal.ofBits, Ideal.ieee]

theorem square_q (b : Fin 8) (s : Fin 8192) (h : Fin 4) (e k : Fin 128) :
    val_main_v53 (F := Ideal) x0 x1 x2 x3 x4 (idx_main_v54 (idx_main_v55 (idx_main_v59 (ix4 b s h e))) k) = val_main_v52 (F := Ideal) x0 x1 x2 x3 x4 (ix4 b s h k) * val_main_v52 (F := Ideal) x0 x1 x2 x3 x4 (ix4 b s h k) := by
  have e1 : idx_main_v54 (idx_main_v55 (idx_main_v59 (ix4 b s h e))) k = ix4 b s h k :=
    funext fun a => match a with
      | ⟨0, _⟩ => rfl
      | ⟨1, _⟩ => rfl
      | ⟨2, _⟩ => rfl
      | ⟨3, _⟩ => rfl
  rw [e1, val_main_v53_apply]
  generalize val_main_v52 (F := Ideal) x0 x1 x2 x3 x4 = y
  rfl

theorem sum_q (b : Fin 8) (s : Fin 8192) (h : Fin 4) (e : Fin 128) :
    val_main_v55 (F := Ideal) x0 x1 x2 x3 x4 (idx_main_v59 (ix4 b s h e)) = ∑ k : Fin 128, val_main_v52 (F := Ideal) x0 x1 x2 x3 x4 (ix4 b s h k) * val_main_v52 (F := Ideal) x0 x1 x2 x3 x4 (ix4 b s h k) := by
  rw [val_main_v55_apply, val_main_v54_apply, val_main_cst_2_apply, Finset.sum_congr rfl fun k _ => square_q x0 x1 x2 x3 x4 b s h e k]
  generalize val_main_v52 (F := Ideal) x0 x1 x2 x3 x4 = y
  exact (congrArg (fun z => z + ∑ k : Fin 128, y (ix4 b s h k) * y (ix4 b s h k)) zero_bits).trans (zero_add _)

theorem head_q (b : Fin 8) (s : Fin 8192) (h : Fin 4) (e : Fin 128) :
    val_main_v60 (F := Ideal) x0 x1 x2 x3 x4 (ix4 b s h e) = EvenSpec.l2 (fun k => val_main_v52 (F := Ideal) x0 x1 x2 x3 x4 (ix4 b s h k)) e := by
  rw [val_main_v60_apply, val_main_v59_apply, val_main_v58_apply, val_main_v57_apply, val_main_v56_apply, val_main_cst_3_apply, sum_q]
  generalize val_main_v52 (F := Ideal) x0 x1 x2 x3 x4 = y
  unfold EvenSpec.l2
  rfl

theorem square_k (b : Fin 8) (s : Fin 8192) (h : Fin 4) (e k : Fin 128) :
    val_main_v64 (F := Ideal) x0 x1 x2 x3 x4 (idx_main_v65 (idx_main_v66 (idx_main_v70 (ix4 b s h e))) k) = val_main_v63 (F := Ideal) x0 x1 x2 x3 x4 (ix4 b s h k) * val_main_v63 (F := Ideal) x0 x1 x2 x3 x4 (ix4 b s h k) := by
  have e1 : idx_main_v65 (idx_main_v66 (idx_main_v70 (ix4 b s h e))) k = ix4 b s h k :=
    funext fun a => match a with
      | ⟨0, _⟩ => rfl
      | ⟨1, _⟩ => rfl
      | ⟨2, _⟩ => rfl
      | ⟨3, _⟩ => rfl
  rw [e1, val_main_v64_apply]
  generalize val_main_v63 (F := Ideal) x0 x1 x2 x3 x4 = y
  rfl

theorem sum_k (b : Fin 8) (s : Fin 8192) (h : Fin 4) (e : Fin 128) :
    val_main_v66 (F := Ideal) x0 x1 x2 x3 x4 (idx_main_v70 (ix4 b s h e)) = ∑ k : Fin 128, val_main_v63 (F := Ideal) x0 x1 x2 x3 x4 (ix4 b s h k) * val_main_v63 (F := Ideal) x0 x1 x2 x3 x4 (ix4 b s h k) := by
  rw [val_main_v66_apply, val_main_v65_apply, val_main_cst_5_apply, Finset.sum_congr rfl fun k _ => square_k x0 x1 x2 x3 x4 b s h e k]
  generalize val_main_v63 (F := Ideal) x0 x1 x2 x3 x4 = y
  exact (congrArg (fun z => z + ∑ k : Fin 128, y (ix4 b s h k) * y (ix4 b s h k)) zero_bits).trans (zero_add _)

theorem head_k (b : Fin 8) (s : Fin 8192) (h : Fin 4) (e : Fin 128) :
    val_main_v71 (F := Ideal) x0 x1 x2 x3 x4 (ix4 b s h e) = EvenSpec.l2 (fun k => val_main_v63 (F := Ideal) x0 x1 x2 x3 x4 (ix4 b s h k)) e := by
  rw [val_main_v71_apply, val_main_v70_apply, val_main_v69_apply, val_main_v68_apply, val_main_v67_apply, val_main_cst_6_apply, sum_k]
  generalize val_main_v63 (F := Ideal) x0 x1 x2 x3 x4 = y
  unfold EvenSpec.l2
  rfl

theorem v52_at (b : Fin 8) (s : Fin 8192) (h : Fin 4) (k : Fin 128) :
    val_main_v52 (F := Ideal) x0 x1 x2 x3 x4 (ix4 b s h k) = val_main_v48 (F := Ideal) x0 x1 x2 x3 x4 (ix3 b s ⟨h.val * 128 + k.val, by omega⟩) := by
  pointwise [val_main_v52, val_main_v49]

theorem v63_at (b : Fin 8) (s : Fin 8192) (h : Fin 4) (k : Fin 128) :
    val_main_v63 (F := Ideal) x0 x1 x2 x3 x4 (ix4 b s h k) = val_main_v48 (F := Ideal) x0 x1 x2 x3 x4 (ix3 b s ⟨512 + (h.val * 128 + k.val), by omega⟩) := by
  pointwise [val_main_v63, val_main_v50]

theorem flat73 (b : Fin 8) (s : Fin 8192) (d : Fin 512) : idx_main_v73 (ix3 b s d) = ix4 b s ⟨d.val / 128, by omega⟩ ⟨d.val % 128, by omega⟩ :=
  funext fun a => Fin.ext (match a with
    | ⟨0, _⟩ => (by show ((b.val * 8192 + s.val) * 512 + d.val) / 4194304 = b.val; omega)
    | ⟨1, _⟩ => (by show ((b.val * 8192 + s.val) * 512 + d.val) / 512 % 8192 = s.val; omega)
    | ⟨2, _⟩ => (by show ((b.val * 8192 + s.val) * 512 + d.val) / 128 % 4 = d.val / 128; omega)
    | ⟨3, _⟩ => (by show ((b.val * 8192 + s.val) * 512 + d.val) % 128 = d.val % 128; omega))

theorem flat75 (b : Fin 8) (s : Fin 8192) (d : Fin 512) : idx_main_v75 (ix3 b s d) = ix4 b s ⟨d.val / 128, by omega⟩ ⟨d.val % 128, by omega⟩ :=
  funext fun a => Fin.ext (match a with
    | ⟨0, _⟩ => (by show ((b.val * 8192 + s.val) * 512 + d.val) / 4194304 = b.val; omega)
    | ⟨1, _⟩ => (by show ((b.val * 8192 + s.val) * 512 + d.val) / 512 % 8192 = s.val; omega)
    | ⟨2, _⟩ => (by show ((b.val * 8192 + s.val) * 512 + d.val) / 128 % 4 = d.val / 128; omega)
    | ⟨3, _⟩ => (by show ((b.val * 8192 + s.val) * 512 + d.val) % 128 = d.val % 128; omega))

theorem v74_at (b : Fin 8) (s : Fin 8192) (d : Fin 512) :
    val_main_v74 (F := Ideal) x0 x1 x2 x3 x4 (ix3 b s d)
      = val_main_v60 (F := Ideal) x0 x1 x2 x3 x4 (ix4 b s ⟨d.val / 128, by omega⟩ ⟨d.val % 128, by omega⟩) * Ideal.ofBits .f32 0x3DB504F3#32 := by
  rw [val_main_v74_apply, val_main_v73_apply, val_main_v62_apply, val_main_v61_apply, val_main_cst_4_apply, flat73]
  generalize val_main_v60 (F := Ideal) x0 x1 x2 x3 x4 = y
  rfl

theorem v76_at (b : Fin 8) (s : Fin 8192) (d : Fin 512) :
    val_main_v76 (F := Ideal) x0 x1 x2 x3 x4 (ix3 b s d)
      = val_main_v71 (F := Ideal) x0 x1 x2 x3 x4 (ix4 b s ⟨d.val / 128, by omega⟩ ⟨d.val % 128, by omega⟩) := by
  rw [val_main_v76_apply, val_main_v75_apply, flat75]
  generalize val_main_v71 (F := Ideal) x0 x1 x2 x3 x4 = y
  rfl

/-- The queries. -/
theorem out1_at (b : Fin 8) (s : Fin 8192) (d : Fin 512) :
    val_main_v74 (F := Ideal) x0 x1 x2 x3 x4 (ix3 b s d)
      = EvenSpec.query (fun b s k => x0 (ix3 b s k)) (fun k => x1 (ix1 k)) (fun k n => x2 (ix2 k n)) (fun b q e => x3 (ix3 b q e)) (fun k e => x4 (ix2 k e)) b s.val d := by
  rw [v74_at, head_q]
  unfold EvenSpec.query
  exact congrArg (fun z => z * Ideal.ofBits .f32 0x3DB504F3#32) (EvenSpec.l2_congr (fun k => (v52_at x0 x1 x2 x3 x4 b s _ k).trans (v48_at x0 x1 x2 x3 x4 b s _)) _)

/-- The keys. -/
theorem out2_at (b : Fin 8) (s : Fin 8192) (d : Fin 512) :
    val_main_v76 (F := Ideal) x0 x1 x2 x3 x4 (ix3 b s d)
      = EvenSpec.key (fun b s k => x0 (ix3 b s k)) (fun k => x1 (ix1 k)) (fun k n => x2 (ix2 k n)) (fun b q e => x3 (ix3 b q e)) (fun k e => x4 (ix2 k e)) b s.val d := by
  rw [v76_at, head_k]
  unfold EvenSpec.key
  exact EvenSpec.l2_congr (fun k => (v63_at x0 x1 x2 x3 x4 b s _ k).trans (v48_at x0 x1 x2 x3 x4 b s _)) _

/-- The values. -/
theorem out3_at (b : Fin 8) (s : Fin 8192) (d : Fin 512) :
    val_main_v77 (F := Ideal) x0 x1 x2 x3 x4 (ix3 b s d)
      = EvenSpec.value (fun b s k => x0 (ix3 b s k)) (fun k => x1 (ix1 k)) (fun k n => x2 (ix2 k n)) (fun b q e => x3 (ix3 b q e)) (fun k e => x4 (ix2 k e)) b s.val d := by
  unfold EvenSpec.value
  rw [← v48_at]
  pointwise [val_main_v77, val_main_v51]

/-- The rows carried to the next call. -/
theorem out6_at (b : Fin 8) (q : Fin 3) (e : Fin 1536) :
    val_main_v47 (F := Ideal) x0 x1 x2 x3 (ix3 b q e)
      = EvenSpec.strip (fun b s k => x0 (ix3 b s k)) (fun k => x1 (ix1 k)) (fun k n => x2 (ix2 k n)) (fun b q e => x3 (ix3 b q e)) b (8192 + q.val) e := by
  pointwise [val_main_v47]
  exact v19_at _ _ _ _ _ _ _

end Cert.EvenInRefIdeal.At
-- ==== Proof.EvenInClaims.lean ====
/- The even layer's input projection claims: the kernel's run and the reference's end in the same arrays. -/
module

public import proofs.«01_k».proof.Defs
public import proofs.«01_k».proof.Proof.EvenInRun
public import proofs.«01_k».proof.Proof.EvenInRef

set_option maxRecDepth 16384

@[expose] public section
noncomputable section

open Idealize.ShloMosaic Idealize.ShloMosaic.TcCoe Idealize.SL.Sem

namespace Cert.EvenInClaims

open Cert.EvenInIdeal.Value (X0 X1 X2 X3 X4)

variable (m : (ℓ : Loc Cert.EvenInIdeal.nD Cert.EvenInIdeal.τ Cert.EvenInIdeal.sig) → Buf (Elt Ideal) ℓ) (c : Dev Cert.EvenInIdeal.nD)

/-- The reference's result 0 is the kernel's, as a function of the arguments. -/
theorem same0 : Cert.EvenInRefIdeal.Read.val_main_v14 (F := Ideal) (X0 m c) (X1 m c) (X2 m c) = Cert.EvenInIdeal.Value.outA0 m c := by
  funext i
  change Cert.EvenInIdeal.S8x8192x1792.Idx at i
  idx_vars i
  exact Cert.EvenInRefIdeal.At.out0_at _ _ _ i0 i1 i2

/-- The reference's result 1 is the kernel's, as a function of the arguments. -/
theorem same1 : Cert.EvenInRefIdeal.Read.val_main_v74 (F := Ideal) (X0 m c) (X1 m c) (X2 m c) (X3 m c) (X4 m c) = Cert.EvenInIdeal.Value.outA1 m c := by
  funext i
  change Cert.EvenInIdeal.S8x8192x512.Idx at i
  idx_vars i
  exact Cert.EvenInRefIdeal.At.out1_at _ _ _ _ _ i0 i1 i2

/-- The reference's result 2 is the kernel's, as a function of the arguments. -/
theorem same2 : Cert.EvenInRefIdeal.Read.val_main_v76 (F := Ideal) (X0 m c) (X1 m c) (X2 m c) (X3 m c) (X4 m c) = Cert.EvenInIdeal.Value.outA2 m c := by
  funext i
  change Cert.EvenInIdeal.S8x8192x512.Idx at i
  idx_vars i
  exact Cert.EvenInRefIdeal.At.out2_at _ _ _ _ _ i0 i1 i2

/-- The reference's result 3 is the kernel's, as a function of the arguments. -/
theorem same3 : Cert.EvenInRefIdeal.Read.val_main_v77 (F := Ideal) (X0 m c) (X1 m c) (X2 m c) (X3 m c) (X4 m c) = Cert.EvenInIdeal.Value.outA3 m c := by
  funext i
  change Cert.EvenInIdeal.S8x8192x512.Idx at i
  idx_vars i
  exact Cert.EvenInRefIdeal.At.out3_at _ _ _ _ _ i0 i1 i2

/-- The reference's result 4 is the kernel's, as a function of the arguments. -/
theorem same4 : Cert.EvenInRefIdeal.Read.val_main_v72 (F := Ideal) (X0 m c) (X1 m c) (X2 m c) = Cert.EvenInIdeal.Value.outA4 m c := by
  funext i
  change Cert.EvenInIdeal.S8x8192x128.Idx at i
  idx_vars i
  exact Cert.EvenInRefIdeal.At.out4_at _ _ _ i0 i1 i2

/-- The reference's result 5 is the kernel's, as a function of the arguments. -/
theorem same5 : Cert.EvenInRefIdeal.Read.val_main_v18 (F := Ideal) (X0 m c) (X1 m c) (X2 m c) = Cert.EvenInIdeal.Value.outA5 m c := by
  funext i
  change Cert.EvenInIdeal.S8x8192x512.Idx at i
  idx_vars i
  exact Cert.EvenInRefIdeal.At.out5_at _ _ _ i0 i1 i2

/-- The reference's result 6 is the kernel's, as a function of the arguments. -/
theorem same6 : Cert.EvenInRefIdeal.Read.val_main_v47 (F := Ideal) (X0 m c) (X1 m c) (X2 m c) (X3 m c) = Cert.EvenInIdeal.Value.outA6 m c := by
  funext i
  change Cert.EvenInIdeal.S8x3x1536.Idx at i
  idx_vars i
  exact Cert.EvenInRefIdeal.At.out6_at _ _ _ _ i0 i1 i2

/-- Over the extended reals the kernel and the reference, from the same arguments, end with the same seven results and keep
    their arguments. -/
theorem algebraic : @Cert.algebraic_EvenInIdeal_EvenInRefIdeal Cert.EvenInIdeal.Gen.facts Cert.EvenInRefIdeal.Gen.facts :=
  fun m ρ m' ρ' _ hag => ⟨fun c => Cert.EvenInIdeal.Value.outA0 m c, fun c => Cert.EvenInIdeal.Value.outA1 m c, fun c => Cert.EvenInIdeal.Value.outA2 m c, fun c => Cert.EvenInIdeal.Value.outA3 m c, fun c => Cert.EvenInIdeal.Value.outA4 m c, fun c => Cert.EvenInIdeal.Value.outA5 m c, fun c => Cert.EvenInIdeal.Value.outA6 m c,
    Cert.EvenInIdeal.Value.run m ρ,
    (θ_run _ _ _).mono (fun _ h c => ⟨(h c).1.trans ((Cert.EvenInRefIdeal.Read.val_main_v14_eq _ _ _).trans (Eq.trans (by rw [(hag c).1, (hag c).2.1, (hag c).2.2.1]) (same0 m c))),
      (h c).2.1.trans ((Cert.EvenInRefIdeal.Read.val_main_v74_eq m' c).trans (Eq.trans (by rw [(hag c).1, (hag c).2.1, (hag c).2.2.1, (hag c).2.2.2.1, (hag c).2.2.2.2]) (same1 m c))),
      (h c).2.2.1.trans ((Cert.EvenInRefIdeal.Read.val_main_v76_eq m' c).trans (Eq.trans (by rw [(hag c).1, (hag c).2.1, (hag c).2.2.1, (hag c).2.2.2.1, (hag c).2.2.2.2]) (same2 m c))),
      (h c).2.2.2.1.trans ((Cert.EvenInRefIdeal.Read.val_main_v77_eq m' c).trans (Eq.trans (by rw [(hag c).1, (hag c).2.1, (hag c).2.2.1, (hag c).2.2.2.1, (hag c).2.2.2.2]) (same3 m c))),
      (h c).2.2.2.2.1.trans ((Cert.EvenInRefIdeal.Read.val_main_v72_eq _ _ _).trans (Eq.trans (by rw [(hag c).1, (hag c).2.1, (hag c).2.2.1]) (same4 m c))),
      (h c).2.2.2.2.2.1.trans ((Cert.EvenInRefIdeal.Read.val_main_v18_eq _ _ _).trans (Eq.trans (by rw [(hag c).1, (hag c).2.1, (hag c).2.2.1]) (same5 m c))),
      (h c).2.2.2.2.2.2.1.trans ((Cert.EvenInRefIdeal.Read.val_main_v47_eq _ _ _ _).trans (Eq.trans (by rw [(hag c).1, (hag c).2.1, (hag c).2.2.1, (hag c).2.2.2.1]) (same6 m c))),
      (h c).2.2.2.2.2.2.2⟩) (Cert.EvenInRefIdeal.Value.run m' ρ')⟩

end Cert.EvenInClaims
-- ==== Proof.lean ====
module

public import proofs.«01_k».proof.Defs
public import proofs.«01_k».proof.Proof.Gen.MemAttn.Frame
public import proofs.«01_k».proof.Proof.MemAttnClaims
public import proofs.«01_k».proof.Proof.Gen.Ffn.Frame
public import proofs.«01_k».proof.Proof.FfnClaims
public import proofs.«01_k».proof.Proof.Gen.FfnFinal.Frame
public import proofs.«01_k».proof.Proof.FfnFinalClaims
public import proofs.«01_k».proof.Proof.Gen.MemKv.Frame
public import proofs.«01_k».proof.Proof.MemKvClaims
public import proofs.«01_k».proof.Proof.Gen.Odd.Frame
public import proofs.«01_k».proof.Proof.OddClaims
public import proofs.«01_k».proof.Proof.Gen.OddIn.Frame
public import proofs.«01_k».proof.Proof.OddInClaims
public import proofs.«01_k».proof.Proof.Gen.EvenIn.Frame
public import proofs.«01_k».proof.Proof.EvenInClaims

@[expose] public section

noncomputable section

namespace Cert.Proof

open Idealize.ShloMosaic Idealize.SL.Sem

theorem frame_MemAttn : @Cert.quiescent_MemAttn Cert.MemAttn.Gen.facts := fun m ρ _ => Cert.MemAttn.Gen.frame m ρ

theorem frame_MemAttnIdeal : @Cert.quiescent_MemAttnIdeal Cert.MemAttnIdeal.Gen.facts := fun m ρ _ => Cert.MemAttnIdeal.Gen.frame m ρ

theorem frame_MemAttnRefIdeal : @Cert.quiescent_MemAttnRefIdeal Cert.MemAttnRefIdeal.Gen.facts := fun m ρ _ =>
  (θ_run Cert.MemAttnRefIdeal.defs _ _).mono (fun r h => ⟨fun c => (h c).2, Idealize.ShloMosaic.sem_eq_zero_of_no_sems (by decide) r.2⟩)
    (Cert.MemAttnRefIdeal.Value.run m ρ)

theorem frame_Ffn : @Cert.quiescent_Ffn Cert.Ffn.Gen.facts := fun m ρ _ => Cert.Ffn.Gen.frame m ρ

theorem frame_FfnIdeal : @Cert.quiescent_FfnIdeal Cert.FfnIdeal.Gen.facts := fun m ρ _ => Cert.FfnIdeal.Gen.frame m ρ

theorem frame_FfnRefIdeal : @Cert.quiescent_FfnRefIdeal Cert.FfnRefIdeal.Gen.facts := fun m ρ _ =>
  (θ_run Cert.FfnRefIdeal.defs _ _).mono (fun r h => ⟨fun c => (h c).2, Idealize.ShloMosaic.sem_eq_zero_of_no_sems (by decide) r.2⟩)
    (Cert.FfnRefIdeal.Value.run m ρ)

theorem frame_FfnFinal : @Cert.quiescent_FfnFinal Cert.FfnFinal.Gen.facts := fun m ρ _ => Cert.FfnFinal.Gen.frame m ρ

theorem frame_FfnFinalIdeal : @Cert.quiescent_FfnFinalIdeal Cert.FfnFinalIdeal.Gen.facts := fun m ρ _ => Cert.FfnFinalIdeal.Gen.frame m ρ

theorem frame_FfnFinalRefIdeal : @Cert.quiescent_FfnFinalRefIdeal Cert.FfnFinalRefIdeal.Gen.facts := fun m ρ _ =>
  (θ_run Cert.FfnFinalRefIdeal.defs _ _).mono (fun r h => ⟨fun c => (h c).2, Idealize.ShloMosaic.sem_eq_zero_of_no_sems (by decide) r.2⟩)
    (Cert.FfnFinalRefIdeal.Value.run m ρ)

theorem frame_MemKv : @Cert.quiescent_MemKv Cert.MemKv.Gen.facts := fun m ρ _ => Cert.MemKv.Gen.frame m ρ

theorem frame_MemKvIdeal : @Cert.quiescent_MemKvIdeal Cert.MemKvIdeal.Gen.facts := fun m ρ _ => Cert.MemKvIdeal.Gen.frame m ρ

theorem frame_MemKvRefIdeal : @Cert.quiescent_MemKvRefIdeal Cert.MemKvRefIdeal.Gen.facts := fun m ρ _ =>
  (θ_run Cert.MemKvRefIdeal.defs _ _).mono (fun r h => ⟨fun c => (h c).2.2, Idealize.ShloMosaic.sem_eq_zero_of_no_sems (by decide) r.2⟩)
    (Cert.MemKvRefIdeal.Value.run m ρ)

theorem frame_Odd : @Cert.quiescent_Odd Cert.Odd.Gen.facts := fun m ρ _ => Cert.Odd.Gen.frame m ρ

theorem frame_OddIdeal : @Cert.quiescent_OddIdeal Cert.OddIdeal.Gen.facts := fun m ρ _ => Cert.OddIdeal.Gen.frame m ρ

theorem frame_OddRefIdeal : @Cert.quiescent_OddRefIdeal Cert.OddRefIdeal.Gen.facts := fun m ρ _ =>
  (θ_run Cert.OddRefIdeal.defs _ _).mono (fun r h => ⟨fun c => (h c).2.2.2.2, Idealize.ShloMosaic.sem_eq_zero_of_no_sems (by decide) r.2⟩)
    (Cert.OddRefIdeal.Value.run m ρ)

theorem frame_OddIn : @Cert.quiescent_OddIn Cert.OddIn.Gen.facts := fun m ρ _ => Cert.OddIn.Gen.frame m ρ

theorem frame_OddInIdeal : @Cert.quiescent_OddInIdeal Cert.OddInIdeal.Gen.facts := fun m ρ _ => Cert.OddInIdeal.Gen.frame m ρ

theorem frame_OddInRefIdeal : @Cert.quiescent_OddInRefIdeal Cert.OddInRefIdeal.Gen.facts := fun m ρ _ =>
  (θ_run Cert.OddInRefIdeal.defs _ _).mono (fun r h => ⟨fun c => (h c).2.2.2.2.2.2.2.2, Idealize.ShloMosaic.sem_eq_zero_of_no_sems (by decide) r.2⟩)
    (Cert.OddInRefIdeal.Value.run m ρ)

theorem frame_EvenIn : @Cert.quiescent_EvenIn Cert.EvenIn.Gen.facts := fun m ρ _ => Cert.EvenIn.Gen.frame m ρ

theorem frame_EvenInIdeal : @Cert.quiescent_EvenInIdeal Cert.EvenInIdeal.Gen.facts := fun m ρ _ => Cert.EvenInIdeal.Gen.frame m ρ

theorem frame_EvenInRefIdeal : @Cert.quiescent_EvenInRefIdeal Cert.EvenInRefIdeal.Gen.facts := fun m ρ _ =>
  (θ_run Cert.EvenInRefIdeal.defs _ _).mono (fun r h => ⟨fun c => (h c).2.2.2.2.2.2.2, Idealize.ShloMosaic.sem_eq_zero_of_no_sems (by decide) r.2⟩)
    (Cert.EvenInRefIdeal.Value.run m ρ)

theorem claim : Cert.Claim :=
  ⟨Cert.MemAttn.Gen.facts, Cert.MemAttnIdeal.Gen.facts, Cert.MemAttnRefIdeal.Gen.facts, Cert.Ffn.Gen.facts, Cert.FfnIdeal.Gen.facts, Cert.FfnRefIdeal.Gen.facts, Cert.FfnFinal.Gen.facts, Cert.FfnFinalIdeal.Gen.facts, Cert.FfnFinalRefIdeal.Gen.facts, Cert.MemKv.Gen.facts, Cert.MemKvIdeal.Gen.facts, Cert.MemKvRefIdeal.Gen.facts, Cert.Odd.Gen.facts, Cert.OddIdeal.Gen.facts, Cert.OddRefIdeal.Gen.facts, Cert.OddIn.Gen.facts, Cert.OddInIdeal.Gen.facts, Cert.OddInRefIdeal.Gen.facts, Cert.EvenIn.Gen.facts, Cert.EvenInIdeal.Gen.facts, Cert.EvenInRefIdeal.Gen.facts,
    frame_MemAttn, frame_MemAttnIdeal, frame_MemAttnRefIdeal, frame_Ffn, frame_FfnIdeal, frame_FfnRefIdeal, frame_FfnFinal, frame_FfnFinalIdeal, frame_FfnFinalRefIdeal, frame_MemKv, frame_MemKvIdeal, frame_MemKvRefIdeal, frame_Odd, frame_OddIdeal, frame_OddRefIdeal, frame_OddIn, frame_OddInIdeal, frame_OddInRefIdeal, frame_EvenIn, frame_EvenInIdeal, frame_EvenInRefIdeal, trivial, Cert.MemAttnClaims.algebraic, trivial, Cert.FfnClaims.algebraic, trivial, Cert.FfnFinalClaims.algebraic, trivial, Cert.MemKvClaims.algebraic, Cert.OddClaims.preserves, Cert.OddClaims.algebraic, trivial, Cert.OddInClaims.algebraic, trivial, Cert.EvenInClaims.algebraic⟩

end Cert.Proof

end
